-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_proper_points [hPre_proper_points : Cert.Pre_proper_points.Facts] (m : (ℓ : Loc Cert.KernelIdeal.nD Cert.KernelIdeal.τ Cert.KernelIdeal.sig) → Buf (Elt Ideal) ℓ) : Prop :=
  ∀ c : Dev Cert.KernelIdeal.nD,
    (Cert.Pre_proper_points.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_proper_points [hPre_proper_points : Cert.Pre_proper_points.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_proper_points.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_proper_points [hKernelIdeal : Cert.KernelIdeal.Facts] [hPre_proper_points : Cert.Pre_proper_points.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_proper_points m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_proper_points [hReferenceIdeal : Cert.ReferenceIdeal.Facts] [hPre_proper_points : Cert.Pre_proper_points.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_proper_points m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "y00" .f32 0x3E906EBB#32 ((Real.sqrt ((4 * Real.pi)⁻¹) : ℝ) : EReal)
  ∧ IdealRules.named_const.Statement Cert.KernelIdeal.κ "next_0" .f32 0x3FDDB3D7#32 ((Real.sqrt 3 : ℝ) : EReal)
  ∧ IdealRules.named_const.Statement Cert.KernelIdeal.κ "up_2_0" .f32 0x3FF7DEF6#32 ((Real.sqrt (15 / 4) : ℝ) : EReal)
  ∧ IdealRules.named_const.Statement Cert.KernelIdeal.κ "diag_2" .f32 0xBF8F1BBD#32 ((-(Real.sqrt (5 / 4)) : ℝ) : EReal)
  ∧ IdealRules.named_const.Statement Cert.KernelIdeal.κ "up_3_0" .f32 0x3FFC6B5E#32 ((Real.sqrt (35 / 9) : ℝ) : EReal)
  ∧ IdealRules.named_const.Statement Cert.KernelIdeal.κ "back_3_0" .f32 0xBF82594C#32 ((-(Real.sqrt (28 / 27)) : ℝ) : EReal)
  ∧ IdealRules.named_const.Statement Cert.KernelIdeal.κ "up_4_0" .f32 0x3FFDFDFC#32 ((Real.sqrt (63 / 16) : ℝ) : EReal)
  ∧ IdealRules.named_const.Statement Cert.KernelIdeal.κ "back_4_0" .f32 0xBF80CC2A#32 ((-(Real.sqrt (81 / 80)) : ℝ) : EReal)
  ∧ IdealRules.named_const.Statement Cert.KernelIdeal.κ "up_5_0" .f32 0x3FFEB77F#32 ((Real.sqrt (99 / 25) : ℝ) : EReal)
  ∧ IdealRules.named_const.Statement Cert.KernelIdeal.κ "back_5_0" .f32 0xBF005D7D#32 ((-(Real.sqrt (44 / 175)) : ℝ) : EReal)
  ∧ IdealRules.named_const.Statement Cert.KernelIdeal.κ "up_6_0" .f32 0x3F7F1C0C#32 ((Real.sqrt (143 / 144) : ℝ) : EReal)
  ∧ IdealRules.named_const.Statement Cert.KernelIdeal.κ "back_6_0" .f32 0xBE803287#32 ((-(Real.sqrt (325 / 5184)) : ℝ) : EReal)
  ∧ IdealRules.named_const.Statement Cert.KernelIdeal.κ "up_7_0" .f32 0x3EFF589A#32 ((Real.sqrt (195 / 784) : ℝ) : EReal)
  ∧ IdealRules.named_const.Statement Cert.KernelIdeal.κ "back_7_0" .f32 0xBE001E62#32 ((-(Real.sqrt (135 / 8624)) : ℝ) : EReal)
  ∧ IdealRules.named_const.Statement Cert.KernelIdeal.κ "up_8_0" .f32 0x3E7F7FE0#32 ((Real.sqrt (255 / 4096) : ℝ) : EReal)
  ∧ IdealRules.named_const.Statement Cert.KernelIdeal.κ "back_8_0" .f32 0xBD8013B0#32 ((-(Real.sqrt (833 / 212992)) : ℝ) : EReal)
  ∧ IdealRules.named_const.Statement Cert.KernelIdeal.κ "diag_1" .f32 0xBF9CC471#32 ((-(Real.sqrt (3 / 2)) : ℝ) : EReal)
  ∧ IdealRules.named_const.Statement Cert.KernelIdeal.κ "root_two" .f32 0x3FB504F3#32 ((Real.sqrt 2 : ℝ) : EReal)
  ∧ IdealRules.named_const.Statement Cert.KernelIdeal.κ "next_1" .f32 0x400F1BBD#32 ((Real.sqrt 5 : ℝ) : EReal)
  ∧ IdealRules.named_const.Statement Cert.KernelIdeal.κ "up_3_1" .f32 0x4005DD98#32 ((Real.sqrt (35 / 8) : ℝ) : EReal)
  ∧ IdealRules.named_const.Statement Cert.KernelIdeal.κ "back_3_1" .f32 0xBF6F7751#32 ((-(Real.sqrt (7 / 8)) : ℝ) : EReal)
  ∧ IdealRules.named_const.Statement Cert.KernelIdeal.κ "up_4_1" .f32 0x40032935#32 ((Real.sqrt (21 / 5) : ℝ) : EReal)
  ∧ IdealRules.named_const.Statement Cert.KernelIdeal.κ "back_4_1" .f32 0xBF7AD3E7#32 ((-(Real.sqrt (24 / 25)) : ℝ) : EReal)
  ∧ IdealRules.named_const.Statement Cert.KernelIdeal.κ "up_5_1" .f32 0x4001FC10#32 ((Real.sqrt (33 / 8) : ℝ) : EReal)
  ∧ IdealRules.named_const.Statement Cert.KernelIdeal.κ "back_5_1" .f32 0xBF7DB439#32 ((-(Real.sqrt (55 / 56)) : ℝ) : EReal)
  ∧ IdealRules.named_const.Statement Cert.KernelIdeal.κ "up_6_1" .f32 0x40015D3A#32 ((Real.sqrt (143 / 35) : ℝ) : EReal)
  ∧ IdealRules.named_const.Statement Cert.KernelIdeal.κ "back_6_1" .f32 0xBF7EC72D#32 ((-(Real.sqrt (104 / 105)) : ℝ) : EReal)
  ∧ IdealRules.named_const.Statement Cert.KernelIdeal.κ "up_7_1" .f32 0x3F80FF02#32 ((Real.sqrt (65 / 64) : ℝ) : EReal)
  ∧ IdealRules.named_const.Statement Cert.KernelIdeal.κ "back_7_1" .f32 0xBEFF458E#32 ((-(Real.sqrt (175 / 704)) : ℝ) : EReal)
  ∧ IdealRules.named_const.Statement Cert.KernelIdeal.κ "up_8_1" .f32 0x3F00C278#32 ((Real.sqrt (85 / 336) : ℝ) : EReal)
  ∧ IdealRules.named_const.Statement Cert.KernelIdeal.κ "back_8_1" .f32 0xBCFF87DC#32 ((-(Real.sqrt (17 / 17472)) : ℝ) : EReal)
  ∧ IdealRules.named_const.Statement Cert.KernelIdeal.κ "next_2" .f32 0x402953FD#32 ((Real.sqrt 7 : ℝ) : EReal)
  ∧ IdealRules.named_const.Statement Cert.KernelIdeal.κ "up_4_2" .f32 0x4012A476#32 ((Real.sqrt (21 / 4) : ℝ) : EReal)
  ∧ IdealRules.named_const.Statement Cert.KernelIdeal.κ "back_4_2" .f32 0xBF5DB3D7#32 ((-(Real.sqrt (3 / 4)) : ℝ) : EReal)
  ∧ IdealRules.named_const.Statement Cert.KernelIdeal.κ "up_5_2" .f32 0x400AF59B#32 ((Real.sqrt (33 / 7) : ℝ) : EReal)
  ∧ IdealRules.named_const.Statement Cert.KernelIdeal.κ "back_5_2" .f32 0xBF729661#32 ((-(Real.sqrt (44 / 49)) : ℝ) : EReal)
  ∧ IdealRules.named_const.Statement Cert.KernelIdeal.κ "up_6_2" .f32 0x40074AD3#32 ((Real.sqrt (143 / 32) : ℝ) : EReal)
  ∧ IdealRules.named_const.Statement Cert.KernelIdeal.κ "back_6_2" .f32 0xBF793E83#32 ((-(Real.sqrt (91 / 96)) : ℝ) : EReal)
  ∧ IdealRules.named_const.Statement Cert.KernelIdeal.κ "up_7_2" .f32 0x40053A04#32 ((Real.sqrt (13 / 3) : ℝ) : EReal)
  ∧ IdealRules.named_const.Statement Cert.KernelIdeal.κ "back_7_2" .f32 0xBF7C1764#32 ((-(Real.sqrt (32 / 33)) : ℝ) : EReal)
  ∧ IdealRules.named_const.Statement Cert.KernelIdeal.κ "up_8_2" .f32 0x4003F07B#32 ((Real.sqrt (17 / 4) : ℝ) : EReal)
  ∧ IdealRules.named_const.Statement Cert.KernelIdeal.κ "back_8_2" .f32 0xBEFD86C9#32 ((-(Real.sqrt (51 / 208)) : ℝ) : EReal)
  ∧ IdealRules.named_const.Statement Cert.KernelIdeal.κ "diag_3" .f32 0xBF8A417C#32 ((-(Real.sqrt (7 / 6)) : ℝ) : EReal)
  ∧ IdealRules.named_const.Statement Cert.KernelIdeal.κ "up_5_3" .f32 0x401F32AF#32 ((Real.sqrt (99 / 16) : ℝ) : EReal)
  ∧ IdealRules.named_const.Statement Cert.KernelIdeal.κ "back_5_3" .f32 0xBF544395#32 ((-(Real.sqrt (11 / 16)) : ℝ) : EReal)
  ∧ IdealRules.named_const.Statement Cert.KernelIdeal.κ "up_6_3" .f32 0x3F93499E#32 ((Real.sqrt (143 / 108) : ℝ) : EReal)
  ∧ IdealRules.named_const.Statement Cert.KernelIdeal.κ "back_6_3" .f32 0xBF6CD8EB#32 ((-(Real.sqrt (208 / 243)) : ℝ) : EReal)
  ∧ IdealRules.named_const.Statement Cert.KernelIdeal.κ "up_7_3" .f32 0x400D4EE4#32 ((Real.sqrt (39 / 8) : ℝ) : EReal)
  ∧ IdealRules.named_const.Statement Cert.KernelIdeal.κ "back_7_3" .f32 0xBF759B73#32 ((-(Real.sqrt (81 / 88)) : ℝ) : EReal)
  ∧ IdealRules.named_const.Statement Cert.KernelIdeal.κ "up_8_3" .f32 0x4009CE62#32 ((Real.sqrt (51 / 11) : ℝ) : EReal)
  ∧ IdealRules.named_const.Statement Cert.KernelIdeal.κ "back_8_3" .f32 0xBF79A7D9#32 ((-(Real.sqrt (136 / 143)) : ℝ) : EReal)
  ∧ IdealRules.named_const.Statement Cert.KernelIdeal.κ "diag_4" .f32 0xBF87C3B6#32 ((-(Real.sqrt (9 / 8)) : ℝ) : EReal)
  ∧ IdealRules.named_const.Statement Cert.KernelIdeal.κ "next_4" .f32 0x40544395#32 ((Real.sqrt 11 : ℝ) : EReal)
  ∧ IdealRules.named_const.Statement Cert.KernelIdeal.κ "up_6_4" .f32 0x402B21F8#32 ((Real.sqrt (143 / 20) : ℝ) : EReal)
  ∧ IdealRules.named_const.Statement Cert.KernelIdeal.κ "back_6_4" .f32 0xBF4E64D0#32 ((-(Real.sqrt (13 / 20)) : ℝ) : EReal)
  ∧ IdealRules.named_const.Statement Cert.KernelIdeal.κ "up_7_4" .f32 0x401B933F#32 ((Real.sqrt (65 / 11) : ℝ) : EReal)
  ∧ IdealRules.named_const.Statement Cert.KernelIdeal.κ "back_7_4" .f32 0xBF68BA2F#32 ((-(Real.sqrt (100 / 121)) : ℝ) : EReal)
  ∧ IdealRules.named_const.Statement Cert.KernelIdeal.κ "up_8_4" .f32 0x40138341#32 ((Real.sqrt (85 / 16) : ℝ) : EReal)
  ∧ IdealRules.named_const.Statement Cert.KernelIdeal.κ "back_8_4" .f32 0xBEF2BBB0#32 ((-(Real.sqrt (187 / 832)) : ℝ) : EReal)
  ∧ IdealRules.named_const.Statement Cert.KernelIdeal.κ "diag_5" .f32 0xBF863F5E#32 ((-(Real.sqrt (11 / 10)) : ℝ) : EReal)
  ∧ IdealRules.named_const.Statement Cert.KernelIdeal.κ "next_5" .f32 0x4066C15A#32 ((Real.sqrt 13 : ℝ) : EReal)
  ∧ IdealRules.named_const.Statement Cert.KernelIdeal.κ "up_7_5" .f32 0x40366D96#32 ((Real.sqrt (65 / 8) : ℝ) : EReal)
  ∧ IdealRules.named_const.Statement Cert.KernelIdeal.κ "back_7_5" .f32 0xBF4A62C2#32 ((-(Real.sqrt (5 / 8)) : ℝ) : EReal)
  ∧ IdealRules.named_const.Statement Cert.KernelIdeal.κ "up_8_5" .f32 0x4023A692#32 ((Real.sqrt (85 / 13) : ℝ) : EReal)
  ∧ IdealRules.named_const.Statement Cert.KernelIdeal.κ "back_8_5" .f32 0xBF65A659#32 ((-(Real.sqrt (136 / 169)) : ℝ) : EReal)
  ∧ IdealRules.named_const.Statement Cert.KernelIdeal.κ "diag_6" .f32 0xBF853A04#32 ((-(Real.sqrt (13 / 12)) : ℝ) : EReal)
  ∧ IdealRules.named_const.Statement Cert.KernelIdeal.κ "next_6" .f32 0x4077DEF6#32 ((Real.sqrt 15 : ℝ) : EReal)
  ∧ IdealRules.named_const.Statement Cert.KernelIdeal.κ "up_8_6" .f32 0x404123B5#32 ((Real.sqrt (255 / 28) : ℝ) : EReal)
  ∧ IdealRules.named_const.Statement Cert.KernelIdeal.κ "back_8_6" .f32 0xBF47793D#32 ((-(Real.sqrt (17 / 28)) : ℝ) : EReal)
  ∧ IdealRules.named_const.Statement Cert.KernelIdeal.κ "diag_7" .f32 0xBF847E1A#32 ((-(Real.sqrt (15 / 14)) : ℝ) : EReal)
  ∧ IdealRules.named_const.Statement Cert.KernelIdeal.κ "next_7" .f32 0x4083F07B#32 ((Real.sqrt 17 : ℝ) : EReal)
  ∧ IdealRules.named_const.Statement Cert.KernelIdeal.κ "diag_8" .f32 0xBF03F07B#32 ((-(Real.sqrt (17 / 64)) : ℝ) : EReal)

def algebraic_KernelIdeal_ReferenceIdeal_pre_proper_points [hKernelIdeal : Cert.KernelIdeal.Facts] [hReferenceIdeal : Cert.ReferenceIdeal.Facts] [hPre_proper_points : Cert.Pre_proper_points.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_proper_points m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v344) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_proper_points : Cert.Pre_proper_points.Facts),
    quiescent_Kernel (hKernel := hKernel)
    ∧ quiescent_KernelIdeal (hKernelIdeal := hKernelIdeal)
    ∧ quiescent_KernelIdeal_pre_proper_points (hKernelIdeal := hKernelIdeal) (hPre_proper_points := hPre_proper_points)
    ∧ quiescent_ReferenceIdeal (hReferenceIdeal := hReferenceIdeal)
    ∧ quiescent_ReferenceIdeal_pre_proper_points (hReferenceIdeal := hReferenceIdeal) (hPre_proper_points := hPre_proper_points)
    ∧ preserves_Kernel_KernelIdeal
    ∧ algebraic_KernelIdeal_ReferenceIdeal_pre_proper_points (hKernelIdeal := hKernelIdeal) (hReferenceIdeal := hReferenceIdeal) (hPre_proper_points := hPre_proper_points)
-- ==== Pre_proper_points.lean ====
abbrev S32768x6 : Shape := ⟨2, ![32768, 6]⟩
abbrev S_ : Shape := ⟨0, ![]⟩
abbrev S32768x1 : Shape := ⟨2, ![32768, 1]⟩
abbrev S32768 : Shape := ⟨1, ![32768]⟩

class Facts : Prop where
  bcast_S_S32768x6 : S_.BroadcastsInDim S32768x6 (![] : Fin 0 → Fin S32768x6.rank)
  slices_S32768x6_S32768x1_0_0 : S32768x6.Slices ![0, 0] S32768x1
  shapeCasts_S32768x1_S32768 : S32768x1.ShapeCasts S32768
  slices_S32768x6_S32768x1_0_1 : S32768x6.Slices ![0, 1] S32768x1
  slices_S32768x6_S32768x1_0_2 : S32768x6.Slices ![0, 2] S32768x1
  slices_S32768x6_S32768x1_0_3 : S32768x6.Slices ![0, 3] S32768x1
  slices_S32768x6_S32768x1_0_4 : S32768x6.Slices ![0, 4] S32768x1
  slices_S32768x6_S32768x1_0_5 : S32768x6.Slices ![0, 5] S32768x1

variable [Facts]

def fn_part1 {F : FTy → Type} [FloatOps F] (main_v2 : IVec S32768x6 1) (main_v4 : IVec S32768x6 1) (main_v21 : IVec S32768 1) : IVec S32768 1 :=
  let main_v22 : IVec S32768x1 1 := (extractStridedSlice S32768x1 ![0, 3] · slices_S32768x6_S32768x1_0_3) main_v4
  let main_v23 : IVec S32768 1 := shapeCast S32768 main_v22 shapeCasts_S32768x1_S32768
  let main_v24 : IVec S32768x1 1 := (extractStridedSlice S32768x1 ![0, 4] · slices_S32768x6_S32768x1_0_4) main_v4
  let main_v25 : IVec S32768 1 := shapeCast S32768 main_v24 shapeCasts_S32768x1_S32768
  let main_v26 : IVec S32768 1 := ori main_v23 main_v25
  let main_v27 : IVec S32768x1 1 := (extractStridedSlice S32768x1 ![0, 5] · slices_S32768x6_S32768x1_0_5) main_v4
  let main_v28 : IVec S32768 1 := shapeCast S32768 main_v27 shapeCasts_S32768x1_S32768
  let main_v29 : IVec S32768 1 := ori main_v26 main_v28
  let main_v30 : IVec S32768x1 1 := (extractStridedSlice S32768x1 ![0, 3] · slices_S32768x6_S32768x1_0_3) main_v2
  let main_v31 : IVec S32768 1 := shapeCast S32768 main_v30 shapeCasts_S32768x1_S32768
  let main_v32 : IVec S32768x1 1 := (extractStridedSlice S32768x1 ![0, 4] · slices_S32768x6_S32768x1_0_4) main_v2
  let main_v33 : IVec S32768 1 := shapeCast S32768 main_v32 shapeCasts_S32768x1_S32768
  let main_v34 : IVec S32768 1 := andi main_v31 main_v33
  let main_v35 : IVec S32768x1 1 := (extractStridedSlice S32768x1 ![0, 5] · slices_S32768x6_S32768x1_0_5) main_v2
  let main_v36 : IVec S32768 1 := shapeCast S32768 main_v35 shapeCasts_S32768x1_S32768
  let main_v37 : IVec S32768 1 := andi main_v34 main_v36
  let main_v38 : IVec S32768 1 := andi main_v29 main_v37
  let main_v39 : IVec S32768 1 := andi main_v21 main_v38
  main_v39

def fn {F : FTy → Type} [FloatOps F] (main_arg0 : FVec F S32768x6 .f32) : IVec S32768 1 :=
  let main_v0 : FVec F S32768x6 .f32 := Host.absf main_arg0
  let main_cst : FVec F S_ .f32 := constant S_ .f32 0x7F800000#32
  let main_v1 : FVec F S32768x6 .f32 := broadcastInDim S32768x6 ![] bcast_S_S32768x6 main_cst
  let main_v2 : IVec S32768x6 1 := cmpf .olt main_v0 main_v1
  let main_cst_0 : FVec F S_ .f32 := constant S_ .f32 0x00000000#32
  let main_v3 : FVec F S32768x6 .f32 := broadcastInDim S32768x6 ![] bcast_S_S32768x6 main_cst_0
  let main_v4 : IVec S32768x6 1 := cmpf .une main_arg0 main_v3
  let main_v5 : IVec S32768x1 1 := (extractStridedSlice S32768x1 ![0, 0] · slices_S32768x6_S32768x1_0_0) main_v4
  let main_v6 : IVec S32768 1 := shapeCast S32768 main_v5 shapeCasts_S32768x1_S32768
  let main_v7 : IVec S32768x1 1 := (extractStridedSlice S32768x1 ![0, 1] · slices_S32768x6_S32768x1_0_1) main_v4
  let main_v8 : IVec S32768 1 := shapeCast S32768 main_v7 shapeCasts_S32768x1_S32768
  let main_v9 : IVec S32768 1 := ori main_v6 main_v8
  let main_v10 : IVec S32768x1 1 := (extractStridedSlice S32768x1 ![0, 2] · slices_S32768x6_S32768x1_0_2) main_v4
  let main_v11 : IVec S32768 1 := shapeCast S32768 main_v10 shapeCasts_S32768x1_S32768
  let main_v12 : IVec S32768 1 := ori main_v9 main_v11
  let main_v13 : IVec S32768x1 1 := (extractStridedSlice S32768x1 ![0, 0] · slices_S32768x6_S32768x1_0_0) main_v2
  let main_v14 : IVec S32768 1 := shapeCast S32768 main_v13 shapeCasts_S32768x1_S32768
  let main_v15 : IVec S32768x1 1 := (extractStridedSlice S32768x1 ![0, 1] · slices_S32768x6_S32768x1_0_1) main_v2
  let main_v16 : IVec S32768 1 := shapeCast S32768 main_v15 shapeCasts_S32768x1_S32768
  let main_v17 : IVec S32768 1 := andi main_v14 main_v16
  let main_v18 : IVec S32768x1 1 := (extractStridedSlice S32768x1 ![0, 2] · slices_S32768x6_S32768x1_0_2) main_v2
  let main_v19 : IVec S32768 1 := shapeCast S32768 main_v18 shapeCasts_S32768x1_S32768
  let main_v20 : IVec S32768 1 := andi main_v17 main_v19
  let main_v21 : IVec S32768 1 := andi main_v12 main_v20
  fn_part1 (F := F) main_v2 main_v4 main_v21
-- ==== Kernel.lean ====
abbrev S32768x6 : Shape := ⟨2, ![32768, 6]⟩
abbrev S1x128 : Shape := ⟨2, ![1, 128]⟩
abbrev S9x128 : Shape := ⟨2, ![9, 128]⟩
abbrev S8x128 : Shape := ⟨2, ![8, 128]⟩
abbrev S_ : Shape := ⟨0, ![]⟩
abbrev S4x128 : Shape := ⟨2, ![4, 128]⟩
abbrev S7x128 : Shape := ⟨2, ![7, 128]⟩
abbrev S40x128 : Shape := ⟨2, ![40, 128]⟩
abbrev S32768x6561 : Shape := ⟨2, ![32768, 6561]⟩
abbrev S16384x6 : Shape := ⟨2, ![16384, 6]⟩
abbrev S2x256x6561 : Shape := ⟨3, ![2, 256, 6561]⟩
abbrev S2 : Shape := ⟨1, ![2]⟩
abbrev S1 : Shape := ⟨1, ![1]⟩
abbrev S256x6561 : Shape := ⟨2, ![256, 6561]⟩
abbrev S1x256x6561 : Shape := ⟨3, ![1, 256, 6561]⟩
abbrev S256x6 : Shape := ⟨2, ![256, 6]⟩
abbrev S256x1 : Shape := ⟨2, ![256, 1]⟩
abbrev S256x128 : Shape := ⟨2, ![256, 128]⟩
abbrev S256x81 : Shape := ⟨2, ![256, 81]⟩

abbrev nBuf : Space → Nat
  | .hbm => 119
  | .vmem => 4
  | .smem => 0
  | _ => 0

abbrev bufTy : (tb : Table) → Fin (tcTables nBuf tb) → BufTy
  | .hbm, ⟨0, _⟩ => ⟨S32768x6, .f32⟩
  | .hbm, ⟨1, _⟩ => ⟨S1x128, .i32⟩
  | .hbm, ⟨2, _⟩ => ⟨S1x128, .i32⟩
  | .hbm, ⟨3, _⟩ => ⟨S1x128, .i32⟩
  | .hbm, ⟨4, _⟩ => ⟨S1x128, .f32⟩
  | .hbm, ⟨5, _⟩ => ⟨S1x128, .f32⟩
  | .hbm, ⟨6, _⟩ => ⟨S9x128, .i32⟩
  | .hbm, ⟨7, _⟩ => ⟨S8x128, .i32⟩
  | .hbm, ⟨8, _⟩ => ⟨S_, .i32⟩
  | .hbm, ⟨9, _⟩ => ⟨S8x128, .i32⟩
  | .hbm, ⟨10, _⟩ => ⟨S8x128, .i32⟩
  | .hbm, ⟨11, _⟩ => ⟨S4x128, .i32⟩
  | .hbm, ⟨12, _⟩ => ⟨S1x128, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S1x128, .f32⟩
  | .hbm, ⟨18, _⟩ => ⟨S1x128, .f32⟩
  | .hbm, ⟨19, _⟩ => ⟨S1x128, .f32⟩
  | .hbm, ⟨20, _⟩ => ⟨S_, .i32⟩
  | .hbm, ⟨21, _⟩ => ⟨S1x128, .i32⟩
  | .hbm, ⟨22, _⟩ => ⟨S1x128, .i32⟩
  | .hbm, ⟨23, _⟩ => ⟨S_, .i32⟩
  | .hbm, ⟨24, _⟩ => ⟨S1x128, .i32⟩
  | .hbm, ⟨25, _⟩ => ⟨S1x128, .i1⟩
  | .hbm, ⟨26, _⟩ => ⟨S1x128, .f32⟩
  | .hbm, ⟨27, _⟩ => ⟨S1x128, .f32⟩
  | .hbm, ⟨28, _⟩ => ⟨S_, .i32⟩
  | .hbm, ⟨29, _⟩ => ⟨S1x128, .i32⟩
  | .hbm, ⟨30, _⟩ => ⟨S1x128, .i1⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S1x128, .f32⟩
  | .hbm, ⟨36, _⟩ => ⟨S1x128, .f32⟩
  | .hbm, ⟨37, _⟩ => ⟨S1x128, .f32⟩
  | .hbm, ⟨38, _⟩ => ⟨S8x128, .i32⟩
  | .hbm, ⟨39, _⟩ => ⟨S8x128, .i1⟩
  | .hbm, ⟨40, _⟩ => ⟨S8x128, .i32⟩
  | .hbm, ⟨41, _⟩ => ⟨S1x128, .i32⟩
  | .hbm, ⟨42, _⟩ => ⟨S8x128, .i32⟩
  | .hbm, ⟨43, _⟩ => ⟨S8x128, .i32⟩
  | .hbm, ⟨44, _⟩ => ⟨S_, .i32⟩
  | .hbm, ⟨45, _⟩ => ⟨S_, .i32⟩
  | .hbm, ⟨46, _⟩ => ⟨S8x128, .i32⟩
  | .hbm, ⟨47, _⟩ => ⟨S8x128, .i32⟩
  | .hbm, ⟨48, _⟩ => ⟨S8x128, .f32⟩
  | .hbm, ⟨49, _⟩ => ⟨S_, .i32⟩
  | .hbm, ⟨50, _⟩ => ⟨S8x128, .i32⟩
  | .hbm, ⟨51, _⟩ => ⟨S8x128, .i32⟩
  | .hbm, ⟨52, _⟩ => ⟨S_, .i32⟩
  | .hbm, ⟨53, _⟩ => ⟨S8x128, .i32⟩
  | .hbm, ⟨54, _⟩ => ⟨S8x128, .i32⟩
  | .hbm, ⟨55, _⟩ => ⟨S8x128, .i32⟩
  | .hbm, ⟨56, _⟩ => ⟨S1x128, .i32⟩
  | .hbm, ⟨57, _⟩ => ⟨S8x128, .i32⟩
  | .hbm, ⟨58, _⟩ => ⟨S8x128, .i32⟩
  | .hbm, ⟨59, _⟩ => ⟨S_, .i32⟩
  | .hbm, ⟨60, _⟩ => ⟨S_, .i32⟩
  | .hbm, ⟨61, _⟩ => ⟨S8x128, .i32⟩
  | .hbm, ⟨62, _⟩ => ⟨S8x128, .i32⟩
  | .hbm, ⟨63, _⟩ => ⟨S8x128, .f32⟩
  | .hbm, ⟨64, _⟩ => ⟨S_, .i32⟩
  | .hbm, ⟨65, _⟩ => ⟨S8x128, .i32⟩
  | .hbm, ⟨66, _⟩ => ⟨S8x128, .i32⟩
  | .hbm, ⟨67, _⟩ => ⟨S_, .i32⟩
  | .hbm, ⟨68, _⟩ => ⟨S8x128, .i32⟩
  | .hbm, ⟨69, _⟩ => ⟨S8x128, .i32⟩
  | .hbm, ⟨70, _⟩ => ⟨S8x128, .f32⟩
  | .hbm, ⟨71, _⟩ => ⟨S8x128, .f32⟩
  | .hbm, ⟨72, _⟩ => ⟨S8x128, .f32⟩
  | .hbm, ⟨73, _⟩ => ⟨S_, .f32⟩
  | .hbm, ⟨74, _⟩ => ⟨S_, .f32⟩
  | .hbm, ⟨75, _⟩ => ⟨S8x128, .f32⟩
  | .hbm, ⟨76, _⟩ => ⟨S8x128, .f32⟩
  | .hbm, ⟨77, _⟩ => ⟨S_, .i32⟩
  | .hbm, ⟨78, _⟩ => ⟨S8x128, .i32⟩
  | .hbm, ⟨79, _⟩ => ⟨S8x128, .i32⟩
  | .hbm, ⟨80, _⟩ => ⟨S_, .i32⟩
  | .hbm, ⟨81, _⟩ => ⟨S8x128, .i32⟩
  | .hbm, ⟨82, _⟩ => ⟨S8x128, .i32⟩
  | .hbm, ⟨83, _⟩ => ⟨S8x128, .f32⟩
  | .hbm, ⟨84, _⟩ => ⟨S8x128, .f32⟩
  | .hbm, ⟨85, _⟩ => ⟨S_, .i32⟩
  | .hbm, ⟨86, _⟩ => ⟨S8x128, .i32⟩
  | .hbm, ⟨87, _⟩ => ⟨S8x128, .i32⟩
  | .hbm, ⟨88, _⟩ => ⟨S_, .i32⟩
  | .hbm, ⟨89, _⟩ => ⟨S8x128, .i32⟩
  | .hbm, ⟨90, _⟩ => ⟨S8x128, .i32⟩
  | .hbm, ⟨91, _⟩ => ⟨S8x128, .f32⟩
  | .hbm, ⟨92, _⟩ => ⟨S8x128, .f32⟩
  | .hbm, ⟨93, _⟩ => ⟨S8x128, .f32⟩
  | .hbm, ⟨94, _⟩ => ⟨S8x128, .f32⟩
  | .hbm, ⟨95, _⟩ => ⟨S8x128, .f32⟩
  | .hbm, ⟨96, _⟩ => ⟨S_, .i32⟩
  | .hbm, ⟨97, _⟩ => ⟨S1x128, .i32⟩
  | .hbm, ⟨98, _⟩ => ⟨S1x128, .i1⟩
  | .hbm, ⟨99, _⟩ => ⟨S1x128, .f32⟩
  | .hbm, ⟨100, _⟩ => ⟨S_, .i32⟩
  | .hbm, ⟨101, _⟩ => ⟨S1x128, .i32⟩
  | .hbm, ⟨102, _⟩ => ⟨S1x128, .i1⟩
  | .hbm, ⟨103, _⟩ => ⟨S1x128, .f32⟩
  | .hbm, ⟨104, _⟩ => ⟨S4x128, .i32⟩
  | .hbm, ⟨105, _⟩ => ⟨S4x128, .i32⟩
  | .hbm, ⟨106, _⟩ => ⟨S_, .i32⟩
  | .hbm, ⟨107, _⟩ => ⟨S4x128, .i32⟩
  | .hbm, ⟨108, _⟩ => ⟨S4x128, .i32⟩
  | .hbm, ⟨109, _⟩ => ⟨S4x128, .f32⟩
  | .hbm, ⟨110, _⟩ => ⟨S9x128, .i32⟩
  | .hbm, ⟨111, _⟩ => ⟨S9x128, .i1⟩
  | .hbm, ⟨112, _⟩ => ⟨S9x128, .f32⟩
  | .hbm, ⟨113, _⟩ => ⟨S8x128, .i32⟩
  | .hbm, ⟨114, _⟩ => ⟨S8x128, .i1⟩
  | .hbm, ⟨115, _⟩ => ⟨S8x128, .f32⟩
  | .hbm, ⟨116, _⟩ => ⟨S7x128, .f32⟩
  | .hbm, ⟨117, _⟩ => ⟨S40x128, .f32⟩
  | .hbm, ⟨118, _⟩ => ⟨S32768x6561, .f32⟩
  | .local _ .vmem, ⟨0, _⟩ => ⟨S16384x6, .f32⟩
  | .local _ .vmem, ⟨1, _⟩ => ⟨S16384x6, .f32⟩
  | .local _ .vmem, ⟨2, _⟩ => ⟨S40x128, .f32⟩
  | .local _ .vmem, ⟨3, _⟩ => ⟨S2x256x6561, .f32⟩
  | _, _ => ⟨S32768x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_call0_c : Ref sig .tc := ⟨.hbm, 1, rfl⟩
abbrev main_call0_c_0 : Ref sig .tc := ⟨.hbm, 2, rfl⟩
abbrev main_call0_c_1 : Ref sig .tc := ⟨.hbm, 3, rfl⟩
abbrev main_call0_cst : Ref sig .tc := ⟨.hbm, 4, rfl⟩
abbrev main_call0_cst_2 : Ref sig .tc := ⟨.hbm, 5, rfl⟩
abbrev main_call0_v0 : Ref sig .tc := ⟨.hbm, 6, rfl⟩
abbrev main_call0_v1 : Ref sig .tc := ⟨.hbm, 7, rfl⟩
abbrev main_call0_c_3 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_cst_4 : Ref sig .tc := ⟨.hbm, 13, rfl⟩
abbrev main_call0_v6 : Ref sig .tc := ⟨.hbm, 14, rfl⟩
abbrev main_call0_cst_5 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_c_6 : Ref sig .tc := ⟨.hbm, 20, rfl⟩
abbrev main_call0_v11 : Ref sig .tc := ⟨.hbm, 21, rfl⟩
abbrev main_call0_v12 : Ref sig .tc := ⟨.hbm, 22, rfl⟩
abbrev main_call0_c_7 : Ref sig .tc := ⟨.hbm, 23, rfl⟩
abbrev main_call0_v13 : Ref sig .tc := ⟨.hbm, 24, rfl⟩
abbrev main_call0_v14 : Ref sig .tc := ⟨.hbm, 25, rfl⟩
abbrev main_call0_v15 : Ref sig .tc := ⟨.hbm, 26, rfl⟩
abbrev main_call0_v16 : Ref sig .tc := ⟨.hbm, 27, rfl⟩
abbrev main_call0_c_8 : Ref sig .tc := ⟨.hbm, 28, rfl⟩
abbrev main_call0_v17 : Ref sig .tc := ⟨.hbm, 29, rfl⟩
abbrev main_call0_v18 : Ref sig .tc := ⟨.hbm, 30, rfl⟩
abbrev main_call0_cst_9 : Ref sig .tc := ⟨.hbm, 31, rfl⟩
abbrev main_call0_v19 : Ref sig .tc := ⟨.hbm, 32, rfl⟩
abbrev main_call0_cst_10 : Ref sig .tc := ⟨.hbm, 33, rfl⟩
abbrev main_call0_call1_v0 : Ref sig .tc := ⟨.hbm, 34, rfl⟩
abbrev main_call0_call1_v1 : Ref sig .tc := ⟨.hbm, 35, rfl⟩
abbrev main_call0_call1_v2 : Ref sig .tc := ⟨.hbm, 36, rfl⟩
abbrev main_call0_v20 : Ref sig .tc := ⟨.hbm, 37, rfl⟩
abbrev main_call0_v21 : Ref sig .tc := ⟨.hbm, 38, rfl⟩
abbrev main_call0_v22 : Ref sig .tc := ⟨.hbm, 39, rfl⟩
abbrev main_call0_v23 : Ref sig .tc := ⟨.hbm, 40, rfl⟩
abbrev main_call0_v24 : Ref sig .tc := ⟨.hbm, 41, rfl⟩
abbrev main_call0_v25 : Ref sig .tc := ⟨.hbm, 42, rfl⟩
abbrev main_call0_v26 : Ref sig .tc := ⟨.hbm, 43, rfl⟩
abbrev main_call0_c_11 : Ref sig .tc := ⟨.hbm, 44, rfl⟩
abbrev main_call0_call2_v0 : Ref sig .tc := ⟨.hbm, 45, rfl⟩
abbrev main_call0_call2_v1 : Ref sig .tc := ⟨.hbm, 46, rfl⟩
abbrev main_call0_v27 : Ref sig .tc := ⟨.hbm, 47, rfl⟩
abbrev main_call0_v28 : Ref sig .tc := ⟨.hbm, 48, rfl⟩
abbrev main_call0_c_12 : Ref sig .tc := ⟨.hbm, 49, rfl⟩
abbrev main_call0_v29 : Ref sig .tc := ⟨.hbm, 50, rfl⟩
abbrev main_call0_v30 : Ref sig .tc := ⟨.hbm, 51, rfl⟩
abbrev main_call0_c_13 : Ref sig .tc := ⟨.hbm, 52, rfl⟩
abbrev main_call0_v31 : Ref sig .tc := ⟨.hbm, 53, rfl⟩
abbrev main_call0_v32 : Ref sig .tc := ⟨.hbm, 54, rfl⟩
abbrev main_call0_v33 : Ref sig .tc := ⟨.hbm, 55, rfl⟩
abbrev main_call0_v34 : Ref sig .tc := ⟨.hbm, 56, rfl⟩
abbrev main_call0_v35 : Ref sig .tc := ⟨.hbm, 57, rfl⟩
abbrev main_call0_v36 : Ref sig .tc := ⟨.hbm, 58, rfl⟩
abbrev main_call0_c_14 : Ref sig .tc := ⟨.hbm, 59, rfl⟩
abbrev main_call0_call3_v0 : Ref sig .tc := ⟨.hbm, 60, rfl⟩
abbrev main_call0_call3_v1 : Ref sig .tc := ⟨.hbm, 61, rfl⟩
abbrev main_call0_v37 : Ref sig .tc := ⟨.hbm, 62, rfl⟩
abbrev main_call0_v38 : Ref sig .tc := ⟨.hbm, 63, rfl⟩
abbrev main_call0_c_15 : Ref sig .tc := ⟨.hbm, 64, rfl⟩
abbrev main_call0_v39 : Ref sig .tc := ⟨.hbm, 65, rfl⟩
abbrev main_call0_v40 : Ref sig .tc := ⟨.hbm, 66, rfl⟩
abbrev main_call0_c_16 : Ref sig .tc := ⟨.hbm, 67, rfl⟩
abbrev main_call0_v41 : Ref sig .tc := ⟨.hbm, 68, rfl⟩
abbrev main_call0_v42 : Ref sig .tc := ⟨.hbm, 69, rfl⟩
abbrev main_call0_v43 : Ref sig .tc := ⟨.hbm, 70, rfl⟩
abbrev main_call0_v44 : Ref sig .tc := ⟨.hbm, 71, rfl⟩
abbrev main_call0_v45 : Ref sig .tc := ⟨.hbm, 72, rfl⟩
abbrev main_call0_cst_17 : Ref sig .tc := ⟨.hbm, 73, rfl⟩
abbrev main_call0_call4_v0 : Ref sig .tc := ⟨.hbm, 74, rfl⟩
abbrev main_call0_call4_v1 : Ref sig .tc := ⟨.hbm, 75, rfl⟩
abbrev main_call0_v46 : Ref sig .tc := ⟨.hbm, 76, rfl⟩
abbrev main_call0_c_18 : Ref sig .tc := ⟨.hbm, 77, rfl⟩
abbrev main_call0_v47 : Ref sig .tc := ⟨.hbm, 78, rfl⟩
abbrev main_call0_v48 : Ref sig .tc := ⟨.hbm, 79, rfl⟩
abbrev main_call0_c_19 : Ref sig .tc := ⟨.hbm, 80, rfl⟩
abbrev main_call0_v49 : Ref sig .tc := ⟨.hbm, 81, rfl⟩
abbrev main_call0_v50 : Ref sig .tc := ⟨.hbm, 82, rfl⟩
abbrev main_call0_v51 : Ref sig .tc := ⟨.hbm, 83, rfl⟩
abbrev main_call0_v52 : Ref sig .tc := ⟨.hbm, 84, rfl⟩
abbrev main_call0_c_20 : Ref sig .tc := ⟨.hbm, 85, rfl⟩
abbrev main_call0_v53 : Ref sig .tc := ⟨.hbm, 86, rfl⟩
abbrev main_call0_v54 : Ref sig .tc := ⟨.hbm, 87, rfl⟩
abbrev main_call0_c_21 : Ref sig .tc := ⟨.hbm, 88, rfl⟩
abbrev main_call0_v55 : Ref sig .tc := ⟨.hbm, 89, rfl⟩
abbrev main_call0_v56 : Ref sig .tc := ⟨.hbm, 90, rfl⟩
abbrev main_call0_v57 : Ref sig .tc := ⟨.hbm, 91, rfl⟩
abbrev main_call0_v58 : Ref sig .tc := ⟨.hbm, 92, rfl⟩
abbrev main_call0_v59 : Ref sig .tc := ⟨.hbm, 93, rfl⟩
abbrev main_call0_v60 : Ref sig .tc := ⟨.hbm, 94, rfl⟩
abbrev main_call0_v61 : Ref sig .tc := ⟨.hbm, 95, rfl⟩
abbrev main_call0_c_22 : Ref sig .tc := ⟨.hbm, 96, rfl⟩
abbrev main_call0_v62 : Ref sig .tc := ⟨.hbm, 97, rfl⟩
abbrev main_call0_v63 : Ref sig .tc := ⟨.hbm, 98, rfl⟩
abbrev main_call0_v64 : Ref sig .tc := ⟨.hbm, 99, rfl⟩
abbrev main_call0_c_23 : Ref sig .tc := ⟨.hbm, 100, rfl⟩
abbrev main_call0_v65 : Ref sig .tc := ⟨.hbm, 101, rfl⟩
abbrev main_call0_v66 : Ref sig .tc := ⟨.hbm, 102, rfl⟩
abbrev main_call0_v67 : Ref sig .tc := ⟨.hbm, 103, rfl⟩
abbrev main_call0_v68 : Ref sig .tc := ⟨.hbm, 104, rfl⟩
abbrev main_call0_v69 : Ref sig .tc := ⟨.hbm, 105, rfl⟩
abbrev main_call0_c_24 : Ref sig .tc := ⟨.hbm, 106, rfl⟩
abbrev main_call0_v70 : Ref sig .tc := ⟨.hbm, 107, rfl⟩
abbrev main_call0_v71 : Ref sig .tc := ⟨.hbm, 108, rfl⟩
abbrev main_call0_v72 : Ref sig .tc := ⟨.hbm, 109, rfl⟩
abbrev main_call0_v73 : Ref sig .tc := ⟨.hbm, 110, rfl⟩
abbrev main_call0_v74 : Ref sig .tc := ⟨.hbm, 111, rfl⟩
abbrev main_call0_v75 : Ref sig .tc := ⟨.hbm, 112, rfl⟩
abbrev main_call0_v76 : Ref sig .tc := ⟨.hbm, 113, rfl⟩
abbrev main_call0_v77 : Ref sig .tc := ⟨.hbm, 114, rfl⟩
abbrev main_call0_v78 : Ref sig .tc := ⟨.hbm, 115, rfl⟩
abbrev main_call0_v79 : Ref sig .tc := ⟨.hbm, 116, rfl⟩
abbrev main_call0_v80 : Ref sig .tc := ⟨.hbm, 117, rfl⟩
abbrev main_v0 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![2], ![false]⟩

@[reducible] def k0_t1_loop : Scf.Loop 32 :=
  let c0_i32 : BitVec 32 := 0#32
  let c64_i32 : BitVec 32 := 64#32
  let v1 : BitVec 32 := Scalar.addi c0_i32 c64_i32
  let c1_i32 : BitVec 32 := 1#32
  ⟨c0_i32, v1, c1_i32⟩
def k0_cond1 (k0_t1 : Fin k0_t1_loop.trips) : BitVec 1 :=
  let c0_i32 : BitVec 32 := 0#32
  let c1_i32 : BitVec 32 := 1#32
  let arg6 : BitVec 32 := Scf.iv c0_i32 c1_i32 k0_t1
  let c1_i32_11 : BitVec 32 := 1#32
  let v16 : BitVec 32 := Scalar.remsi arg6 c1_i32_11
  let c0_i32_13 : BitVec 32 := 0#32
  let v19 : BitVec 1 := Scalar.cmpi .eq v16 c0_i32_13
  let c1_i32_12 : BitVec 32 := 1#32
  let v17 : BitVec 32 := Scalar.divsi arg6 c1_i32_12
  let c2_i32_14 : BitVec 32 := 2#32
  let v20 : BitVec 1 := Scalar.cmpi .sge v17 c2_i32_14
  let v21 : BitVec 1 := Scalar.andi v19 v20
  let v22 : BitVec 32 := Scalar.extui v21
  let c0_i32_15 : BitVec 32 := 0#32
  let v23 : BitVec 1 := Scalar.cmpi .ne v22 c0_i32_15
  v23

def k0_mult1 (i : grid0.Coords) (k0_t1 : Fin k0_t1_loop.trips) : BitVec 32 :=
  let arg0 : BitVec 32 := BitVec.ofNat 32 (i 0).val
  let c16384_i32 : BitVec 32 := 16384#32
  let v0 : BitVec 32 := Scalar.muli arg0 c16384_i32
  let c0_i32 : BitVec 32 := 0#32
  let c1_i32 : BitVec 32 := 1#32
  let arg6 : BitVec 32 := Scf.iv c0_i32 c1_i32 k0_t1
  let c1_i32_12 : BitVec 32 := 1#32
  let v17 : BitVec 32 := Scalar.divsi arg6 c1_i32_12
  let c2_i32_493 : BitVec 32 := 2#32
  let v1423 : BitVec 32 := Scalar.subi v17 c2_i32_493
  let c256_i32_494 : BitVec 32 := 256#32
  let v1424 : BitVec 32 := Scalar.muli v1423 c256_i32_494
  let v1425 : BitVec 32 := Scalar.addi v0 v1424
  v1425
def k0_off1 (k0_t1 : Fin k0_t1_loop.trips) : Fin 1 → Nat :=
  let c0_i32 : BitVec 32 := 0#32
  let c1_i32 : BitVec 32 := 1#32
  let arg6 : BitVec 32 := Scf.iv c0_i32 c1_i32 k0_t1
  let c1_i32_12 : BitVec 32 := 1#32
  let v17 : BitVec 32 := Scalar.divsi arg6 c1_i32_12
  let c2_i32 : BitVec 32 := 2#32
  let v18 : BitVec 32 := Scalar.remsi v17 c2_i32
  ![v18.toNat]
def k0_off2 (i : grid0.Coords) (k0_t1 : Fin k0_t1_loop.trips) : Fin 2 → Nat :=
  let arg0 : BitVec 32 := BitVec.ofNat 32 (i 0).val
  let c16384_i32 : BitVec 32 := 16384#32
  let v0 : BitVec 32 := Scalar.muli arg0 c16384_i32
  let c0_i32 : BitVec 32 := 0#32
  let c1_i32 : BitVec 32 := 1#32
  let arg6 : BitVec 32 := Scf.iv c0_i32 c1_i32 k0_t1
  let c1_i32_12 : BitVec 32 := 1#32
  let v17 : BitVec 32 := Scalar.divsi arg6 c1_i32_12
  let c2_i32_493 : BitVec 32 := 2#32
  let v1423 : BitVec 32 := Scalar.subi v17 c2_i32_493
  let c256_i32_494 : BitVec 32 := 256#32
  let v1424 : BitVec 32 := Scalar.muli v1423 c256_i32_494
  let v1425 : BitVec 32 := Scalar.addi v0 v1424
  let v1426 : BitVec 32 := v1425
  let c0_i32_495 : BitVec 32 := 0#32
  ![v1426.toNat, 0]
def k0_off3 (k0_t1 : Fin k0_t1_loop.trips) : Fin 3 → Nat :=
  let c0_i32 : BitVec 32 := 0#32
  let c1_i32 : BitVec 32 := 1#32
  let arg6 : BitVec 32 := Scf.iv c0_i32 c1_i32 k0_t1
  let c1_i32_12 : BitVec 32 := 1#32
  let v17 : BitVec 32 := Scalar.divsi arg6 c1_i32_12
  let c2_i32 : BitVec 32 := 2#32
  let v18 : BitVec 32 := Scalar.remsi v17 c2_i32
  let c0_i32_496 : BitVec 32 := 0#32
  let c0_i32_497 : BitVec 32 := 0#32
  ![v18.toNat, 0, 0]
def k0_mult2 (k0_t1 : Fin k0_t1_loop.trips) : BitVec 32 :=
  let c0_i32 : BitVec 32 := 0#32
  let c1_i32 : BitVec 32 := 1#32
  let arg6 : BitVec 32 := Scf.iv c0_i32 c1_i32 k0_t1
  let c1_i32_11 : BitVec 32 := 1#32
  let v16 : BitVec 32 := Scalar.remsi arg6 c1_i32_11
  let c256_i32 : BitVec 32 := 256#32
  let v24 : BitVec 32 := Scalar.muli v16 c256_i32
  v24
def k0_off4 (k0_t1 : Fin k0_t1_loop.trips) : Fin 2 → Nat :=
  let c0_i32 : BitVec 32 := 0#32
  let c1_i32 : BitVec 32 := 1#32
  let arg6 : BitVec 32 := Scf.iv c0_i32 c1_i32 k0_t1
  let c256_i32_16 : BitVec 32 := 256#32
  let v26 : BitVec 32 := Scalar.muli arg6 c256_i32_16
  let v27 : Index := Scalar.indexCast v26
  let c0 : Index := 0#32
  ![v27.toNat, 0]
def k0_off5 (k0_t1 : Fin k0_t1_loop.trips) : Fin 3 → Nat :=
  let c0_i32 : BitVec 32 := 0#32
  let c1_i32 : BitVec 32 := 1#32
  let arg6 : BitVec 32 := Scf.iv c0_i32 c1_i32 k0_t1
  let c1_i32_12 : BitVec 32 := 1#32
  let v17 : BitVec 32 := Scalar.divsi arg6 c1_i32_12
  let c2_i32 : BitVec 32 := 2#32
  let v18 : BitVec 32 := Scalar.remsi v17 c2_i32
  let c0_i32_63 : BitVec 32 := 0#32
  let c0_i32_64 : BitVec 32 := 0#32
  ![v18.toNat, 0, 0]
def k0_off6 (k0_t1 : Fin k0_t1_loop.trips) : Fin 2 → Nat :=
  let c0_i32 : BitVec 32 := 0#32
  let c1_i32 : BitVec 32 := 1#32
  let arg6 : BitVec 32 := Scf.iv c0_i32 c1_i32 k0_t1
  let c1_i32_11 : BitVec 32 := 1#32
  let v16 : BitVec 32 := Scalar.remsi arg6 c1_i32_11
  let c256_i32 : BitVec 32 := 256#32
  let v24 : BitVec 32 := Scalar.muli v16 c256_i32
  let v25 : BitVec 32 := v24
  let c0_i32_65 : BitVec 32 := 0#32
  ![v25.toNat, 0]
def k0_cond2 (k0_t1 : Fin k0_t1_loop.trips) : BitVec 1 :=
  let c0_i32 : BitVec 32 := 0#32
  let c1_i32 : BitVec 32 := 1#32
  let arg6 : BitVec 32 := Scf.iv c0_i32 c1_i32 k0_t1
  let c1_i32_11 : BitVec 32 := 1#32
  let v16 : BitVec 32 := Scalar.remsi arg6 c1_i32_11
  let c0_i32_491 : BitVec 32 := 0#32
  let v1420 : BitVec 1 := Scalar.cmpi .eq v16 c0_i32_491
  let v1421 : BitVec 32 := Scalar.extui v1420
  let c0_i32_492 : BitVec 32 := 0#32
  let v1422 : BitVec 1 := Scalar.cmpi .ne v1421 c0_i32_492
  v1422

def k0_mult3 (i : grid0.Coords) (k0_t1 : Fin k0_t1_loop.trips) : BitVec 32 :=
  let arg0 : BitVec 32 := BitVec.ofNat 32 (i 0).val
  let c16384_i32 : BitVec 32 := 16384#32
  let v0 : BitVec 32 := Scalar.muli arg0 c16384_i32
  let c0_i32 : BitVec 32 := 0#32
  let c1_i32 : BitVec 32 := 1#32
  let arg6 : BitVec 32 := Scf.iv c0_i32 c1_i32 k0_t1
  let c1_i32_12 : BitVec 32 := 1#32
  let v17 : BitVec 32 := Scalar.divsi arg6 c1_i32_12
  let c256_i32_493 : BitVec 32 := 256#32
  let v1423 : BitVec 32 := Scalar.muli v17 c256_i32_493
  let v1424 : BitVec 32 := Scalar.addi v0 v1423
  v1424
def k0_off7 (k0_t1 : Fin k0_t1_loop.trips) : Fin 1 → Nat :=
  let c0_i32 : BitVec 32 := 0#32
  let c1_i32 : BitVec 32 := 1#32
  let arg6 : BitVec 32 := Scf.iv c0_i32 c1_i32 k0_t1
  let c1_i32_12 : BitVec 32 := 1#32
  let v17 : BitVec 32 := Scalar.divsi arg6 c1_i32_12
  let c2_i32 : BitVec 32 := 2#32
  let v18 : BitVec 32 := Scalar.remsi v17 c2_i32
  ![v18.toNat]
def k0_off8 (i : grid0.Coords) (k0_t1 : Fin k0_t1_loop.trips) : Fin 2 → Nat :=
  let arg0 : BitVec 32 := BitVec.ofNat 32 (i 0).val
  let c16384_i32 : BitVec 32 := 16384#32
  let v0 : BitVec 32 := Scalar.muli arg0 c16384_i32
  let c0_i32 : BitVec 32 := 0#32
  let c1_i32 : BitVec 32 := 1#32
  let arg6 : BitVec 32 := Scf.iv c0_i32 c1_i32 k0_t1
  let c1_i32_12 : BitVec 32 := 1#32
  let v17 : BitVec 32 := Scalar.divsi arg6 c1_i32_12
  let c256_i32_493 : BitVec 32 := 256#32
  let v1423 : BitVec 32 := Scalar.muli v17 c256_i32_493
  let v1424 : BitVec 32 := Scalar.addi v0 v1423
  let v1425 : BitVec 32 := v1424
  let c0_i32_494 : BitVec 32 := 0#32
  ![v1425.toNat, 0]
def k0_off9 (k0_t1 : Fin k0_t1_loop.trips) : Fin 3 → Nat :=
  let c0_i32 : BitVec 32 := 0#32
  let c1_i32 : BitVec 32 := 1#32
  let arg6 : BitVec 32 := Scf.iv c0_i32 c1_i32 k0_t1
  let c1_i32_12 : BitVec 32 := 1#32
  let v17 : BitVec 32 := Scalar.divsi arg6 c1_i32_12
  let c2_i32 : BitVec 32 := 2#32
  let v18 : BitVec 32 := Scalar.remsi v17 c2_i32
  let c0_i32_495 : BitVec 32 := 0#32
  let c0_i32_496 : BitVec 32 := 0#32
  ![v18.toNat, 0, 0]
def k0_mult4 (i : grid0.Coords) : BitVec 32 :=
  let arg0 : BitVec 32 := BitVec.ofNat 32 (i 0).val
  let c16384_i32 : BitVec 32 := 16384#32
  let v0 : BitVec 32 := Scalar.muli arg0 c16384_i32
  let c15872_i32 : BitVec 32 := 15872#32
  let v2 : BitVec 32 := Scalar.addi v0 c15872_i32
  v2
def k0_off10 (i : grid0.Coords) (c15872_i32 : BitVec 32) : Fin 2 → Nat :=
  let arg0 : BitVec 32 := BitVec.ofNat 32 (i 0).val
  let c16384_i32 : BitVec 32 := 16384#32
  let v0 : BitVec 32 := Scalar.muli arg0 c16384_i32
  let v2 : BitVec 32 := Scalar.addi v0 c15872_i32
  let v3 : BitVec 32 := v2
  let c0_i32_3 : BitVec 32 := 0#32
  ![v3.toNat, 0]
def k0_mult5 (i : grid0.Coords) : BitVec 32 :=
  let arg0 : BitVec 32 := BitVec.ofNat 32 (i 0).val
  let c16384_i32 : BitVec 32 := 16384#32
  let v0 : BitVec 32 := Scalar.muli arg0 c16384_i32
  let c16128_i32 : BitVec 32 := 16128#32
  let v9 : BitVec 32 := Scalar.addi v0 c16128_i32
  v9
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16384x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S40x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== KernelIdeal.lean ====
abbrev S32768x6 : Shape := ⟨2, ![32768, 6]⟩
abbrev S1x128 : Shape := ⟨2, ![1, 128]⟩
abbrev S9x128 : Shape := ⟨2, ![9, 128]⟩
abbrev S8x128 : Shape := ⟨2, ![8, 128]⟩
abbrev S_ : Shape := ⟨0, ![]⟩
abbrev S4x128 : Shape := ⟨2, ![4, 128]⟩
abbrev S7x128 : Shape := ⟨2, ![7, 128]⟩
abbrev S40x128 : Shape := ⟨2, ![40, 128]⟩
abbrev S32768x6561 : Shape := ⟨2, ![32768, 6561]⟩
abbrev S16384x6 : Shape := ⟨2, ![16384, 6]⟩
abbrev S2x256x6561 : Shape := ⟨3, ![2, 256, 6561]⟩
abbrev S2 : Shape := ⟨1, ![2]⟩
abbrev S1 : Shape := ⟨1, ![1]⟩
abbrev S256x6561 : Shape := ⟨2, ![256, 6561]⟩
abbrev S1x256x6561 : Shape := ⟨3, ![1, 256, 6561]⟩
abbrev S256x6 : Shape := ⟨2, ![256, 6]⟩
abbrev S256x1 : Shape := ⟨2, ![256, 1]⟩
abbrev S256x128 : Shape := ⟨2, ![256, 128]⟩
abbrev S256x81 : Shape := ⟨2, ![256, 81]⟩

abbrev nBuf : Space → Nat
  | .hbm => 119
  | .vmem => 4
  | .smem => 0
  | _ => 0

abbrev bufTy : (tb : Table) → Fin (tcTables nBuf tb) → BufTy
  | .hbm, ⟨0, _⟩ => ⟨S32768x6, .f32⟩
  | .hbm, ⟨1, _⟩ => ⟨S1x128, .i32⟩
  | .hbm, ⟨2, _⟩ => ⟨S1x128, .i32⟩
  | .hbm, ⟨3, _⟩ => ⟨S1x128, .i32⟩
  | .hbm, ⟨4, _⟩ => ⟨S1x128, .f32⟩
  | .hbm, ⟨5, _⟩ => ⟨S1x128, .f32⟩
  | .hbm, ⟨6, _⟩ => ⟨S9x128, .i32⟩
  | .hbm, ⟨7, _⟩ => ⟨S8x128, .i32⟩
  | .hbm, ⟨8, _⟩ => ⟨S_, .i32⟩
  | .hbm, ⟨9, _⟩ => ⟨S8x128, .i32⟩
  | .hbm, ⟨10, _⟩ => ⟨S8x128, .i32⟩
  | .hbm, ⟨11, _⟩ => ⟨S4x128, .i32⟩
  | .hbm, ⟨12, _⟩ => ⟨S1x128, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S1x128, .f32⟩
  | .hbm, ⟨18, _⟩ => ⟨S1x128, .f32⟩
  | .hbm, ⟨19, _⟩ => ⟨S1x128, .f32⟩
  | .hbm, ⟨20, _⟩ => ⟨S_, .i32⟩
  | .hbm, ⟨21, _⟩ => ⟨S1x128, .i32⟩
  | .hbm, ⟨22, _⟩ => ⟨S1x128, .i32⟩
  | .hbm, ⟨23, _⟩ => ⟨S_, .i32⟩
  | .hbm, ⟨24, _⟩ => ⟨S1x128, .i32⟩
  | .hbm, ⟨25, _⟩ => ⟨S1x128, .i1⟩
  | .hbm, ⟨26, _⟩ => ⟨S1x128, .f32⟩
  | .hbm, ⟨27, _⟩ => ⟨S1x128, .f32⟩
  | .hbm, ⟨28, _⟩ => ⟨S_, .i32⟩
  | .hbm, ⟨29, _⟩ => ⟨S1x128, .i32⟩
  | .hbm, ⟨30, _⟩ => ⟨S1x128, .i1⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S1x128, .f32⟩
  | .hbm, ⟨36, _⟩ => ⟨S1x128, .f32⟩
  | .hbm, ⟨37, _⟩ => ⟨S1x128, .f32⟩
  | .hbm, ⟨38, _⟩ => ⟨S8x128, .i32⟩
  | .hbm, ⟨39, _⟩ => ⟨S8x128, .i1⟩
  | .hbm, ⟨40, _⟩ => ⟨S8x128, .i32⟩
  | .hbm, ⟨41, _⟩ => ⟨S1x128, .i32⟩
  | .hbm, ⟨42, _⟩ => ⟨S8x128, .i32⟩
  | .hbm, ⟨43, _⟩ => ⟨S8x128, .i32⟩
  | .hbm, ⟨44, _⟩ => ⟨S_, .i32⟩
  | .hbm, ⟨45, _⟩ => ⟨S_, .i32⟩
  | .hbm, ⟨46, _⟩ => ⟨S8x128, .i32⟩
  | .hbm, ⟨47, _⟩ => ⟨S8x128, .i32⟩
  | .hbm, ⟨48, _⟩ => ⟨S8x128, .f32⟩
  | .hbm, ⟨49, _⟩ => ⟨S_, .i32⟩
  | .hbm, ⟨50, _⟩ => ⟨S8x128, .i32⟩
  | .hbm, ⟨51, _⟩ => ⟨S8x128, .i32⟩
  | .hbm, ⟨52, _⟩ => ⟨S_, .i32⟩
  | .hbm, ⟨53, _⟩ => ⟨S8x128, .i32⟩
  | .hbm, ⟨54, _⟩ => ⟨S8x128, .i32⟩
  | .hbm, ⟨55, _⟩ => ⟨S8x128, .i32⟩
  | .hbm, ⟨56, _⟩ => ⟨S1x128, .i32⟩
  | .hbm, ⟨57, _⟩ => ⟨S8x128, .i32⟩
  | .hbm, ⟨58, _⟩ => ⟨S8x128, .i32⟩
  | .hbm, ⟨59, _⟩ => ⟨S_, .i32⟩
  | .hbm, ⟨60, _⟩ => ⟨S_, .i32⟩
  | .hbm, ⟨61, _⟩ => ⟨S8x128, .i32⟩
  | .hbm, ⟨62, _⟩ => ⟨S8x128, .i32⟩
  | .hbm, ⟨63, _⟩ => ⟨S8x128, .f32⟩
  | .hbm, ⟨64, _⟩ => ⟨S_, .i32⟩
  | .hbm, ⟨65, _⟩ => ⟨S8x128, .i32⟩
  | .hbm, ⟨66, _⟩ => ⟨S8x128, .i32⟩
  | .hbm, ⟨67, _⟩ => ⟨S_, .i32⟩
  | .hbm, ⟨68, _⟩ => ⟨S8x128, .i32⟩
  | .hbm, ⟨69, _⟩ => ⟨S8x128, .i32⟩
  | .hbm, ⟨70, _⟩ => ⟨S8x128, .f32⟩
  | .hbm, ⟨71, _⟩ => ⟨S8x128, .f32⟩
  | .hbm, ⟨72, _⟩ => ⟨S8x128, .f32⟩
  | .hbm, ⟨73, _⟩ => ⟨S_, .f32⟩
  | .hbm, ⟨74, _⟩ => ⟨S_, .f32⟩
  | .hbm, ⟨75, _⟩ => ⟨S8x128, .f32⟩
  | .hbm, ⟨76, _⟩ => ⟨S8x128, .f32⟩
  | .hbm, ⟨77, _⟩ => ⟨S_, .i32⟩
  | .hbm, ⟨78, _⟩ => ⟨S8x128, .i32⟩
  | .hbm, ⟨79, _⟩ => ⟨S8x128, .i32⟩
  | .hbm, ⟨80, _⟩ => ⟨S_, .i32⟩
  | .hbm, ⟨81, _⟩ => ⟨S8x128, .i32⟩
  | .hbm, ⟨82, _⟩ => ⟨S8x128, .i32⟩
  | .hbm, ⟨83, _⟩ => ⟨S8x128, .f32⟩
  | .hbm, ⟨84, _⟩ => ⟨S8x128, .f32⟩
  | .hbm, ⟨85, _⟩ => ⟨S_, .i32⟩
  | .hbm, ⟨86, _⟩ => ⟨S8x128, .i32⟩
  | .hbm, ⟨87, _⟩ => ⟨S8x128, .i32⟩
  | .hbm, ⟨88, _⟩ => ⟨S_, .i32⟩
  | .hbm, ⟨89, _⟩ => ⟨S8x128, .i32⟩
  | .hbm, ⟨90, _⟩ => ⟨S8x128, .i32⟩
  | .hbm, ⟨91, _⟩ => ⟨S8x128, .f32⟩
  | .hbm, ⟨92, _⟩ => ⟨S8x128, .f32⟩
  | .hbm, ⟨93, _⟩ => ⟨S8x128, .f32⟩
  | .hbm, ⟨94, _⟩ => ⟨S8x128, .f32⟩
  | .hbm, ⟨95, _⟩ => ⟨S8x128, .f32⟩
  | .hbm, ⟨96, _⟩ => ⟨S_, .i32⟩
  | .hbm, ⟨97, _⟩ => ⟨S1x128, .i32⟩
  | .hbm, ⟨98, _⟩ => ⟨S1x128, .i1⟩
  | .hbm, ⟨99, _⟩ => ⟨S1x128, .f32⟩
  | .hbm, ⟨100, _⟩ => ⟨S_, .i32⟩
  | .hbm, ⟨101, _⟩ => ⟨S1x128, .i32⟩
  | .hbm, ⟨102, _⟩ => ⟨S1x128, .i1⟩
  | .hbm, ⟨103, _⟩ => ⟨S1x128, .f32⟩
  | .hbm, ⟨104, _⟩ => ⟨S4x128, .i32⟩
  | .hbm, ⟨105, _⟩ => ⟨S4x128, .i32⟩
  | .hbm, ⟨106, _⟩ => ⟨S_, .i32⟩
  | .hbm, ⟨107, _⟩ => ⟨S4x128, .i32⟩
  | .hbm, ⟨108, _⟩ => ⟨S4x128, .i32⟩
  | .hbm, ⟨109, _⟩ => ⟨S4x128, .f32⟩
  | .hbm, ⟨110, _⟩ => ⟨S9x128, .i32⟩
  | .hbm, ⟨111, _⟩ => ⟨S9x128, .i1⟩
  | .hbm, ⟨112, _⟩ => ⟨S9x128, .f32⟩
  | .hbm, ⟨113, _⟩ => ⟨S8x128, .i32⟩
  | .hbm, ⟨114, _⟩ => ⟨S8x128, .i1⟩
  | .hbm, ⟨115, _⟩ => ⟨S8x128, .f32⟩
  | .hbm, ⟨116, _⟩ => ⟨S7x128, .f32⟩
  | .hbm, ⟨117, _⟩ => ⟨S40x128, .f32⟩
  | .hbm, ⟨118, _⟩ => ⟨S32768x6561, .f32⟩
  | .local _ .vmem, ⟨0, _⟩ => ⟨S16384x6, .f32⟩
  | .local _ .vmem, ⟨1, _⟩ => ⟨S16384x6, .f32⟩
  | .local _ .vmem, ⟨2, _⟩ => ⟨S40x128, .f32⟩
  | .local _ .vmem, ⟨3, _⟩ => ⟨S2x256x6561, .f32⟩
  | _, _ => ⟨S32768x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_call0_c : Ref sig .tc := ⟨.hbm, 1, rfl⟩
abbrev main_call0_c_0 : Ref sig .tc := ⟨.hbm, 2, rfl⟩
abbrev main_call0_c_1 : Ref sig .tc := ⟨.hbm, 3, rfl⟩
abbrev main_call0_cst : Ref sig .tc := ⟨.hbm, 4, rfl⟩
abbrev main_call0_cst_2 : Ref sig .tc := ⟨.hbm, 5, rfl⟩
abbrev main_call0_v0 : Ref sig .tc := ⟨.hbm, 6, rfl⟩
abbrev main_call0_v1 : Ref sig .tc := ⟨.hbm, 7, rfl⟩
abbrev main_call0_c_3 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_cst_4 : Ref sig .tc := ⟨.hbm, 13, rfl⟩
abbrev main_call0_v6 : Ref sig .tc := ⟨.hbm, 14, rfl⟩
abbrev main_call0_cst_5 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_c_6 : Ref sig .tc := ⟨.hbm, 20, rfl⟩
abbrev main_call0_v11 : Ref sig .tc := ⟨.hbm, 21, rfl⟩
abbrev main_call0_v12 : Ref sig .tc := ⟨.hbm, 22, rfl⟩
abbrev main_call0_c_7 : Ref sig .tc := ⟨.hbm, 23, rfl⟩
abbrev main_call0_v13 : Ref sig .tc := ⟨.hbm, 24, rfl⟩
abbrev main_call0_v14 : Ref sig .tc := ⟨.hbm, 25, rfl⟩
abbrev main_call0_v15 : Ref sig .tc := ⟨.hbm, 26, rfl⟩
abbrev main_call0_v16 : Ref sig .tc := ⟨.hbm, 27, rfl⟩
abbrev main_call0_c_8 : Ref sig .tc := ⟨.hbm, 28, rfl⟩
abbrev main_call0_v17 : Ref sig .tc := ⟨.hbm, 29, rfl⟩
abbrev main_call0_v18 : Ref sig .tc := ⟨.hbm, 30, rfl⟩
abbrev main_call0_cst_9 : Ref sig .tc := ⟨.hbm, 31, rfl⟩
abbrev main_call0_v19 : Ref sig .tc := ⟨.hbm, 32, rfl⟩
abbrev main_call0_cst_10 : Ref sig .tc := ⟨.hbm, 33, rfl⟩
abbrev main_call0_call1_v0 : Ref sig .tc := ⟨.hbm, 34, rfl⟩
abbrev main_call0_call1_v1 : Ref sig .tc := ⟨.hbm, 35, rfl⟩
abbrev main_call0_call1_v2 : Ref sig .tc := ⟨.hbm, 36, rfl⟩
abbrev main_call0_v20 : Ref sig .tc := ⟨.hbm, 37, rfl⟩
abbrev main_call0_v21 : Ref sig .tc := ⟨.hbm, 38, rfl⟩
abbrev main_call0_v22 : Ref sig .tc := ⟨.hbm, 39, rfl⟩
abbrev main_call0_v23 : Ref sig .tc := ⟨.hbm, 40, rfl⟩
abbrev main_call0_v24 : Ref sig .tc := ⟨.hbm, 41, rfl⟩
abbrev main_call0_v25 : Ref sig .tc := ⟨.hbm, 42, rfl⟩
abbrev main_call0_v26 : Ref sig .tc := ⟨.hbm, 43, rfl⟩
abbrev main_call0_c_11 : Ref sig .tc := ⟨.hbm, 44, rfl⟩
abbrev main_call0_call2_v0 : Ref sig .tc := ⟨.hbm, 45, rfl⟩
abbrev main_call0_call2_v1 : Ref sig .tc := ⟨.hbm, 46, rfl⟩
abbrev main_call0_v27 : Ref sig .tc := ⟨.hbm, 47, rfl⟩
abbrev main_call0_v28 : Ref sig .tc := ⟨.hbm, 48, rfl⟩
abbrev main_call0_c_12 : Ref sig .tc := ⟨.hbm, 49, rfl⟩
abbrev main_call0_v29 : Ref sig .tc := ⟨.hbm, 50, rfl⟩
abbrev main_call0_v30 : Ref sig .tc := ⟨.hbm, 51, rfl⟩
abbrev main_call0_c_13 : Ref sig .tc := ⟨.hbm, 52, rfl⟩
abbrev main_call0_v31 : Ref sig .tc := ⟨.hbm, 53, rfl⟩
abbrev main_call0_v32 : Ref sig .tc := ⟨.hbm, 54, rfl⟩
abbrev main_call0_v33 : Ref sig .tc := ⟨.hbm, 55, rfl⟩
abbrev main_call0_v34 : Ref sig .tc := ⟨.hbm, 56, rfl⟩
abbrev main_call0_v35 : Ref sig .tc := ⟨.hbm, 57, rfl⟩
abbrev main_call0_v36 : Ref sig .tc := ⟨.hbm, 58, rfl⟩
abbrev main_call0_c_14 : Ref sig .tc := ⟨.hbm, 59, rfl⟩
abbrev main_call0_call3_v0 : Ref sig .tc := ⟨.hbm, 60, rfl⟩
abbrev main_call0_call3_v1 : Ref sig .tc := ⟨.hbm, 61, rfl⟩
abbrev main_call0_v37 : Ref sig .tc := ⟨.hbm, 62, rfl⟩
abbrev main_call0_v38 : Ref sig .tc := ⟨.hbm, 63, rfl⟩
abbrev main_call0_c_15 : Ref sig .tc := ⟨.hbm, 64, rfl⟩
abbrev main_call0_v39 : Ref sig .tc := ⟨.hbm, 65, rfl⟩
abbrev main_call0_v40 : Ref sig .tc := ⟨.hbm, 66, rfl⟩
abbrev main_call0_c_16 : Ref sig .tc := ⟨.hbm, 67, rfl⟩
abbrev main_call0_v41 : Ref sig .tc := ⟨.hbm, 68, rfl⟩
abbrev main_call0_v42 : Ref sig .tc := ⟨.hbm, 69, rfl⟩
abbrev main_call0_v43 : Ref sig .tc := ⟨.hbm, 70, rfl⟩
abbrev main_call0_v44 : Ref sig .tc := ⟨.hbm, 71, rfl⟩
abbrev main_call0_v45 : Ref sig .tc := ⟨.hbm, 72, rfl⟩
abbrev main_call0_cst_17 : Ref sig .tc := ⟨.hbm, 73, rfl⟩
abbrev main_call0_call4_v0 : Ref sig .tc := ⟨.hbm, 74, rfl⟩
abbrev main_call0_call4_v1 : Ref sig .tc := ⟨.hbm, 75, rfl⟩
abbrev main_call0_v46 : Ref sig .tc := ⟨.hbm, 76, rfl⟩
abbrev main_call0_c_18 : Ref sig .tc := ⟨.hbm, 77, rfl⟩
abbrev main_call0_v47 : Ref sig .tc := ⟨.hbm, 78, rfl⟩
abbrev main_call0_v48 : Ref sig .tc := ⟨.hbm, 79, rfl⟩
abbrev main_call0_c_19 : Ref sig .tc := ⟨.hbm, 80, rfl⟩
abbrev main_call0_v49 : Ref sig .tc := ⟨.hbm, 81, rfl⟩
abbrev main_call0_v50 : Ref sig .tc := ⟨.hbm, 82, rfl⟩
abbrev main_call0_v51 : Ref sig .tc := ⟨.hbm, 83, rfl⟩
abbrev main_call0_v52 : Ref sig .tc := ⟨.hbm, 84, rfl⟩
abbrev main_call0_c_20 : Ref sig .tc := ⟨.hbm, 85, rfl⟩
abbrev main_call0_v53 : Ref sig .tc := ⟨.hbm, 86, rfl⟩
abbrev main_call0_v54 : Ref sig .tc := ⟨.hbm, 87, rfl⟩
abbrev main_call0_c_21 : Ref sig .tc := ⟨.hbm, 88, rfl⟩
abbrev main_call0_v55 : Ref sig .tc := ⟨.hbm, 89, rfl⟩
abbrev main_call0_v56 : Ref sig .tc := ⟨.hbm, 90, rfl⟩
abbrev main_call0_v57 : Ref sig .tc := ⟨.hbm, 91, rfl⟩
abbrev main_call0_v58 : Ref sig .tc := ⟨.hbm, 92, rfl⟩
abbrev main_call0_v59 : Ref sig .tc := ⟨.hbm, 93, rfl⟩
abbrev main_call0_v60 : Ref sig .tc := ⟨.hbm, 94, rfl⟩
abbrev main_call0_v61 : Ref sig .tc := ⟨.hbm, 95, rfl⟩
abbrev main_call0_c_22 : Ref sig .tc := ⟨.hbm, 96, rfl⟩
abbrev main_call0_v62 : Ref sig .tc := ⟨.hbm, 97, rfl⟩
abbrev main_call0_v63 : Ref sig .tc := ⟨.hbm, 98, rfl⟩
abbrev main_call0_v64 : Ref sig .tc := ⟨.hbm, 99, rfl⟩
abbrev main_call0_c_23 : Ref sig .tc := ⟨.hbm, 100, rfl⟩
abbrev main_call0_v65 : Ref sig .tc := ⟨.hbm, 101, rfl⟩
abbrev main_call0_v66 : Ref sig .tc := ⟨.hbm, 102, rfl⟩
abbrev main_call0_v67 : Ref sig .tc := ⟨.hbm, 103, rfl⟩
abbrev main_call0_v68 : Ref sig .tc := ⟨.hbm, 104, rfl⟩
abbrev main_call0_v69 : Ref sig .tc := ⟨.hbm, 105, rfl⟩
abbrev main_call0_c_24 : Ref sig .tc := ⟨.hbm, 106, rfl⟩
abbrev main_call0_v70 : Ref sig .tc := ⟨.hbm, 107, rfl⟩
abbrev main_call0_v71 : Ref sig .tc := ⟨.hbm, 108, rfl⟩
abbrev main_call0_v72 : Ref sig .tc := ⟨.hbm, 109, rfl⟩
abbrev main_call0_v73 : Ref sig .tc := ⟨.hbm, 110, rfl⟩
abbrev main_call0_v74 : Ref sig .tc := ⟨.hbm, 111, rfl⟩
abbrev main_call0_v75 : Ref sig .tc := ⟨.hbm, 112, rfl⟩
abbrev main_call0_v76 : Ref sig .tc := ⟨.hbm, 113, rfl⟩
abbrev main_call0_v77 : Ref sig .tc := ⟨.hbm, 114, rfl⟩
abbrev main_call0_v78 : Ref sig .tc := ⟨.hbm, 115, rfl⟩
abbrev main_call0_v79 : Ref sig .tc := ⟨.hbm, 116, rfl⟩
abbrev main_call0_v80 : Ref sig .tc := ⟨.hbm, 117, rfl⟩
abbrev main_v0 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F] [Named F]

def κ : String → Option EReal := fun
  | "back_3_0" => some ((-(Real.sqrt (28 / 27)) : ℝ) : EReal)
  | "back_3_1" => some ((-(Real.sqrt (7 / 8)) : ℝ) : EReal)
  | "back_4_0" => some ((-(Real.sqrt (81 / 80)) : ℝ) : EReal)
  | "back_4_1" => some ((-(Real.sqrt (24 / 25)) : ℝ) : EReal)
  | "back_4_2" => some ((-(Real.sqrt (3 / 4)) : ℝ) : EReal)
  | "back_5_0" => some ((-(Real.sqrt (44 / 175)) : ℝ) : EReal)
  | "back_5_1" => some ((-(Real.sqrt (55 / 56)) : ℝ) : EReal)
  | "back_5_2" => some ((-(Real.sqrt (44 / 49)) : ℝ) : EReal)
  | "back_5_3" => some ((-(Real.sqrt (11 / 16)) : ℝ) : EReal)
  | "back_6_0" => some ((-(Real.sqrt (325 / 5184)) : ℝ) : EReal)
  | "back_6_1" => some ((-(Real.sqrt (104 / 105)) : ℝ) : EReal)
  | "back_6_2" => some ((-(Real.sqrt (91 / 96)) : ℝ) : EReal)
  | "back_6_3" => some ((-(Real.sqrt (208 / 243)) : ℝ) : EReal)
  | "back_6_4" => some ((-(Real.sqrt (13 / 20)) : ℝ) : EReal)
  | "back_7_0" => some ((-(Real.sqrt (135 / 8624)) : ℝ) : EReal)
  | "back_7_1" => some ((-(Real.sqrt (175 / 704)) : ℝ) : EReal)
  | "back_7_2" => some ((-(Real.sqrt (32 / 33)) : ℝ) : EReal)
  | "back_7_3" => some ((-(Real.sqrt (81 / 88)) : ℝ) : EReal)
  | "back_7_4" => some ((-(Real.sqrt (100 / 121)) : ℝ) : EReal)
  | "back_7_5" => some ((-(Real.sqrt (5 / 8)) : ℝ) : EReal)
  | "back_8_0" => some ((-(Real.sqrt (833 / 212992)) : ℝ) : EReal)
  | "back_8_1" => some ((-(Real.sqrt (17 / 17472)) : ℝ) : EReal)
  | "back_8_2" => some ((-(Real.sqrt (51 / 208)) : ℝ) : EReal)
  | "back_8_3" => some ((-(Real.sqrt (136 / 143)) : ℝ) : EReal)
  | "back_8_4" => some ((-(Real.sqrt (187 / 832)) : ℝ) : EReal)
  | "back_8_5" => some ((-(Real.sqrt (136 / 169)) : ℝ) : EReal)
  | "back_8_6" => some ((-(Real.sqrt (17 / 28)) : ℝ) : EReal)
  | "diag_1" => some ((-(Real.sqrt (3 / 2)) : ℝ) : EReal)
  | "diag_2" => some ((-(Real.sqrt (5 / 4)) : ℝ) : EReal)
  | "diag_3" => some ((-(Real.sqrt (7 / 6)) : ℝ) : EReal)
  | "diag_4" => some ((-(Real.sqrt (9 / 8)) : ℝ) : EReal)
  | "diag_5" => some ((-(Real.sqrt (11 / 10)) : ℝ) : EReal)
  | "diag_6" => some ((-(Real.sqrt (13 / 12)) : ℝ) : EReal)
  | "diag_7" => some ((-(Real.sqrt (15 / 14)) : ℝ) : EReal)
  | "diag_8" => some ((-(Real.sqrt (17 / 64)) : ℝ) : EReal)
  | "next_0" => some ((Real.sqrt 3 : ℝ) : EReal)
  | "next_1" => some ((Real.sqrt 5 : ℝ) : EReal)
  | "next_2" => some ((Real.sqrt 7 : ℝ) : EReal)
  | "next_4" => some ((Real.sqrt 11 : ℝ) : EReal)
  | "next_5" => some ((Real.sqrt 13 : ℝ) : EReal)
  | "next_6" => some ((Real.sqrt 15 : ℝ) : EReal)
  | "next_7" => some ((Real.sqrt 17 : ℝ) : EReal)
  | "root_two" => some ((Real.sqrt 2 : ℝ) : EReal)
  | "up_2_0" => some ((Real.sqrt (15 / 4) : ℝ) : EReal)
  | "up_3_0" => some ((Real.sqrt (35 / 9) : ℝ) : EReal)
  | "up_3_1" => some ((Real.sqrt (35 / 8) : ℝ) : EReal)
  | "up_4_0" => some ((Real.sqrt (63 / 16) : ℝ) : EReal)
  | "up_4_1" => some ((Real.sqrt (21 / 5) : ℝ) : EReal)
  | "up_4_2" => some ((Real.sqrt (21 / 4) : ℝ) : EReal)
  | "up_5_0" => some ((Real.sqrt (99 / 25) : ℝ) : EReal)
  | "up_5_1" => some ((Real.sqrt (33 / 8) : ℝ) : EReal)
  | "up_5_2" => some ((Real.sqrt (33 / 7) : ℝ) : EReal)
  | "up_5_3" => some ((Real.sqrt (99 / 16) : ℝ) : EReal)
  | "up_6_0" => some ((Real.sqrt (143 / 144) : ℝ) : EReal)
  | "up_6_1" => some ((Real.sqrt (143 / 35) : ℝ) : EReal)
  | "up_6_2" => some ((Real.sqrt (143 / 32) : ℝ) : EReal)
  | "up_6_3" => some ((Real.sqrt (143 / 108) : ℝ) : EReal)
  | "up_6_4" => some ((Real.sqrt (143 / 20) : ℝ) : EReal)
  | "up_7_0" => some ((Real.sqrt (195 / 784) : ℝ) : EReal)
  | "up_7_1" => some ((Real.sqrt (65 / 64) : ℝ) : EReal)
  | "up_7_2" => some ((Real.sqrt (13 / 3) : ℝ) : EReal)
  | "up_7_3" => some ((Real.sqrt (39 / 8) : ℝ) : EReal)
  | "up_7_4" => some ((Real.sqrt (65 / 11) : ℝ) : EReal)
  | "up_7_5" => some ((Real.sqrt (65 / 8) : ℝ) : EReal)
  | "up_8_0" => some ((Real.sqrt (255 / 4096) : ℝ) : EReal)
  | "up_8_1" => some ((Real.sqrt (85 / 336) : ℝ) : EReal)
  | "up_8_2" => some ((Real.sqrt (17 / 4) : ℝ) : EReal)
  | "up_8_3" => some ((Real.sqrt (51 / 11) : ℝ) : EReal)
  | "up_8_4" => some ((Real.sqrt (85 / 16) : ℝ) : EReal)
  | "up_8_5" => some ((Real.sqrt (85 / 13) : ℝ) : EReal)
  | "up_8_6" => some ((Real.sqrt (255 / 28) : ℝ) : EReal)
  | "y00" => some ((Real.sqrt ((4 * Real.pi)⁻¹) : ℝ) : EReal)
  | _ => none

abbrev grid0 : Pipeline.Grid := ⟨1, ![2], ![false]⟩

@[reducible] def k0_t1_loop : Scf.Loop 32 :=
  let c0_i32 : BitVec 32 := 0#32
  let c64_i32 : BitVec 32 := 64#32
  let v1 : BitVec 32 := Scalar.addi c0_i32 c64_i32
  let c1_i32 : BitVec 32 := 1#32
  ⟨c0_i32, v1, c1_i32⟩
def k0_cond1 (k0_t1 : Fin k0_t1_loop.trips) : BitVec 1 :=
  let c0_i32 : BitVec 32 := 0#32
  let c1_i32 : BitVec 32 := 1#32
  let arg6 : BitVec 32 := Scf.iv c0_i32 c1_i32 k0_t1
  let c1_i32_11 : BitVec 32 := 1#32
  let v16 : BitVec 32 := Scalar.remsi arg6 c1_i32_11
  let c0_i32_13 : BitVec 32 := 0#32
  let v19 : BitVec 1 := Scalar.cmpi .eq v16 c0_i32_13
  let c1_i32_12 : BitVec 32 := 1#32
  let v17 : BitVec 32 := Scalar.divsi arg6 c1_i32_12
  let c2_i32_14 : BitVec 32 := 2#32
  let v20 : BitVec 1 := Scalar.cmpi .sge v17 c2_i32_14
  let v21 : BitVec 1 := Scalar.andi v19 v20
  let v22 : BitVec 32 := Scalar.extui v21
  let c0_i32_15 : BitVec 32 := 0#32
  let v23 : BitVec 1 := Scalar.cmpi .ne v22 c0_i32_15
  v23

def k0_mult1 (i : grid0.Coords) (k0_t1 : Fin k0_t1_loop.trips) : BitVec 32 :=
  let arg0 : BitVec 32 := BitVec.ofNat 32 (i 0).val
  let c16384_i32 : BitVec 32 := 16384#32
  let v0 : BitVec 32 := Scalar.muli arg0 c16384_i32
  let c0_i32 : BitVec 32 := 0#32
  let c1_i32 : BitVec 32 := 1#32
  let arg6 : BitVec 32 := Scf.iv c0_i32 c1_i32 k0_t1
  let c1_i32_12 : BitVec 32 := 1#32
  let v17 : BitVec 32 := Scalar.divsi arg6 c1_i32_12
  let c2_i32_493 : BitVec 32 := 2#32
  let v1423 : BitVec 32 := Scalar.subi v17 c2_i32_493
  let c256_i32_494 : BitVec 32 := 256#32
  let v1424 : BitVec 32 := Scalar.muli v1423 c256_i32_494
  let v1425 : BitVec 32 := Scalar.addi v0 v1424
  v1425
def k0_off1 (k0_t1 : Fin k0_t1_loop.trips) : Fin 1 → Nat :=
  let c0_i32 : BitVec 32 := 0#32
  let c1_i32 : BitVec 32 := 1#32
  let arg6 : BitVec 32 := Scf.iv c0_i32 c1_i32 k0_t1
  let c1_i32_12 : BitVec 32 := 1#32
  let v17 : BitVec 32 := Scalar.divsi arg6 c1_i32_12
  let c2_i32 : BitVec 32 := 2#32
  let v18 : BitVec 32 := Scalar.remsi v17 c2_i32
  ![v18.toNat]
def k0_off2 (i : grid0.Coords) (k0_t1 : Fin k0_t1_loop.trips) : Fin 2 → Nat :=
  let arg0 : BitVec 32 := BitVec.ofNat 32 (i 0).val
  let c16384_i32 : BitVec 32 := 16384#32
  let v0 : BitVec 32 := Scalar.muli arg0 c16384_i32
  let c0_i32 : BitVec 32 := 0#32
  let c1_i32 : BitVec 32 := 1#32
  let arg6 : BitVec 32 := Scf.iv c0_i32 c1_i32 k0_t1
  let c1_i32_12 : BitVec 32 := 1#32
  let v17 : BitVec 32 := Scalar.divsi arg6 c1_i32_12
  let c2_i32_493 : BitVec 32 := 2#32
  let v1423 : BitVec 32 := Scalar.subi v17 c2_i32_493
  let c256_i32_494 : BitVec 32 := 256#32
  let v1424 : BitVec 32 := Scalar.muli v1423 c256_i32_494
  let v1425 : BitVec 32 := Scalar.addi v0 v1424
  let v1426 : BitVec 32 := v1425
  let c0_i32_495 : BitVec 32 := 0#32
  ![v1426.toNat, 0]
def k0_off3 (k0_t1 : Fin k0_t1_loop.trips) : Fin 3 → Nat :=
  let c0_i32 : BitVec 32 := 0#32
  let c1_i32 : BitVec 32 := 1#32
  let arg6 : BitVec 32 := Scf.iv c0_i32 c1_i32 k0_t1
  let c1_i32_12 : BitVec 32 := 1#32
  let v17 : BitVec 32 := Scalar.divsi arg6 c1_i32_12
  let c2_i32 : BitVec 32 := 2#32
  let v18 : BitVec 32 := Scalar.remsi v17 c2_i32
  let c0_i32_496 : BitVec 32 := 0#32
  let c0_i32_497 : BitVec 32 := 0#32
  ![v18.toNat, 0, 0]
def k0_mult2 (k0_t1 : Fin k0_t1_loop.trips) : BitVec 32 :=
  let c0_i32 : BitVec 32 := 0#32
  let c1_i32 : BitVec 32 := 1#32
  let arg6 : BitVec 32 := Scf.iv c0_i32 c1_i32 k0_t1
  let c1_i32_11 : BitVec 32 := 1#32
  let v16 : BitVec 32 := Scalar.remsi arg6 c1_i32_11
  let c256_i32 : BitVec 32 := 256#32
  let v24 : BitVec 32 := Scalar.muli v16 c256_i32
  v24
def k0_off4 (k0_t1 : Fin k0_t1_loop.trips) : Fin 2 → Nat :=
  let c0_i32 : BitVec 32 := 0#32
  let c1_i32 : BitVec 32 := 1#32
  let arg6 : BitVec 32 := Scf.iv c0_i32 c1_i32 k0_t1
  let c256_i32_16 : BitVec 32 := 256#32
  let v26 : BitVec 32 := Scalar.muli arg6 c256_i32_16
  let v27 : Index := Scalar.indexCast v26
  let c0 : Index := 0#32
  ![v27.toNat, 0]
def k0_off5 (k0_t1 : Fin k0_t1_loop.trips) : Fin 3 → Nat :=
  let c0_i32 : BitVec 32 := 0#32
  let c1_i32 : BitVec 32 := 1#32
  let arg6 : BitVec 32 := Scf.iv c0_i32 c1_i32 k0_t1
  let c1_i32_12 : BitVec 32 := 1#32
  let v17 : BitVec 32 := Scalar.divsi arg6 c1_i32_12
  let c2_i32 : BitVec 32 := 2#32
  let v18 : BitVec 32 := Scalar.remsi v17 c2_i32
  let c0_i32_63 : BitVec 32 := 0#32
  let c0_i32_64 : BitVec 32 := 0#32
  ![v18.toNat, 0, 0]
def k0_off6 (k0_t1 : Fin k0_t1_loop.trips) : Fin 2 → Nat :=
  let c0_i32 : BitVec 32 := 0#32
  let c1_i32 : BitVec 32 := 1#32
  let arg6 : BitVec 32 := Scf.iv c0_i32 c1_i32 k0_t1
  let c1_i32_11 : BitVec 32 := 1#32
  let v16 : BitVec 32 := Scalar.remsi arg6 c1_i32_11
  let c256_i32 : BitVec 32 := 256#32
  let v24 : BitVec 32 := Scalar.muli v16 c256_i32
  let v25 : BitVec 32 := v24
  let c0_i32_65 : BitVec 32 := 0#32
  ![v25.toNat, 0]
def k0_cond2 (k0_t1 : Fin k0_t1_loop.trips) : BitVec 1 :=
  let c0_i32 : BitVec 32 := 0#32
  let c1_i32 : BitVec 32 := 1#32
  let arg6 : BitVec 32 := Scf.iv c0_i32 c1_i32 k0_t1
  let c1_i32_11 : BitVec 32 := 1#32
  let v16 : BitVec 32 := Scalar.remsi arg6 c1_i32_11
  let c0_i32_491 : BitVec 32 := 0#32
  let v1420 : BitVec 1 := Scalar.cmpi .eq v16 c0_i32_491
  let v1421 : BitVec 32 := Scalar.extui v1420
  let c0_i32_492 : BitVec 32 := 0#32
  let v1422 : BitVec 1 := Scalar.cmpi .ne v1421 c0_i32_492
  v1422

def k0_mult3 (i : grid0.Coords) (k0_t1 : Fin k0_t1_loop.trips) : BitVec 32 :=
  let arg0 : BitVec 32 := BitVec.ofNat 32 (i 0).val
  let c16384_i32 : BitVec 32 := 16384#32
  let v0 : BitVec 32 := Scalar.muli arg0 c16384_i32
  let c0_i32 : BitVec 32 := 0#32
  let c1_i32 : BitVec 32 := 1#32
  let arg6 : BitVec 32 := Scf.iv c0_i32 c1_i32 k0_t1
  let c1_i32_12 : BitVec 32 := 1#32
  let v17 : BitVec 32 := Scalar.divsi arg6 c1_i32_12
  let c256_i32_493 : BitVec 32 := 256#32
  let v1423 : BitVec 32 := Scalar.muli v17 c256_i32_493
  let v1424 : BitVec 32 := Scalar.addi v0 v1423
  v1424
def k0_off7 (k0_t1 : Fin k0_t1_loop.trips) : Fin 1 → Nat :=
  let c0_i32 : BitVec 32 := 0#32
  let c1_i32 : BitVec 32 := 1#32
  let arg6 : BitVec 32 := Scf.iv c0_i32 c1_i32 k0_t1
  let c1_i32_12 : BitVec 32 := 1#32
  let v17 : BitVec 32 := Scalar.divsi arg6 c1_i32_12
  let c2_i32 : BitVec 32 := 2#32
  let v18 : BitVec 32 := Scalar.remsi v17 c2_i32
  ![v18.toNat]
def k0_off8 (i : grid0.Coords) (k0_t1 : Fin k0_t1_loop.trips) : Fin 2 → Nat :=
  let arg0 : BitVec 32 := BitVec.ofNat 32 (i 0).val
  let c16384_i32 : BitVec 32 := 16384#32
  let v0 : BitVec 32 := Scalar.muli arg0 c16384_i32
  let c0_i32 : BitVec 32 := 0#32
  let c1_i32 : BitVec 32 := 1#32
  let arg6 : BitVec 32 := Scf.iv c0_i32 c1_i32 k0_t1
  let c1_i32_12 : BitVec 32 := 1#32
  let v17 : BitVec 32 := Scalar.divsi arg6 c1_i32_12
  let c256_i32_493 : BitVec 32 := 256#32
  let v1423 : BitVec 32 := Scalar.muli v17 c256_i32_493
  let v1424 : BitVec 32 := Scalar.addi v0 v1423
  let v1425 : BitVec 32 := v1424
  let c0_i32_494 : BitVec 32 := 0#32
  ![v1425.toNat, 0]
def k0_off9 (k0_t1 : Fin k0_t1_loop.trips) : Fin 3 → Nat :=
  let c0_i32 : BitVec 32 := 0#32
  let c1_i32 : BitVec 32 := 1#32
  let arg6 : BitVec 32 := Scf.iv c0_i32 c1_i32 k0_t1
  let c1_i32_12 : BitVec 32 := 1#32
  let v17 : BitVec 32 := Scalar.divsi arg6 c1_i32_12
  let c2_i32 : BitVec 32 := 2#32
  let v18 : BitVec 32 := Scalar.remsi v17 c2_i32
  let c0_i32_495 : BitVec 32 := 0#32
  let c0_i32_496 : BitVec 32 := 0#32
  ![v18.toNat, 0, 0]
def k0_mult4 (i : grid0.Coords) : BitVec 32 :=
  let arg0 : BitVec 32 := BitVec.ofNat 32 (i 0).val
  let c16384_i32 : BitVec 32 := 16384#32
  let v0 : BitVec 32 := Scalar.muli arg0 c16384_i32
  let c15872_i32 : BitVec 32 := 15872#32
  let v2 : BitVec 32 := Scalar.addi v0 c15872_i32
  v2
def k0_off10 (i : grid0.Coords) (c15872_i32 : BitVec 32) : Fin 2 → Nat :=
  let arg0 : BitVec 32 := BitVec.ofNat 32 (i 0).val
  let c16384_i32 : BitVec 32 := 16384#32
  let v0 : BitVec 32 := Scalar.muli arg0 c16384_i32
  let v2 : BitVec 32 := Scalar.addi v0 c15872_i32
  let v3 : BitVec 32 := v2
  let c0_i32_3 : BitVec 32 := 0#32
  ![v3.toNat, 0]
def k0_mult5 (i : grid0.Coords) : BitVec 32 :=
  let arg0 : BitVec 32 := BitVec.ofNat 32 (i 0).val
  let c16384_i32 : BitVec 32 := 16384#32
  let v0 : BitVec 32 := Scalar.muli arg0 c16384_i32
  let c16128_i32 : BitVec 32 := 16128#32
  let v9 : BitVec 32 := Scalar.addi v0 c16128_i32
  v9
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16384x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S40x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== ReferenceIdeal.lean ====
abbrev S32768x6 : Shape := ⟨2, ![32768, 6]⟩
abbrev S17 : Shape := ⟨1, ![17]⟩
abbrev S32768x2x3 : Shape := ⟨3, ![32768, 2, 3]⟩
abbrev S32768x2x1 : Shape := ⟨3, ![32768, 2, 1]⟩
abbrev S32768x2 : Shape := ⟨2, ![32768, 2]⟩
abbrev S_ : Shape := ⟨0, ![]⟩
abbrev S32768x2x17 : Shape := ⟨3, ![32768, 2, 17]⟩
abbrev S1x1x17 : Shape := ⟨3, ![1, 1, 17]⟩
abbrev S32768x2x5 : Shape := ⟨3, ![32768, 2, 5]⟩
abbrev S32768x2x7 : Shape := ⟨3, ![32768, 2, 7]⟩
abbrev S32768x2x9 : Shape := ⟨3, ![32768, 2, 9]⟩
abbrev S32768x2x11 : Shape := ⟨3, ![32768, 2, 11]⟩
abbrev S32768x2x13 : Shape := ⟨3, ![32768, 2, 13]⟩
abbrev S32768x2x15 : Shape := ⟨3, ![32768, 2, 15]⟩
abbrev S32768x2x81 : Shape := ⟨3, ![32768, 2, 81]⟩
abbrev S32768x1x81 : Shape := ⟨3, ![32768, 1, 81]⟩
abbrev S32768x81 : Shape := ⟨2, ![32768, 81]⟩
abbrev S32768x81x1 : Shape := ⟨3, ![32768, 81, 1]⟩
abbrev S32768x81x81 : Shape := ⟨3, ![32768, 81, 81]⟩
abbrev S32768x6561 : Shape := ⟨2, ![32768, 6561]⟩

abbrev nBuf : Space → Nat
  | .hbm => 508
  | .vmem => 0
  | .smem => 0
  | _ => 0

abbrev hbmTy0_0 (i : Nat) : BufTy := match i % 128 with
  | 0 => ⟨S32768x6, .f32⟩
  | 1 => ⟨S17, .f32⟩
  | 2 => ⟨S17, .f32⟩
  | 3 => ⟨S17, .f32⟩
  | 4 => ⟨S17, .f32⟩
  | 5 => ⟨S17, .f32⟩
  | 6 => ⟨S17, .f32⟩
  | 7 => ⟨S17, .f32⟩
  | 8 => ⟨S17, .f32⟩
  | 9 => ⟨S17, .f32⟩
  | 10 => ⟨S17, .f32⟩
  | 11 => ⟨S17, .f32⟩
  | 12 => ⟨S17, .f32⟩
  | 13 => ⟨S17, .f32⟩
  | 14 => ⟨S17, .f32⟩
  | 15 => ⟨S17, .f32⟩
  | 16 => ⟨S17, .f32⟩
  | 17 => ⟨S17, .f32⟩
  | 18 => ⟨S17, .f32⟩
  | 19 => ⟨S32768x2x3, .f32⟩
  | 20 => ⟨S32768x2x1, .f32⟩
  | 21 => ⟨S32768x2, .f32⟩
  | 22 => ⟨S32768x2x1, .f32⟩
  | 23 => ⟨S32768x2, .f32⟩
  | 24 => ⟨S32768x2x1, .f32⟩
  | 25 => ⟨S32768x2, .f32⟩
  | 26 => ⟨S32768x2, .f32⟩
  | 27 => ⟨S32768x2, .f32⟩
  | 28 => ⟨S32768x2, .f32⟩
  | 29 => ⟨S32768x2, .f32⟩
  | 30 => ⟨S32768x2, .f32⟩
  | 31 => ⟨S32768x2, .f32⟩
  | 32 => ⟨S32768x2, .f32⟩
  | 33 => ⟨S32768x2, .f32⟩
  | 34 => ⟨S_, .f32⟩
  | 35 => ⟨S_, .f32⟩
  | 36 => ⟨S_, .f32⟩
  | 37 => ⟨S32768x2, .f32⟩
  | 38 => ⟨S32768x2, .f32⟩
  | 39 => ⟨S_, .f32⟩
  | 40 => ⟨S32768x2, .f32⟩
  | 41 => ⟨S32768x2, .f32⟩
  | 42 => ⟨S32768x2, .f32⟩
  | 43 => ⟨S32768x2, .f32⟩
  | 44 => ⟨S32768x2x1, .f32⟩
  | 45 => ⟨S32768x2, .f32⟩
  | 46 => ⟨S32768x2x1, .f32⟩
  | 47 => ⟨S17, .i32⟩
  | 48 => ⟨S_, .i32⟩
  | 49 => ⟨S17, .i32⟩
  | 50 => ⟨S17, .i32⟩
  | 51 => ⟨S17, .i32⟩
  | 52 => ⟨S17, .f32⟩
  | 53 => ⟨S_, .f32⟩
  | 54 => ⟨S32768x2x1, .f32⟩
  | 55 => ⟨S_, .f32⟩
  | 56 => ⟨S32768x2x1, .f32⟩
  | 57 => ⟨S32768x2x1, .f32⟩
  | 58 => ⟨S32768x2x1, .f32⟩
  | 59 => ⟨S_, .f32⟩
  | 60 => ⟨S32768x2x1, .f32⟩
  | 61 => ⟨S32768x2x1, .f32⟩
  | 62 => ⟨S32768x2x1, .f32⟩
  | 63 => ⟨S_, .f32⟩
  | 64 => ⟨S32768x2x1, .f32⟩
  | 65 => ⟨S32768x2x1, .f32⟩
  | 66 => ⟨S32768x2x1, .f32⟩
  | 67 => ⟨S_, .f32⟩
  | 68 => ⟨S32768x2x1, .f32⟩
  | 69 => ⟨S32768x2x1, .f32⟩
  | 70 => ⟨S32768x2x1, .f32⟩
  | 71 => ⟨S_, .f32⟩
  | 72 => ⟨S32768x2x1, .f32⟩
  | 73 => ⟨S32768x2x1, .f32⟩
  | 74 => ⟨S32768x2x1, .f32⟩
  | 75 => ⟨S_, .f32⟩
  | 76 => ⟨S32768x2x1, .f32⟩
  | 77 => ⟨S32768x2x1, .f32⟩
  | 78 => ⟨S32768x2x1, .f32⟩
  | 79 => ⟨S_, .f32⟩
  | 80 => ⟨S32768x2x1, .f32⟩
  | 81 => ⟨S32768x2x1, .f32⟩
  | 82 => ⟨S32768x2x1, .f32⟩
  | 83 => ⟨S_, .f32⟩
  | 84 => ⟨S32768x2x1, .f32⟩
  | 85 => ⟨S32768x2x1, .f32⟩
  | 86 => ⟨S32768x2x1, .f32⟩
  | 87 => ⟨S_, .i32⟩
  | 88 => ⟨S17, .i32⟩
  | 89 => ⟨S17, .i1⟩
  | 90 => ⟨S_, .f32⟩
  | 91 => ⟨S_, .f32⟩
  | 92 => ⟨S32768x2x17, .i1⟩
  | 93 => ⟨S32768x2x17, .f32⟩
  | 94 => ⟨S32768x2x17, .f32⟩
  | 95 => ⟨S32768x2x17, .f32⟩
  | 96 => ⟨S_, .i32⟩
  | 97 => ⟨S17, .i32⟩
  | 98 => ⟨S17, .i1⟩
  | 99 => ⟨S_, .f32⟩
  | 100 => ⟨S_, .f32⟩
  | 101 => ⟨S32768x2x17, .i1⟩
  | 102 => ⟨S32768x2x17, .f32⟩
  | 103 => ⟨S32768x2x17, .f32⟩
  | 104 => ⟨S32768x2x17, .f32⟩
  | 105 => ⟨S_, .i32⟩
  | 106 => ⟨S17, .i32⟩
  | 107 => ⟨S17, .i1⟩
  | 108 => ⟨S_, .f32⟩
  | 109 => ⟨S32768x2x1, .f32⟩
  | 110 => ⟨S32768x2x1, .f32⟩
  | 111 => ⟨S32768x2x17, .f32⟩
  | 112 => ⟨S32768x2x17, .f32⟩
  | 113 => ⟨S32768x2x17, .i1⟩
  | 114 => ⟨S32768x2x17, .f32⟩
  | 115 => ⟨S_, .i32⟩
  | 116 => ⟨S17, .i32⟩
  | 117 => ⟨S17, .i1⟩
  | 118 => ⟨S_, .f32⟩
  | 119 => ⟨S_, .f32⟩
  | 120 => ⟨S32768x2x17, .i1⟩
  | 121 => ⟨S32768x2x17, .f32⟩
  | 122 => ⟨S32768x2x17, .f32⟩
  | 123 => ⟨S32768x2x17, .f32⟩
  | 124 => ⟨S_, .i32⟩
  | 125 => ⟨S17, .i32⟩
  | 126 => ⟨S17, .i1⟩
  | 127 => ⟨S_, .f32⟩
  | _ => ⟨S32768x6, .f32⟩

abbrev hbmTy0_1 (i : Nat) : BufTy := match i % 128 with
  | 0 => ⟨S32768x2x1, .f32⟩
  | 1 => ⟨S32768x2x1, .f32⟩
  | 2 => ⟨S32768x2x17, .f32⟩
  | 3 => ⟨S32768x2x17, .f32⟩
  | 4 => ⟨S_, .f32⟩
  | 5 => ⟨S17, .f32⟩
  | 6 => ⟨S17, .f32⟩
  | 7 => ⟨S1x1x17, .f32⟩
  | 8 => ⟨S32768x2x17, .f32⟩
  | 9 => ⟨S32768x2x17, .f32⟩
  | 10 => ⟨S32768x2x17, .f32⟩
  | 11 => ⟨S_, .f32⟩
  | 12 => ⟨S17, .f32⟩
  | 13 => ⟨S17, .f32⟩
  | 14 => ⟨S1x1x17, .f32⟩
  | 15 => ⟨S32768x2x17, .f32⟩
  | 16 => ⟨S32768x2x17, .f32⟩
  | 17 => ⟨S32768x2x17, .i1⟩
  | 18 => ⟨S32768x2x17, .f32⟩
  | 19 => ⟨S_, .i32⟩
  | 20 => ⟨S17, .i32⟩
  | 21 => ⟨S17, .i1⟩
  | 22 => ⟨S_, .f32⟩
  | 23 => ⟨S_, .f32⟩
  | 24 => ⟨S32768x2x17, .i1⟩
  | 25 => ⟨S32768x2x17, .f32⟩
  | 26 => ⟨S32768x2x17, .f32⟩
  | 27 => ⟨S32768x2x17, .f32⟩
  | 28 => ⟨S_, .i32⟩
  | 29 => ⟨S17, .i32⟩
  | 30 => ⟨S17, .i1⟩
  | 31 => ⟨S_, .f32⟩
  | 32 => ⟨S32768x2x1, .f32⟩
  | 33 => ⟨S32768x2x1, .f32⟩
  | 34 => ⟨S32768x2x17, .f32⟩
  | 35 => ⟨S32768x2x17, .f32⟩
  | 36 => ⟨S_, .f32⟩
  | 37 => ⟨S17, .f32⟩
  | 38 => ⟨S17, .f32⟩
  | 39 => ⟨S1x1x17, .f32⟩
  | 40 => ⟨S32768x2x17, .f32⟩
  | 41 => ⟨S32768x2x17, .f32⟩
  | 42 => ⟨S32768x2x17, .f32⟩
  | 43 => ⟨S_, .f32⟩
  | 44 => ⟨S17, .f32⟩
  | 45 => ⟨S17, .f32⟩
  | 46 => ⟨S1x1x17, .f32⟩
  | 47 => ⟨S32768x2x17, .f32⟩
  | 48 => ⟨S32768x2x17, .f32⟩
  | 49 => ⟨S32768x2x17, .i1⟩
  | 50 => ⟨S32768x2x17, .f32⟩
  | 51 => ⟨S_, .i32⟩
  | 52 => ⟨S17, .i32⟩
  | 53 => ⟨S17, .i1⟩
  | 54 => ⟨S_, .f32⟩
  | 55 => ⟨S_, .f32⟩
  | 56 => ⟨S32768x2x17, .i1⟩
  | 57 => ⟨S32768x2x17, .f32⟩
  | 58 => ⟨S32768x2x17, .f32⟩
  | 59 => ⟨S32768x2x17, .f32⟩
  | 60 => ⟨S_, .i32⟩
  | 61 => ⟨S17, .i32⟩
  | 62 => ⟨S17, .i1⟩
  | 63 => ⟨S_, .f32⟩
  | 64 => ⟨S32768x2x1, .f32⟩
  | 65 => ⟨S32768x2x1, .f32⟩
  | 66 => ⟨S32768x2x17, .f32⟩
  | 67 => ⟨S32768x2x17, .f32⟩
  | 68 => ⟨S_, .f32⟩
  | 69 => ⟨S17, .f32⟩
  | 70 => ⟨S17, .f32⟩
  | 71 => ⟨S1x1x17, .f32⟩
  | 72 => ⟨S32768x2x17, .f32⟩
  | 73 => ⟨S32768x2x17, .f32⟩
  | 74 => ⟨S32768x2x17, .f32⟩
  | 75 => ⟨S_, .f32⟩
  | 76 => ⟨S17, .f32⟩
  | 77 => ⟨S17, .f32⟩
  | 78 => ⟨S1x1x17, .f32⟩
  | 79 => ⟨S32768x2x17, .f32⟩
  | 80 => ⟨S32768x2x17, .f32⟩
  | 81 => ⟨S32768x2x17, .i1⟩
  | 82 => ⟨S32768x2x17, .f32⟩
  | 83 => ⟨S_, .i32⟩
  | 84 => ⟨S17, .i32⟩
  | 85 => ⟨S17, .i1⟩
  | 86 => ⟨S_, .f32⟩
  | 87 => ⟨S_, .f32⟩
  | 88 => ⟨S32768x2x17, .i1⟩
  | 89 => ⟨S32768x2x17, .f32⟩
  | 90 => ⟨S32768x2x17, .f32⟩
  | 91 => ⟨S32768x2x17, .f32⟩
  | 92 => ⟨S_, .i32⟩
  | 93 => ⟨S17, .i32⟩
  | 94 => ⟨S17, .i1⟩
  | 95 => ⟨S_, .f32⟩
  | 96 => ⟨S32768x2x1, .f32⟩
  | 97 => ⟨S32768x2x1, .f32⟩
  | 98 => ⟨S32768x2x17, .f32⟩
  | 99 => ⟨S32768x2x17, .f32⟩
  | 100 => ⟨S_, .f32⟩
  | 101 => ⟨S17, .f32⟩
  | 102 => ⟨S17, .f32⟩
  | 103 => ⟨S1x1x17, .f32⟩
  | 104 => ⟨S32768x2x17, .f32⟩
  | 105 => ⟨S32768x2x17, .f32⟩
  | 106 => ⟨S32768x2x17, .f32⟩
  | 107 => ⟨S_, .f32⟩
  | 108 => ⟨S17, .f32⟩
  | 109 => ⟨S17, .f32⟩
  | 110 => ⟨S1x1x17, .f32⟩
  | 111 => ⟨S32768x2x17, .f32⟩
  | 112 => ⟨S32768x2x17, .f32⟩
  | 113 => ⟨S32768x2x17, .i1⟩
  | 114 => ⟨S32768x2x17, .f32⟩
  | 115 => ⟨S_, .i32⟩
  | 116 => ⟨S17, .i32⟩
  | 117 => ⟨S17, .i1⟩
  | 118 => ⟨S_, .f32⟩
  | 119 => ⟨S_, .f32⟩
  | 120 => ⟨S32768x2x17, .i1⟩
  | 121 => ⟨S32768x2x17, .f32⟩
  | 122 => ⟨S32768x2x17, .f32⟩
  | 123 => ⟨S32768x2x17, .f32⟩
  | 124 => ⟨S_, .i32⟩
  | 125 => ⟨S17, .i32⟩
  | 126 => ⟨S17, .i1⟩
  | 127 => ⟨S_, .f32⟩
  | _ => ⟨S32768x6, .f32⟩

abbrev hbmTy0_2 (i : Nat) : BufTy := match i % 128 with
  | 0 => ⟨S32768x2x1, .f32⟩
  | 1 => ⟨S32768x2x1, .f32⟩
  | 2 => ⟨S32768x2x17, .f32⟩
  | 3 => ⟨S32768x2x17, .f32⟩
  | 4 => ⟨S_, .f32⟩
  | 5 => ⟨S17, .f32⟩
  | 6 => ⟨S17, .f32⟩
  | 7 => ⟨S1x1x17, .f32⟩
  | 8 => ⟨S32768x2x17, .f32⟩
  | 9 => ⟨S32768x2x17, .f32⟩
  | 10 => ⟨S32768x2x17, .f32⟩
  | 11 => ⟨S_, .f32⟩
  | 12 => ⟨S17, .f32⟩
  | 13 => ⟨S17, .f32⟩
  | 14 => ⟨S1x1x17, .f32⟩
  | 15 => ⟨S32768x2x17, .f32⟩
  | 16 => ⟨S32768x2x17, .f32⟩
  | 17 => ⟨S32768x2x17, .i1⟩
  | 18 => ⟨S32768x2x17, .f32⟩
  | 19 => ⟨S_, .i32⟩
  | 20 => ⟨S17, .i32⟩
  | 21 => ⟨S17, .i1⟩
  | 22 => ⟨S_, .f32⟩
  | 23 => ⟨S_, .f32⟩
  | 24 => ⟨S32768x2x17, .i1⟩
  | 25 => ⟨S32768x2x17, .f32⟩
  | 26 => ⟨S32768x2x17, .f32⟩
  | 27 => ⟨S32768x2x17, .f32⟩
  | 28 => ⟨S_, .i32⟩
  | 29 => ⟨S17, .i32⟩
  | 30 => ⟨S17, .i1⟩
  | 31 => ⟨S_, .f32⟩
  | 32 => ⟨S32768x2x1, .f32⟩
  | 33 => ⟨S32768x2x1, .f32⟩
  | 34 => ⟨S32768x2x17, .f32⟩
  | 35 => ⟨S32768x2x17, .f32⟩
  | 36 => ⟨S_, .f32⟩
  | 37 => ⟨S17, .f32⟩
  | 38 => ⟨S17, .f32⟩
  | 39 => ⟨S1x1x17, .f32⟩
  | 40 => ⟨S32768x2x17, .f32⟩
  | 41 => ⟨S32768x2x17, .f32⟩
  | 42 => ⟨S32768x2x17, .f32⟩
  | 43 => ⟨S_, .f32⟩
  | 44 => ⟨S17, .f32⟩
  | 45 => ⟨S17, .f32⟩
  | 46 => ⟨S1x1x17, .f32⟩
  | 47 => ⟨S32768x2x17, .f32⟩
  | 48 => ⟨S32768x2x17, .f32⟩
  | 49 => ⟨S32768x2x17, .i1⟩
  | 50 => ⟨S32768x2x17, .f32⟩
  | 51 => ⟨S_, .i32⟩
  | 52 => ⟨S17, .i32⟩
  | 53 => ⟨S17, .i1⟩
  | 54 => ⟨S_, .f32⟩
  | 55 => ⟨S_, .f32⟩
  | 56 => ⟨S32768x2x17, .i1⟩
  | 57 => ⟨S32768x2x17, .f32⟩
  | 58 => ⟨S32768x2x17, .f32⟩
  | 59 => ⟨S32768x2x17, .f32⟩
  | 60 => ⟨S_, .i32⟩
  | 61 => ⟨S17, .i32⟩
  | 62 => ⟨S17, .i1⟩
  | 63 => ⟨S_, .f32⟩
  | 64 => ⟨S32768x2x1, .f32⟩
  | 65 => ⟨S32768x2x1, .f32⟩
  | 66 => ⟨S32768x2x17, .f32⟩
  | 67 => ⟨S32768x2x17, .f32⟩
  | 68 => ⟨S_, .f32⟩
  | 69 => ⟨S17, .f32⟩
  | 70 => ⟨S17, .f32⟩
  | 71 => ⟨S1x1x17, .f32⟩
  | 72 => ⟨S32768x2x17, .f32⟩
  | 73 => ⟨S32768x2x17, .f32⟩
  | 74 => ⟨S32768x2x17, .f32⟩
  | 75 => ⟨S_, .f32⟩
  | 76 => ⟨S17, .f32⟩
  | 77 => ⟨S17, .f32⟩
  | 78 => ⟨S1x1x17, .f32⟩
  | 79 => ⟨S32768x2x17, .f32⟩
  | 80 => ⟨S32768x2x17, .f32⟩
  | 81 => ⟨S32768x2x17, .i1⟩
  | 82 => ⟨S32768x2x17, .f32⟩
  | 83 => ⟨S32768x2x1, .f32⟩
  | 84 => ⟨S1x1x17, .f32⟩
  | 85 => ⟨S32768x2x17, .f32⟩
  | 86 => ⟨S32768x2x17, .f32⟩
  | 87 => ⟨S32768x2x17, .f32⟩
  | 88 => ⟨S_, .i32⟩
  | 89 => ⟨S17, .i32⟩
  | 90 => ⟨S17, .i1⟩
  | 91 => ⟨S_, .f32⟩
  | 92 => ⟨S_, .f32⟩
  | 93 => ⟨S_, .i32⟩
  | 94 => ⟨S17, .i32⟩
  | 95 => ⟨S17, .i1⟩
  | 96 => ⟨S32768x2x17, .f32⟩
  | 97 => ⟨S32768x2x17, .f32⟩
  | 98 => ⟨S32768x2x17, .i1⟩
  | 99 => ⟨S32768x2x17, .f32⟩
  | 100 => ⟨S32768x2x17, .f32⟩
  | 101 => ⟨S32768x2x17, .f32⟩
  | 102 => ⟨S_, .f32⟩
  | 103 => ⟨S_, .f32⟩
  | 104 => ⟨S32768x2x17, .i1⟩
  | 105 => ⟨S32768x2x17, .f32⟩
  | 106 => ⟨S32768x2x17, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S17, .f32⟩
  | 114 => ⟨S17, .f32⟩
  | 115 => ⟨S17, .f32⟩
  | 116 => ⟨S17, .f32⟩
  | 117 => ⟨S1x1x17, .f32⟩
  | 118 => ⟨S32768x2x17, .f32⟩
  | 119 => ⟨S32768x2x17, .f32⟩
  | 120 => ⟨S32768x2x17, .f32⟩
  | 121 => ⟨S32768x2x1, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S32768x6, .f32⟩

abbrev hbmTy0_3 (i : Nat) : BufTy := match i % 128 with
  | 0 => ⟨S17, .f32⟩
  | 1 => ⟨S17, .f32⟩
  | 2 => ⟨S17, .f32⟩
  | 3 => ⟨S17, .f32⟩
  | 4 => ⟨S1x1x17, .f32⟩
  | 5 => ⟨S32768x2x17, .f32⟩
  | 6 => ⟨S32768x2x17, .f32⟩
  | 7 => ⟨S32768x2x17, .f32⟩
  | 8 => ⟨S32768x2x3, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S17, .f32⟩
  | 16 => ⟨S17, .f32⟩
  | 17 => ⟨S17, .f32⟩
  | 18 => ⟨S17, .f32⟩
  | 19 => ⟨S1x1x17, .f32⟩
  | 20 => ⟨S32768x2x17, .f32⟩
  | 21 => ⟨S32768x2x17, .f32⟩
  | 22 => ⟨S32768x2x17, .f32⟩
  | 23 => ⟨S32768x2x5, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S17, .f32⟩
  | 31 => ⟨S17, .f32⟩
  | 32 => ⟨S17, .f32⟩
  | 33 => ⟨S17, .f32⟩
  | 34 => ⟨S1x1x17, .f32⟩
  | 35 => ⟨S32768x2x17, .f32⟩
  | 36 => ⟨S32768x2x17, .f32⟩
  | 37 => ⟨S32768x2x17, .f32⟩
  | 38 => ⟨S32768x2x7, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S17, .f32⟩
  | 46 => ⟨S17, .f32⟩
  | 47 => ⟨S17, .f32⟩
  | 48 => ⟨S17, .f32⟩
  | 49 => ⟨S1x1x17, .f32⟩
  | 50 => ⟨S32768x2x17, .f32⟩
  | 51 => ⟨S32768x2x17, .f32⟩
  | 52 => ⟨S32768x2x17, .f32⟩
  | 53 => ⟨S32768x2x9, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S17, .f32⟩
  | 61 => ⟨S17, .f32⟩
  | 62 => ⟨S17, .f32⟩
  | 63 => ⟨S17, .f32⟩
  | 64 => ⟨S1x1x17, .f32⟩
  | 65 => ⟨S32768x2x17, .f32⟩
  | 66 => ⟨S32768x2x17, .f32⟩
  | 67 => ⟨S32768x2x17, .f32⟩
  | 68 => ⟨S32768x2x11, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S17, .f32⟩
  | 76 => ⟨S17, .f32⟩
  | 77 => ⟨S17, .f32⟩
  | 78 => ⟨S17, .f32⟩
  | 79 => ⟨S1x1x17, .f32⟩
  | 80 => ⟨S32768x2x17, .f32⟩
  | 81 => ⟨S32768x2x17, .f32⟩
  | 82 => ⟨S32768x2x17, .f32⟩
  | 83 => ⟨S32768x2x13, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S17, .f32⟩
  | 91 => ⟨S17, .f32⟩
  | 92 => ⟨S17, .f32⟩
  | 93 => ⟨S17, .f32⟩
  | 94 => ⟨S1x1x17, .f32⟩
  | 95 => ⟨S32768x2x17, .f32⟩
  | 96 => ⟨S32768x2x17, .f32⟩
  | 97 => ⟨S32768x2x17, .f32⟩
  | 98 => ⟨S32768x2x15, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S17, .f32⟩
  | 106 => ⟨S17, .f32⟩
  | 107 => ⟨S17, .f32⟩
  | 108 => ⟨S17, .f32⟩
  | 109 => ⟨S1x1x17, .f32⟩
  | 110 => ⟨S32768x2x17, .f32⟩
  | 111 => ⟨S32768x2x17, .f32⟩
  | 112 => ⟨S32768x2x17, .f32⟩
  | 113 => ⟨S32768x2x81, .f32⟩
  | 114 => ⟨S32768x1x81, .f32⟩
  | 115 => ⟨S32768x81, .f32⟩
  | 116 => ⟨S32768x1x81, .f32⟩
  | 117 => ⟨S32768x81, .f32⟩
  | 118 => ⟨S32768x81x1, .f32⟩
  | 119 => ⟨S32768x1x81, .f32⟩
  | 120 => ⟨S32768x81x81, .f32⟩
  | 121 => ⟨S32768x81x81, .f32⟩
  | 122 => ⟨S32768x81x81, .f32⟩
  | 123 => ⟨S32768x6561, .f32⟩
  | _ => ⟨S32768x6, .f32⟩

abbrev hbmTy (i : Nat) : BufTy := match i / 128 with
  | 0 => hbmTy0_0 i
  | 1 => hbmTy0_1 i
  | 2 => hbmTy0_2 i
  | 3 => hbmTy0_3 i
  | _ => ⟨S32768x6, .f32⟩

abbrev bufTy : (tb : Table) → Fin (tcTables nBuf tb) → BufTy
  | .hbm, ⟨i, _⟩ => hbmTy i
  | _, _ => ⟨S32768x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_cst_1 : Ref sig .tc := ⟨.hbm, 3, rfl⟩
abbrev main_cst_2 : Ref sig .tc := ⟨.hbm, 4, rfl⟩
abbrev main_cst_3 : Ref sig .tc := ⟨.hbm, 5, rfl⟩
abbrev main_cst_4 : Ref sig .tc := ⟨.hbm, 6, rfl⟩
abbrev main_cst_5 : Ref sig .tc := ⟨.hbm, 7, rfl⟩
abbrev main_cst_6 : Ref sig .tc := ⟨.hbm, 8, rfl⟩
abbrev main_cst_7 : Ref sig .tc := ⟨.hbm, 9, rfl⟩
abbrev main_cst_8 : Ref sig .tc := ⟨.hbm, 10, rfl⟩
abbrev main_cst_9 : Ref sig .tc := ⟨.hbm, 11, rfl⟩
abbrev main_cst_10 : Ref sig .tc := ⟨.hbm, 12, rfl⟩
abbrev main_cst_11 : Ref sig .tc := ⟨.hbm, 13, rfl⟩
abbrev main_cst_12 : Ref sig .tc := ⟨.hbm, 14, rfl⟩
abbrev main_cst_13 : Ref sig .tc := ⟨.hbm, 15, rfl⟩
abbrev main_cst_14 : Ref sig .tc := ⟨.hbm, 16, rfl⟩
abbrev main_cst_15 : Ref sig .tc := ⟨.hbm, 17, rfl⟩
abbrev main_cst_16 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_17 : Ref sig .tc := ⟨.hbm, 34, rfl⟩
abbrev main_cst_18 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_c : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_cst_19 : Ref sig .tc := ⟨.hbm, 53, rfl⟩
abbrev main_v26 : Ref sig .tc := ⟨.hbm, 54, rfl⟩
abbrev main_cst_20 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_cst_21 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_cst_22 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_cst_23 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_cst_24 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_cst_25 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_cst_26 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_cst_27 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_c_28 : Ref sig .tc := ⟨.hbm, 87, rfl⟩
abbrev main_v51 : Ref sig .tc := ⟨.hbm, 88, rfl⟩
abbrev main_v52 : Ref sig .tc := ⟨.hbm, 89, rfl⟩
abbrev main_cst_29 : Ref sig .tc := ⟨.hbm, 90, rfl⟩
abbrev main_call1_v0 : Ref sig .tc := ⟨.hbm, 91, rfl⟩
abbrev main_call1_v1 : Ref sig .tc := ⟨.hbm, 92, rfl⟩
abbrev main_call1_v2 : Ref sig .tc := ⟨.hbm, 93, rfl⟩
abbrev main_call1_v3 : Ref sig .tc := ⟨.hbm, 94, rfl⟩
abbrev main_v53 : Ref sig .tc := ⟨.hbm, 95, rfl⟩
abbrev main_c_30 : Ref sig .tc := ⟨.hbm, 96, rfl⟩
abbrev main_v54 : Ref sig .tc := ⟨.hbm, 97, rfl⟩
abbrev main_v55 : Ref sig .tc := ⟨.hbm, 98, rfl⟩
abbrev main_cst_31 : Ref sig .tc := ⟨.hbm, 99, rfl⟩
abbrev main_call2_v0 : Ref sig .tc := ⟨.hbm, 100, rfl⟩
abbrev main_call2_v1 : Ref sig .tc := ⟨.hbm, 101, rfl⟩
abbrev main_call2_v2 : Ref sig .tc := ⟨.hbm, 102, rfl⟩
abbrev main_call2_v3 : Ref sig .tc := ⟨.hbm, 103, rfl⟩
abbrev main_v56 : Ref sig .tc := ⟨.hbm, 104, rfl⟩
abbrev main_c_32 : Ref sig .tc := ⟨.hbm, 105, rfl⟩
abbrev main_v57 : Ref sig .tc := ⟨.hbm, 106, rfl⟩
abbrev main_v58 : Ref sig .tc := ⟨.hbm, 107, rfl⟩
abbrev main_cst_33 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_call3_v0 : Ref sig .tc := ⟨.hbm, 113, rfl⟩
abbrev main_v63 : Ref sig .tc := ⟨.hbm, 114, rfl⟩
abbrev main_c_34 : Ref sig .tc := ⟨.hbm, 115, rfl⟩
abbrev main_v64 : Ref sig .tc := ⟨.hbm, 116, rfl⟩
abbrev main_v65 : Ref sig .tc := ⟨.hbm, 117, rfl⟩
abbrev main_cst_35 : Ref sig .tc := ⟨.hbm, 118, rfl⟩
abbrev main_call4_v0 : Ref sig .tc := ⟨.hbm, 119, rfl⟩
abbrev main_call4_v1 : Ref sig .tc := ⟨.hbm, 120, rfl⟩
abbrev main_call4_v2 : Ref sig .tc := ⟨.hbm, 121, rfl⟩
abbrev main_call4_v3 : Ref sig .tc := ⟨.hbm, 122, rfl⟩
abbrev main_v66 : Ref sig .tc := ⟨.hbm, 123, rfl⟩
abbrev main_c_36 : Ref sig .tc := ⟨.hbm, 124, rfl⟩
abbrev main_v67 : Ref sig .tc := ⟨.hbm, 125, rfl⟩
abbrev main_v68 : Ref sig .tc := ⟨.hbm, 126, rfl⟩
abbrev main_cst_37 : Ref sig .tc := ⟨.hbm, 127, rfl⟩
abbrev main_v69 : Ref sig .tc := ⟨.hbm, 128, rfl⟩
abbrev main_v70 : Ref sig .tc := ⟨.hbm, 129, rfl⟩
abbrev main_v71 : Ref sig .tc := ⟨.hbm, 130, rfl⟩
abbrev main_v72 : Ref sig .tc := ⟨.hbm, 131, rfl⟩
abbrev main_cst_38 : Ref sig .tc := ⟨.hbm, 132, rfl⟩
abbrev main_v73 : Ref sig .tc := ⟨.hbm, 133, rfl⟩
abbrev main_v74 : Ref sig .tc := ⟨.hbm, 134, rfl⟩
abbrev main_v75 : Ref sig .tc := ⟨.hbm, 135, rfl⟩
abbrev main_v76 : Ref sig .tc := ⟨.hbm, 136, rfl⟩
abbrev main_v77 : Ref sig .tc := ⟨.hbm, 137, rfl⟩
abbrev main_v78 : Ref sig .tc := ⟨.hbm, 138, rfl⟩
abbrev main_cst_39 : Ref sig .tc := ⟨.hbm, 139, rfl⟩
abbrev main_v79 : Ref sig .tc := ⟨.hbm, 140, rfl⟩
abbrev main_v80 : Ref sig .tc := ⟨.hbm, 141, rfl⟩
abbrev main_v81 : Ref sig .tc := ⟨.hbm, 142, rfl⟩
abbrev main_v82 : Ref sig .tc := ⟨.hbm, 143, rfl⟩
abbrev main_v83 : Ref sig .tc := ⟨.hbm, 144, rfl⟩
abbrev main_call5_v0 : Ref sig .tc := ⟨.hbm, 145, rfl⟩
abbrev main_v84 : Ref sig .tc := ⟨.hbm, 146, rfl⟩
abbrev main_c_40 : Ref sig .tc := ⟨.hbm, 147, rfl⟩
abbrev main_v85 : Ref sig .tc := ⟨.hbm, 148, rfl⟩
abbrev main_v86 : Ref sig .tc := ⟨.hbm, 149, rfl⟩
abbrev main_cst_41 : Ref sig .tc := ⟨.hbm, 150, rfl⟩
abbrev main_call6_v0 : Ref sig .tc := ⟨.hbm, 151, rfl⟩
abbrev main_call6_v1 : Ref sig .tc := ⟨.hbm, 152, rfl⟩
abbrev main_call6_v2 : Ref sig .tc := ⟨.hbm, 153, rfl⟩
abbrev main_call6_v3 : Ref sig .tc := ⟨.hbm, 154, rfl⟩
abbrev main_v87 : Ref sig .tc := ⟨.hbm, 155, rfl⟩
abbrev main_c_42 : Ref sig .tc := ⟨.hbm, 156, rfl⟩
abbrev main_v88 : Ref sig .tc := ⟨.hbm, 157, rfl⟩
abbrev main_v89 : Ref sig .tc := ⟨.hbm, 158, rfl⟩
abbrev main_cst_43 : Ref sig .tc := ⟨.hbm, 159, rfl⟩
abbrev main_v90 : Ref sig .tc := ⟨.hbm, 160, rfl⟩
abbrev main_v91 : Ref sig .tc := ⟨.hbm, 161, rfl⟩
abbrev main_v92 : Ref sig .tc := ⟨.hbm, 162, rfl⟩
abbrev main_v93 : Ref sig .tc := ⟨.hbm, 163, rfl⟩
abbrev main_cst_44 : Ref sig .tc := ⟨.hbm, 164, rfl⟩
abbrev main_v94 : Ref sig .tc := ⟨.hbm, 165, rfl⟩
abbrev main_v95 : Ref sig .tc := ⟨.hbm, 166, rfl⟩
abbrev main_v96 : Ref sig .tc := ⟨.hbm, 167, rfl⟩
abbrev main_v97 : Ref sig .tc := ⟨.hbm, 168, rfl⟩
abbrev main_v98 : Ref sig .tc := ⟨.hbm, 169, rfl⟩
abbrev main_v99 : Ref sig .tc := ⟨.hbm, 170, rfl⟩
abbrev main_cst_45 : Ref sig .tc := ⟨.hbm, 171, rfl⟩
abbrev main_v100 : Ref sig .tc := ⟨.hbm, 172, rfl⟩
abbrev main_v101 : Ref sig .tc := ⟨.hbm, 173, rfl⟩
abbrev main_v102 : Ref sig .tc := ⟨.hbm, 174, rfl⟩
abbrev main_v103 : Ref sig .tc := ⟨.hbm, 175, rfl⟩
abbrev main_v104 : Ref sig .tc := ⟨.hbm, 176, rfl⟩
abbrev main_call7_v0 : Ref sig .tc := ⟨.hbm, 177, rfl⟩
abbrev main_v105 : Ref sig .tc := ⟨.hbm, 178, rfl⟩
abbrev main_c_46 : Ref sig .tc := ⟨.hbm, 179, rfl⟩
abbrev main_v106 : Ref sig .tc := ⟨.hbm, 180, rfl⟩
abbrev main_v107 : Ref sig .tc := ⟨.hbm, 181, rfl⟩
abbrev main_cst_47 : Ref sig .tc := ⟨.hbm, 182, rfl⟩
abbrev main_call8_v0 : Ref sig .tc := ⟨.hbm, 183, rfl⟩
abbrev main_call8_v1 : Ref sig .tc := ⟨.hbm, 184, rfl⟩
abbrev main_call8_v2 : Ref sig .tc := ⟨.hbm, 185, rfl⟩
abbrev main_call8_v3 : Ref sig .tc := ⟨.hbm, 186, rfl⟩
abbrev main_v108 : Ref sig .tc := ⟨.hbm, 187, rfl⟩
abbrev main_c_48 : Ref sig .tc := ⟨.hbm, 188, rfl⟩
abbrev main_v109 : Ref sig .tc := ⟨.hbm, 189, rfl⟩
abbrev main_v110 : Ref sig .tc := ⟨.hbm, 190, rfl⟩
abbrev main_cst_49 : Ref sig .tc := ⟨.hbm, 191, rfl⟩
abbrev main_v111 : Ref sig .tc := ⟨.hbm, 192, rfl⟩
abbrev main_v112 : Ref sig .tc := ⟨.hbm, 193, rfl⟩
abbrev main_v113 : Ref sig .tc := ⟨.hbm, 194, rfl⟩
abbrev main_v114 : Ref sig .tc := ⟨.hbm, 195, rfl⟩
abbrev main_cst_50 : Ref sig .tc := ⟨.hbm, 196, rfl⟩
abbrev main_v115 : Ref sig .tc := ⟨.hbm, 197, rfl⟩
abbrev main_v116 : Ref sig .tc := ⟨.hbm, 198, rfl⟩
abbrev main_v117 : Ref sig .tc := ⟨.hbm, 199, rfl⟩
abbrev main_v118 : Ref sig .tc := ⟨.hbm, 200, rfl⟩
abbrev main_v119 : Ref sig .tc := ⟨.hbm, 201, rfl⟩
abbrev main_v120 : Ref sig .tc := ⟨.hbm, 202, rfl⟩
abbrev main_cst_51 : Ref sig .tc := ⟨.hbm, 203, rfl⟩
abbrev main_v121 : Ref sig .tc := ⟨.hbm, 204, rfl⟩
abbrev main_v122 : Ref sig .tc := ⟨.hbm, 205, rfl⟩
abbrev main_v123 : Ref sig .tc := ⟨.hbm, 206, rfl⟩
abbrev main_v124 : Ref sig .tc := ⟨.hbm, 207, rfl⟩
abbrev main_v125 : Ref sig .tc := ⟨.hbm, 208, rfl⟩
abbrev main_call9_v0 : Ref sig .tc := ⟨.hbm, 209, rfl⟩
abbrev main_v126 : Ref sig .tc := ⟨.hbm, 210, rfl⟩
abbrev main_c_52 : Ref sig .tc := ⟨.hbm, 211, rfl⟩
abbrev main_v127 : Ref sig .tc := ⟨.hbm, 212, rfl⟩
abbrev main_v128 : Ref sig .tc := ⟨.hbm, 213, rfl⟩
abbrev main_cst_53 : Ref sig .tc := ⟨.hbm, 214, rfl⟩
abbrev main_call10_v0 : Ref sig .tc := ⟨.hbm, 215, rfl⟩
abbrev main_call10_v1 : Ref sig .tc := ⟨.hbm, 216, rfl⟩
abbrev main_call10_v2 : Ref sig .tc := ⟨.hbm, 217, rfl⟩
abbrev main_call10_v3 : Ref sig .tc := ⟨.hbm, 218, rfl⟩
abbrev main_v129 : Ref sig .tc := ⟨.hbm, 219, rfl⟩
abbrev main_c_54 : Ref sig .tc := ⟨.hbm, 220, rfl⟩
abbrev main_v130 : Ref sig .tc := ⟨.hbm, 221, rfl⟩
abbrev main_v131 : Ref sig .tc := ⟨.hbm, 222, rfl⟩
abbrev main_cst_55 : Ref sig .tc := ⟨.hbm, 223, rfl⟩
abbrev main_v132 : Ref sig .tc := ⟨.hbm, 224, rfl⟩
abbrev main_v133 : Ref sig .tc := ⟨.hbm, 225, rfl⟩
abbrev main_v134 : Ref sig .tc := ⟨.hbm, 226, rfl⟩
abbrev main_v135 : Ref sig .tc := ⟨.hbm, 227, rfl⟩
abbrev main_cst_56 : Ref sig .tc := ⟨.hbm, 228, rfl⟩
abbrev main_v136 : Ref sig .tc := ⟨.hbm, 229, rfl⟩
abbrev main_v137 : Ref sig .tc := ⟨.hbm, 230, rfl⟩
abbrev main_v138 : Ref sig .tc := ⟨.hbm, 231, rfl⟩
abbrev main_v139 : Ref sig .tc := ⟨.hbm, 232, rfl⟩
abbrev main_v140 : Ref sig .tc := ⟨.hbm, 233, rfl⟩
abbrev main_v141 : Ref sig .tc := ⟨.hbm, 234, rfl⟩
abbrev main_cst_57 : Ref sig .tc := ⟨.hbm, 235, rfl⟩
abbrev main_v142 : Ref sig .tc := ⟨.hbm, 236, rfl⟩
abbrev main_v143 : Ref sig .tc := ⟨.hbm, 237, rfl⟩
abbrev main_v144 : Ref sig .tc := ⟨.hbm, 238, rfl⟩
abbrev main_v145 : Ref sig .tc := ⟨.hbm, 239, rfl⟩
abbrev main_v146 : Ref sig .tc := ⟨.hbm, 240, rfl⟩
abbrev main_call11_v0 : Ref sig .tc := ⟨.hbm, 241, rfl⟩
abbrev main_v147 : Ref sig .tc := ⟨.hbm, 242, rfl⟩
abbrev main_c_58 : Ref sig .tc := ⟨.hbm, 243, rfl⟩
abbrev main_v148 : Ref sig .tc := ⟨.hbm, 244, rfl⟩
abbrev main_v149 : Ref sig .tc := ⟨.hbm, 245, rfl⟩
abbrev main_cst_59 : Ref sig .tc := ⟨.hbm, 246, rfl⟩
abbrev main_call12_v0 : Ref sig .tc := ⟨.hbm, 247, rfl⟩
abbrev main_call12_v1 : Ref sig .tc := ⟨.hbm, 248, rfl⟩
abbrev main_call12_v2 : Ref sig .tc := ⟨.hbm, 249, rfl⟩
abbrev main_call12_v3 : Ref sig .tc := ⟨.hbm, 250, rfl⟩
abbrev main_v150 : Ref sig .tc := ⟨.hbm, 251, rfl⟩
abbrev main_c_60 : Ref sig .tc := ⟨.hbm, 252, rfl⟩
abbrev main_v151 : Ref sig .tc := ⟨.hbm, 253, rfl⟩
abbrev main_v152 : Ref sig .tc := ⟨.hbm, 254, rfl⟩
abbrev main_cst_61 : Ref sig .tc := ⟨.hbm, 255, rfl⟩
abbrev main_v153 : Ref sig .tc := ⟨.hbm, 256, rfl⟩
abbrev main_v154 : Ref sig .tc := ⟨.hbm, 257, rfl⟩
abbrev main_v155 : Ref sig .tc := ⟨.hbm, 258, rfl⟩
abbrev main_v156 : Ref sig .tc := ⟨.hbm, 259, rfl⟩
abbrev main_cst_62 : Ref sig .tc := ⟨.hbm, 260, rfl⟩
abbrev main_v157 : Ref sig .tc := ⟨.hbm, 261, rfl⟩
abbrev main_v158 : Ref sig .tc := ⟨.hbm, 262, rfl⟩
abbrev main_v159 : Ref sig .tc := ⟨.hbm, 263, rfl⟩
abbrev main_v160 : Ref sig .tc := ⟨.hbm, 264, rfl⟩
abbrev main_v161 : Ref sig .tc := ⟨.hbm, 265, rfl⟩
abbrev main_v162 : Ref sig .tc := ⟨.hbm, 266, rfl⟩
abbrev main_cst_63 : Ref sig .tc := ⟨.hbm, 267, rfl⟩
abbrev main_v163 : Ref sig .tc := ⟨.hbm, 268, rfl⟩
abbrev main_v164 : Ref sig .tc := ⟨.hbm, 269, rfl⟩
abbrev main_v165 : Ref sig .tc := ⟨.hbm, 270, rfl⟩
abbrev main_v166 : Ref sig .tc := ⟨.hbm, 271, rfl⟩
abbrev main_v167 : Ref sig .tc := ⟨.hbm, 272, rfl⟩
abbrev main_call13_v0 : Ref sig .tc := ⟨.hbm, 273, rfl⟩
abbrev main_v168 : Ref sig .tc := ⟨.hbm, 274, rfl⟩
abbrev main_c_64 : Ref sig .tc := ⟨.hbm, 275, rfl⟩
abbrev main_v169 : Ref sig .tc := ⟨.hbm, 276, rfl⟩
abbrev main_v170 : Ref sig .tc := ⟨.hbm, 277, rfl⟩
abbrev main_cst_65 : Ref sig .tc := ⟨.hbm, 278, rfl⟩
abbrev main_call14_v0 : Ref sig .tc := ⟨.hbm, 279, rfl⟩
abbrev main_call14_v1 : Ref sig .tc := ⟨.hbm, 280, rfl⟩
abbrev main_call14_v2 : Ref sig .tc := ⟨.hbm, 281, rfl⟩
abbrev main_call14_v3 : Ref sig .tc := ⟨.hbm, 282, rfl⟩
abbrev main_v171 : Ref sig .tc := ⟨.hbm, 283, rfl⟩
abbrev main_c_66 : Ref sig .tc := ⟨.hbm, 284, rfl⟩
abbrev main_v172 : Ref sig .tc := ⟨.hbm, 285, rfl⟩
abbrev main_v173 : Ref sig .tc := ⟨.hbm, 286, rfl⟩
abbrev main_cst_67 : Ref sig .tc := ⟨.hbm, 287, rfl⟩
abbrev main_v174 : Ref sig .tc := ⟨.hbm, 288, rfl⟩
abbrev main_v175 : Ref sig .tc := ⟨.hbm, 289, rfl⟩
abbrev main_v176 : Ref sig .tc := ⟨.hbm, 290, rfl⟩
abbrev main_v177 : Ref sig .tc := ⟨.hbm, 291, rfl⟩
abbrev main_cst_68 : Ref sig .tc := ⟨.hbm, 292, rfl⟩
abbrev main_v178 : Ref sig .tc := ⟨.hbm, 293, rfl⟩
abbrev main_v179 : Ref sig .tc := ⟨.hbm, 294, rfl⟩
abbrev main_v180 : Ref sig .tc := ⟨.hbm, 295, rfl⟩
abbrev main_v181 : Ref sig .tc := ⟨.hbm, 296, rfl⟩
abbrev main_v182 : Ref sig .tc := ⟨.hbm, 297, rfl⟩
abbrev main_v183 : Ref sig .tc := ⟨.hbm, 298, rfl⟩
abbrev main_cst_69 : Ref sig .tc := ⟨.hbm, 299, rfl⟩
abbrev main_v184 : Ref sig .tc := ⟨.hbm, 300, rfl⟩
abbrev main_v185 : Ref sig .tc := ⟨.hbm, 301, rfl⟩
abbrev main_v186 : Ref sig .tc := ⟨.hbm, 302, rfl⟩
abbrev main_v187 : Ref sig .tc := ⟨.hbm, 303, rfl⟩
abbrev main_v188 : Ref sig .tc := ⟨.hbm, 304, rfl⟩
abbrev main_call15_v0 : Ref sig .tc := ⟨.hbm, 305, rfl⟩
abbrev main_v189 : Ref sig .tc := ⟨.hbm, 306, rfl⟩
abbrev main_c_70 : Ref sig .tc := ⟨.hbm, 307, rfl⟩
abbrev main_v190 : Ref sig .tc := ⟨.hbm, 308, rfl⟩
abbrev main_v191 : Ref sig .tc := ⟨.hbm, 309, rfl⟩
abbrev main_cst_71 : Ref sig .tc := ⟨.hbm, 310, rfl⟩
abbrev main_call16_v0 : Ref sig .tc := ⟨.hbm, 311, rfl⟩
abbrev main_call16_v1 : Ref sig .tc := ⟨.hbm, 312, rfl⟩
abbrev main_call16_v2 : Ref sig .tc := ⟨.hbm, 313, rfl⟩
abbrev main_call16_v3 : Ref sig .tc := ⟨.hbm, 314, rfl⟩
abbrev main_v192 : Ref sig .tc := ⟨.hbm, 315, rfl⟩
abbrev main_c_72 : Ref sig .tc := ⟨.hbm, 316, rfl⟩
abbrev main_v193 : Ref sig .tc := ⟨.hbm, 317, rfl⟩
abbrev main_v194 : Ref sig .tc := ⟨.hbm, 318, rfl⟩
abbrev main_cst_73 : Ref sig .tc := ⟨.hbm, 319, rfl⟩
abbrev main_v195 : Ref sig .tc := ⟨.hbm, 320, rfl⟩
abbrev main_v196 : Ref sig .tc := ⟨.hbm, 321, rfl⟩
abbrev main_v197 : Ref sig .tc := ⟨.hbm, 322, rfl⟩
abbrev main_v198 : Ref sig .tc := ⟨.hbm, 323, rfl⟩
abbrev main_cst_74 : Ref sig .tc := ⟨.hbm, 324, rfl⟩
abbrev main_v199 : Ref sig .tc := ⟨.hbm, 325, rfl⟩
abbrev main_v200 : Ref sig .tc := ⟨.hbm, 326, rfl⟩
abbrev main_v201 : Ref sig .tc := ⟨.hbm, 327, rfl⟩
abbrev main_v202 : Ref sig .tc := ⟨.hbm, 328, rfl⟩
abbrev main_v203 : Ref sig .tc := ⟨.hbm, 329, rfl⟩
abbrev main_v204 : Ref sig .tc := ⟨.hbm, 330, rfl⟩
abbrev main_cst_75 : Ref sig .tc := ⟨.hbm, 331, rfl⟩
abbrev main_v205 : Ref sig .tc := ⟨.hbm, 332, rfl⟩
abbrev main_v206 : Ref sig .tc := ⟨.hbm, 333, rfl⟩
abbrev main_v207 : Ref sig .tc := ⟨.hbm, 334, rfl⟩
abbrev main_v208 : Ref sig .tc := ⟨.hbm, 335, rfl⟩
abbrev main_v209 : Ref sig .tc := ⟨.hbm, 336, rfl⟩
abbrev main_call17_v0 : Ref sig .tc := ⟨.hbm, 337, rfl⟩
abbrev main_v210 : Ref sig .tc := ⟨.hbm, 338, rfl⟩
abbrev main_v211 : Ref sig .tc := ⟨.hbm, 339, rfl⟩
abbrev main_v212 : Ref sig .tc := ⟨.hbm, 340, rfl⟩
abbrev main_v213 : Ref sig .tc := ⟨.hbm, 341, rfl⟩
abbrev main_v214 : Ref sig .tc := ⟨.hbm, 342, rfl⟩
abbrev main_v215 : Ref sig .tc := ⟨.hbm, 343, rfl⟩
abbrev main_c_76 : Ref sig .tc := ⟨.hbm, 344, rfl⟩
abbrev main_v216 : Ref sig .tc := ⟨.hbm, 345, rfl⟩
abbrev main_v217 : Ref sig .tc := ⟨.hbm, 346, rfl⟩
abbrev main_cst_77 : Ref sig .tc := ⟨.hbm, 347, rfl⟩
abbrev main_v218 : Ref sig .tc := ⟨.hbm, 348, rfl⟩
abbrev main_c_78 : Ref sig .tc := ⟨.hbm, 349, rfl⟩
abbrev main_v219 : Ref sig .tc := ⟨.hbm, 350, rfl⟩
abbrev main_v220 : Ref sig .tc := ⟨.hbm, 351, rfl⟩
abbrev main_v221 : Ref sig .tc := ⟨.hbm, 352, rfl⟩
abbrev main_v222 : Ref sig .tc := ⟨.hbm, 353, rfl⟩
abbrev main_call18_v0 : Ref sig .tc := ⟨.hbm, 354, rfl⟩
abbrev main_v223 : Ref sig .tc := ⟨.hbm, 355, rfl⟩
abbrev main_v224 : Ref sig .tc := ⟨.hbm, 356, rfl⟩
abbrev main_v225 : Ref sig .tc := ⟨.hbm, 357, rfl⟩
abbrev main_cst_79 : Ref sig .tc := ⟨.hbm, 358, rfl⟩
abbrev main_call19_v0 : Ref sig .tc := ⟨.hbm, 359, rfl⟩
abbrev main_call19_v1 : Ref sig .tc := ⟨.hbm, 360, rfl⟩
abbrev main_call19_v2 : Ref sig .tc := ⟨.hbm, 361, rfl⟩
abbrev main_v226 : Ref sig .tc := ⟨.hbm, 362, rfl⟩
abbrev main_cst_80 : Ref sig .tc := ⟨.hbm, 363, rfl⟩
abbrev main_v227 : Ref sig .tc := ⟨.hbm, 364, rfl⟩
abbrev main_cst_81 : Ref sig .tc := ⟨.hbm, 365, rfl⟩
abbrev main_v228 : Ref sig .tc := ⟨.hbm, 366, rfl⟩
abbrev main_cst_82 : Ref sig .tc := ⟨.hbm, 367, rfl⟩
abbrev main_v229 : Ref sig .tc := ⟨.hbm, 368, rfl⟩
abbrev main_v230 : Ref sig .tc := ⟨.hbm, 369, rfl⟩
abbrev main_v231 : Ref sig .tc := ⟨.hbm, 370, rfl⟩
abbrev main_v232 : Ref sig .tc := ⟨.hbm, 371, rfl⟩
abbrev main_v233 : Ref sig .tc := ⟨.hbm, 372, rfl⟩
abbrev main_v234 : Ref sig .tc := ⟨.hbm, 373, rfl⟩
abbrev main_v235 : Ref sig .tc := ⟨.hbm, 374, rfl⟩
abbrev main_v236 : Ref sig .tc := ⟨.hbm, 375, rfl⟩
abbrev main_v237 : Ref sig .tc := ⟨.hbm, 376, rfl⟩
abbrev main_v238 : Ref sig .tc := ⟨.hbm, 377, rfl⟩
abbrev main_cst_83 : Ref sig .tc := ⟨.hbm, 378, rfl⟩
abbrev main_v239 : Ref sig .tc := ⟨.hbm, 379, rfl⟩
abbrev main_cst_84 : Ref sig .tc := ⟨.hbm, 380, rfl⟩
abbrev main_v240 : Ref sig .tc := ⟨.hbm, 381, rfl⟩
abbrev main_cst_85 : Ref sig .tc := ⟨.hbm, 382, rfl⟩
abbrev main_v241 : Ref sig .tc := ⟨.hbm, 383, rfl⟩
abbrev main_v242 : Ref sig .tc := ⟨.hbm, 384, rfl⟩
abbrev main_v243 : Ref sig .tc := ⟨.hbm, 385, rfl⟩
abbrev main_v244 : Ref sig .tc := ⟨.hbm, 386, rfl⟩
abbrev main_v245 : Ref sig .tc := ⟨.hbm, 387, rfl⟩
abbrev main_v246 : Ref sig .tc := ⟨.hbm, 388, rfl⟩
abbrev main_v247 : Ref sig .tc := ⟨.hbm, 389, rfl⟩
abbrev main_v248 : Ref sig .tc := ⟨.hbm, 390, rfl⟩
abbrev main_v249 : Ref sig .tc := ⟨.hbm, 391, rfl⟩
abbrev main_v250 : Ref sig .tc := ⟨.hbm, 392, rfl⟩
abbrev main_cst_86 : Ref sig .tc := ⟨.hbm, 393, rfl⟩
abbrev main_v251 : Ref sig .tc := ⟨.hbm, 394, rfl⟩
abbrev main_cst_87 : Ref sig .tc := ⟨.hbm, 395, rfl⟩
abbrev main_v252 : Ref sig .tc := ⟨.hbm, 396, rfl⟩
abbrev main_cst_88 : Ref sig .tc := ⟨.hbm, 397, rfl⟩
abbrev main_v253 : Ref sig .tc := ⟨.hbm, 398, rfl⟩
abbrev main_v254 : Ref sig .tc := ⟨.hbm, 399, rfl⟩
abbrev main_v255 : Ref sig .tc := ⟨.hbm, 400, rfl⟩
abbrev main_v256 : Ref sig .tc := ⟨.hbm, 401, rfl⟩
abbrev main_v257 : Ref sig .tc := ⟨.hbm, 402, rfl⟩
abbrev main_v258 : Ref sig .tc := ⟨.hbm, 403, rfl⟩
abbrev main_v259 : Ref sig .tc := ⟨.hbm, 404, rfl⟩
abbrev main_v260 : Ref sig .tc := ⟨.hbm, 405, rfl⟩
abbrev main_v261 : Ref sig .tc := ⟨.hbm, 406, rfl⟩
abbrev main_v262 : Ref sig .tc := ⟨.hbm, 407, rfl⟩
abbrev main_cst_89 : Ref sig .tc := ⟨.hbm, 408, rfl⟩
abbrev main_v263 : Ref sig .tc := ⟨.hbm, 409, rfl⟩
abbrev main_cst_90 : Ref sig .tc := ⟨.hbm, 410, rfl⟩
abbrev main_v264 : Ref sig .tc := ⟨.hbm, 411, rfl⟩
abbrev main_cst_91 : Ref sig .tc := ⟨.hbm, 412, rfl⟩
abbrev main_v265 : Ref sig .tc := ⟨.hbm, 413, rfl⟩
abbrev main_v266 : Ref sig .tc := ⟨.hbm, 414, rfl⟩
abbrev main_v267 : Ref sig .tc := ⟨.hbm, 415, rfl⟩
abbrev main_v268 : Ref sig .tc := ⟨.hbm, 416, rfl⟩
abbrev main_v269 : Ref sig .tc := ⟨.hbm, 417, rfl⟩
abbrev main_v270 : Ref sig .tc := ⟨.hbm, 418, rfl⟩
abbrev main_v271 : Ref sig .tc := ⟨.hbm, 419, rfl⟩
abbrev main_v272 : Ref sig .tc := ⟨.hbm, 420, rfl⟩
abbrev main_v273 : Ref sig .tc := ⟨.hbm, 421, rfl⟩
abbrev main_v274 : Ref sig .tc := ⟨.hbm, 422, rfl⟩
abbrev main_cst_92 : Ref sig .tc := ⟨.hbm, 423, rfl⟩
abbrev main_v275 : Ref sig .tc := ⟨.hbm, 424, rfl⟩
abbrev main_cst_93 : Ref sig .tc := ⟨.hbm, 425, rfl⟩
abbrev main_v276 : Ref sig .tc := ⟨.hbm, 426, rfl⟩
abbrev main_cst_94 : Ref sig .tc := ⟨.hbm, 427, rfl⟩
abbrev main_v277 : Ref sig .tc := ⟨.hbm, 428, rfl⟩
abbrev main_v278 : Ref sig .tc := ⟨.hbm, 429, rfl⟩
abbrev main_v279 : Ref sig .tc := ⟨.hbm, 430, rfl⟩
abbrev main_v280 : Ref sig .tc := ⟨.hbm, 431, rfl⟩
abbrev main_v281 : Ref sig .tc := ⟨.hbm, 432, rfl⟩
abbrev main_v282 : Ref sig .tc := ⟨.hbm, 433, rfl⟩
abbrev main_v283 : Ref sig .tc := ⟨.hbm, 434, rfl⟩
abbrev main_v284 : Ref sig .tc := ⟨.hbm, 435, rfl⟩
abbrev main_v285 : Ref sig .tc := ⟨.hbm, 436, rfl⟩
abbrev main_v286 : Ref sig .tc := ⟨.hbm, 437, rfl⟩
abbrev main_cst_95 : Ref sig .tc := ⟨.hbm, 438, rfl⟩
abbrev main_v287 : Ref sig .tc := ⟨.hbm, 439, rfl⟩
abbrev main_cst_96 : Ref sig .tc := ⟨.hbm, 440, rfl⟩
abbrev main_v288 : Ref sig .tc := ⟨.hbm, 441, rfl⟩
abbrev main_cst_97 : Ref sig .tc := ⟨.hbm, 442, rfl⟩
abbrev main_v289 : Ref sig .tc := ⟨.hbm, 443, rfl⟩
abbrev main_v290 : Ref sig .tc := ⟨.hbm, 444, rfl⟩
abbrev main_v291 : Ref sig .tc := ⟨.hbm, 445, rfl⟩
abbrev main_v292 : Ref sig .tc := ⟨.hbm, 446, rfl⟩
abbrev main_v293 : Ref sig .tc := ⟨.hbm, 447, rfl⟩
abbrev main_v294 : Ref sig .tc := ⟨.hbm, 448, rfl⟩
abbrev main_v295 : Ref sig .tc := ⟨.hbm, 449, rfl⟩
abbrev main_v296 : Ref sig .tc := ⟨.hbm, 450, rfl⟩
abbrev main_v297 : Ref sig .tc := ⟨.hbm, 451, rfl⟩
abbrev main_v298 : Ref sig .tc := ⟨.hbm, 452, rfl⟩
abbrev main_cst_98 : Ref sig .tc := ⟨.hbm, 453, rfl⟩
abbrev main_v299 : Ref sig .tc := ⟨.hbm, 454, rfl⟩
abbrev main_cst_99 : Ref sig .tc := ⟨.hbm, 455, rfl⟩
abbrev main_v300 : Ref sig .tc := ⟨.hbm, 456, rfl⟩
abbrev main_cst_100 : Ref sig .tc := ⟨.hbm, 457, rfl⟩
abbrev main_v301 : Ref sig .tc := ⟨.hbm, 458, rfl⟩
abbrev main_v302 : Ref sig .tc := ⟨.hbm, 459, rfl⟩
abbrev main_v303 : Ref sig .tc := ⟨.hbm, 460, rfl⟩
abbrev main_v304 : Ref sig .tc := ⟨.hbm, 461, rfl⟩
abbrev main_v305 : Ref sig .tc := ⟨.hbm, 462, rfl⟩
abbrev main_v306 : Ref sig .tc := ⟨.hbm, 463, rfl⟩
abbrev main_v307 : Ref sig .tc := ⟨.hbm, 464, rfl⟩
abbrev main_v308 : Ref sig .tc := ⟨.hbm, 465, rfl⟩
abbrev main_v309 : Ref sig .tc := ⟨.hbm, 466, rfl⟩
abbrev main_v310 : Ref sig .tc := ⟨.hbm, 467, rfl⟩
abbrev main_cst_101 : Ref sig .tc := ⟨.hbm, 468, rfl⟩
abbrev main_v311 : Ref sig .tc := ⟨.hbm, 469, rfl⟩
abbrev main_cst_102 : Ref sig .tc := ⟨.hbm, 470, rfl⟩
abbrev main_v312 : Ref sig .tc := ⟨.hbm, 471, rfl⟩
abbrev main_cst_103 : Ref sig .tc := ⟨.hbm, 472, rfl⟩
abbrev main_v313 : Ref sig .tc := ⟨.hbm, 473, rfl⟩
abbrev main_v314 : Ref sig .tc := ⟨.hbm, 474, rfl⟩
abbrev main_v315 : Ref sig .tc := ⟨.hbm, 475, rfl⟩
abbrev main_v316 : Ref sig .tc := ⟨.hbm, 476, rfl⟩
abbrev main_v317 : Ref sig .tc := ⟨.hbm, 477, rfl⟩
abbrev main_v318 : Ref sig .tc := ⟨.hbm, 478, rfl⟩
abbrev main_v319 : Ref sig .tc := ⟨.hbm, 479, rfl⟩
abbrev main_v320 : Ref sig .tc := ⟨.hbm, 480, rfl⟩
abbrev main_v321 : Ref sig .tc := ⟨.hbm, 481, rfl⟩
abbrev main_v322 : Ref sig .tc := ⟨.hbm, 482, rfl⟩
abbrev main_cst_104 : Ref sig .tc := ⟨.hbm, 483, rfl⟩
abbrev main_v323 : Ref sig .tc := ⟨.hbm, 484, rfl⟩
abbrev main_cst_105 : Ref sig .tc := ⟨.hbm, 485, rfl⟩
abbrev main_v324 : Ref sig .tc := ⟨.hbm, 486, rfl⟩
abbrev main_cst_106 : Ref sig .tc := ⟨.hbm, 487, rfl⟩
abbrev main_v325 : Ref sig .tc := ⟨.hbm, 488, rfl⟩
abbrev main_v326 : Ref sig .tc := ⟨.hbm, 489, rfl⟩
abbrev main_v327 : Ref sig .tc := ⟨.hbm, 490, rfl⟩
abbrev main_v328 : Ref sig .tc := ⟨.hbm, 491, rfl⟩
abbrev main_v329 : Ref sig .tc := ⟨.hbm, 492, rfl⟩
abbrev main_v330 : Ref sig .tc := ⟨.hbm, 493, rfl⟩
abbrev main_v331 : Ref sig .tc := ⟨.hbm, 494, rfl⟩
abbrev main_v332 : Ref sig .tc := ⟨.hbm, 495, rfl⟩
abbrev main_v333 : Ref sig .tc := ⟨.hbm, 496, rfl⟩
abbrev main_v334 : Ref sig .tc := ⟨.hbm, 497, rfl⟩
abbrev main_v335 : Ref sig .tc := ⟨.hbm, 498, rfl⟩
abbrev main_v336 : Ref sig .tc := ⟨.hbm, 499, rfl⟩
abbrev main_v337 : Ref sig .tc := ⟨.hbm, 500, rfl⟩
abbrev main_v338 : Ref sig .tc := ⟨.hbm, 501, rfl⟩
abbrev main_v339 : Ref sig .tc := ⟨.hbm, 502, rfl⟩
abbrev main_v340 : Ref sig .tc := ⟨.hbm, 503, rfl⟩
abbrev main_v341 : Ref sig .tc := ⟨.hbm, 504, rfl⟩
abbrev main_v342 : Ref sig .tc := ⟨.hbm, 505, rfl⟩
abbrev main_v343 : Ref sig .tc := ⟨.hbm, 506, rfl⟩
abbrev main_v344 : Ref sig .tc := ⟨.hbm, 507, rfl⟩

abbrev nD : Nat := 1
abbrev τ : Topo := Topo.v7x

variable {F : FTy → Type} [FloatOps F]
-- ==== Proof.KLoop.lean ====
/-
  The kernel's loop under the write ring's invariant, and the body: the loop of 64 trips and the two waits that drain it.
-/
module

public import proofs.«01_k».proof.Proof.KTile

@[expose] public section

set_option maxRecDepth 16384

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section Loop

variable (c : Dev nD) (i : grid0.Coords)
  (arg1 : Memref sig .tc .vmem S16384x6 .f32) (harg1 : arg1.IsWhole)
  (arg2 : Memref sig .tc .vmem S40x128 .f32) (harg2 : arg2.IsWhole) (v0 : BitVec 32)
  (g1 : Buf (Elt F) (arg1.view.loc (c : Thread nD τ))) (g2 : Buf (Elt F) (arg2.view.loc (c : Thread nD τ)))
  (V G : Buf (Elt F) ((c : Thread nD τ).loc main_v0))

/-- The points' window and the table's. -/
abbrev winP : sProp 𝕄 :=
  iprop((arg1.view.loc (c : Thread nD τ) ↦[arg1.view.set]{fullShare} g1) ∗ (arg2.view.loc (c : Thread nD τ) ↦[arg2.view.set]{fullShare} g2))

/-- The rows trip `k` loads. -/
abbrev xAt (k : Fin k0_t1_loop.trips) : Vec F S256x6 .f32 :=
  arg1.view.readAt (Elt F) (Rect.unit (s := S16384x6) (k0_off4 k) S256x6.size (k0_off4_inb k)).toLoadRect g1
/-- The table as each trip loads it. -/
abbrev tAt : Vec F S40x128 .f32 :=
  arg2.view.readAt (Elt F) (Rect.unit (s := S40x128) ![0, 0] S40x128.size inb_S40x128_S40x128_0_0).toLoadRect g2

/-- A slot at rest: held at anything, its counter at zero. -/
abbrev freeP (s : Fin 2) : sProp 𝕄 := iprop((∃ f, slotP c s f) ∗ cellP c s)
/-- Slot `s` in flight to block `u`, which the copy leaves at `G`. -/
abbrev inflP (s : Fin 2) (u : Fin 64) : sProp 𝕄 :=
  iprop(∃ f, Transfers.Flight countersEmb (c : Thread nD τ) (SemLoc.dma (csm s).sem) () 212992
    iprop(blkP c (pt i) u G ∗ slotP c s f))

/-- The ring before trip `k`. -/
abbrev ringAt (k : ℕ) : sProp 𝕄 :=
  Ring.AtB 2 (freeP (F := F) c) (inflP c i G) (fun u => blkP c (pt i) u V) (fun u => blkP c (pt i) u G) k

/-- The first part of a trip before the second: no wait, the slot at rest. -/
theorem part_early (k : Fin k0_t1_loop.trips) (h : ¬ 2 ≤ k.val) (W) (Ψ) :
    iprop((winP c arg1 arg2 g1 g2 ∗ freeP c (Ring.sl 2 k.val) ∗ owes (c : Thread nD τ) 0 W)
        ∗ (((∃ f, slotP c (Ring.sl 2 k.val) f) ∗ cellP c (Ring.sl 2 k.val) ∗ (∃ W, owes (c : Thread nD τ) 0 W) ∗ winP c arg1 arg2 g1 g2)
          -∗ Ψ (headOf k (xAt c arg1 g1 k) (tAt c arg2 g2))))
      ⊢ wp frame (wpE (defs₀ (F := F)) 𝒱₀ (c : Thread nD τ) none) Set.univ (partG i arg1 harg1 arg2 harg2 v0 k) Ψ := by
  have hc : ¬ k0_cond1 k = 1#1 := fun e => h ((cond1_iff k).mp e)
  dsimp only [partG]
  sl_unfold [k0_part1]
  iintro ⟨⟨⟨H1, H2⟩, ⟨Hs, Hc⟩, HW⟩, Hk⟩
  sl_exec
  sl_step
  unfold part_early.sl.v17
  try unfold part_early.sl.arg6
  unfold part_early.sl.cst_25
  iapply Hk
  isplitl [Hs]; · iexact Hs
  isplitl [Hc]; · iexact Hc
  isplitl [HW]; · iexists W; iexact HW
  isplitl [H1]; · iexact H1
  iexact H2

/-- The first part of a later trip: the slot's previous copy is waited, its block delivered. -/
theorem part_late (k : Fin k0_t1_loop.trips) (h : 2 ≤ k.val) (W) (Ψ) :
    iprop((winP c arg1 arg2 g1 g2 ∗ inflP c i G (Ring.sl 2 k.val) (Ring.bk 64 (k.val - 2)) ∗ owes (c : Thread nD τ) 0 W)
        ∗ (((∃ f, slotP c (Ring.sl 2 k.val) f) ∗ cellP c (Ring.sl 2 k.val) ∗ (∃ W, owes (c : Thread nD τ) 0 W)
            ∗ (winP c arg1 arg2 g1 g2 ∗ blkP c (pt i) (Ring.bk 64 (k.val - 2)) G))
          -∗ Ψ (headOf k (xAt c arg1 g1 k) (tAt c arg2 g2))))
      ⊢ wp frame (wpE (defs₀ (F := F)) 𝒱₀ (c : Thread nD τ) none) Set.univ (partG i arg1 harg1 arg2 harg2 v0 k) Ψ := by
  have hc : k0_cond1 k = 1#1 := (cond1_iff k).mpr h
  dsimp only [partG]
  sl_unfold [k0_part1]
  iintro ⟨⟨⟨H1, H2⟩, ⟨%f, Hc⟩, HW⟩, Hk⟩
  sl_exec
  sl_step
  unfold part_late.sl.v17
  try unfold part_late.sl.arg6
  unfold part_late.sl.cst_25
  iapply Hk
  isplitl [Hc_src]; · iexists _; iexact Hc_src
  isplitl [Hc]; · iexact Hc
  isplitl [HW]; · iexists _; iexact HW
  isplitl [H1 H2]
  · isplitl [H1]; · iexact H1
    iexact H2
  iexact Hc_dst

/-- The block each trip's copy leaves is `G`'s: what `G` has to satisfy. -/
abbrev Tiles : Prop :=
  ∀ k : Fin k0_t1_loop.trips, (oblk (pt i) (Ring.bk 64 k.val)).view.read (Elt F) G = tile k (xAt c arg1 g1 k) (tAt c arg2 g2)

/-- A trip from its first part's behaviour. -/
theorem trip_of (hG : Tiles c i arg1 arg2 g1 g2 G) (k : Fin k0_t1_loop.trips) (P R : sProp 𝕄)
    (h1 : ∀ Ψ, iprop(P ∗ (((∃ f, slotP c (Ring.sl 2 k.val) f) ∗ cellP c (Ring.sl 2 k.val) ∗ (∃ W, owes (c : Thread nD τ) 0 W) ∗ R)
        -∗ Ψ (headOf k (xAt c arg1 g1 k) (tAt c arg2 g2)))) ⊢ wp frame (wpE (defs₀ (F := F)) 𝒱₀ (c : Thread nD τ) none) Set.univ (partG i arg1 harg1 arg2 harg2 v0 k) Ψ) :
    iprop(P ∗ blkP c (pt i) (Ring.bk 64 k.val) V)
      ⊢ wp frame (wpE (defs₀ (F := F)) 𝒱₀ (c : Thread nD τ) none) Set.univ (tripG i arg1 harg1 arg2 harg2 v0 k)
        (fun _ => iprop(R ∗ (∃ W, owes (c : Thread nD τ) 0 W) ∗ inflP c i G (Ring.sl 2 k.val) (Ring.bk 64 k.val))) := by
  iintro H
  iapply (wp_wand_r Idealize.ShloMosaic.frame (wpE (defs₀ (F := F)) 𝒱₀ (c : Thread nD τ) none) Set.univ)
  isplitl [H]
  · iapply (coreRun c i arg1 harg1 arg2 harg2 v0 k (xAt c arg1 g1 k) (tAt c arg2 g2)).2 P R h1 V; iexact H
  · iintro %_ ⟨HR, HW, %f, %w, HF, %hw⟩
    isplitl [HR]; · iexact HR
    isplitl [HW]; · iexact HW
    have e := blk_landed c (pt i) (Ring.bk 64 k.val) V G w (by rw [hw]; exact (hG k).trans (tile_eq k _ _ (Ring.sl 2 k.val) f).symm)
    rw [e]
    iexists _; iexact HF

/-- One trip on the ring. -/
theorem trip_ring (hG : Tiles c i arg1 arg2 g1 g2 G) (k : Fin k0_t1_loop.trips) :
    iprop(ringAt c i V G k.val ∗ winP c arg1 arg2 g1 g2 ∗ (∃ W, owes (c : Thread nD τ) 0 W))
      ⊢ wp frame (wpE (defs₀ (F := F)) 𝒱₀ (c : Thread nD τ) none) Set.univ (tripG i arg1 harg1 arg2 harg2 v0 k)
        (fun _ => iprop(ringAt c i V G (k.val + 1) ∗ winP c arg1 arg2 g1 g2 ∗ (∃ W, owes (c : Thread nD τ) 0 W))) := by
  have hk := k_lt k
  by_cases h2 : 2 ≤ k.val
  · unfold ringAt
    rw [Ring.AtB22_here (freeP (F := F) c) (inflP c i G) (fun u => blkP c (pt i) u V) (fun u => blkP c (pt i) u G) k.val h2 hk,
      Ring.AtB22_next (freeP (F := F) c) (inflP c i G) (fun u => blkP c (pt i) u V) (fun u => blkP c (pt i) u G) k.val h2 hk]
    iintro ⟨⟨⟨Hb, Ha⟩, Hd, Hf, Hf'⟩, Hw, %W, HW⟩
    iapply (wp_wand_r Idealize.ShloMosaic.frame (wpE (defs₀ (F := F)) 𝒱₀ (c : Thread nD τ) none) Set.univ)
    isplitl [Hb Hf Hw HW]
    · iapply (trip_of c i arg1 harg1 arg2 harg2 v0 g1 g2 V G hG k _ _ (part_late c i arg1 harg1 arg2 harg2 v0 g1 g2 G k h2 W))
      isplitl [Hf Hw HW]
      · isplitl [Hw]; · iexact Hw
        isplitl [Hf]; · iexact Hf
        iexact HW
      iexact Hb
    · iintro %_ ⟨⟨Hw, Hbd⟩, HW, Hfl⟩
      isplitl [Ha Hbd Hd Hf' Hfl]
      · isplitl [Ha]; · iexact Ha
        isplitl [Hbd Hd]
        · isplitl [Hbd]; · iexact Hbd
          iexact Hd
        isplitl [Hf']; · iexact Hf'
        iexact Hfl
      isplitl [Hw]; · iexact Hw
      iexact HW
  · by_cases h1 : k.val = 1
    · unfold ringAt
      rw [Ring.AtB22_one' (freeP (F := F) c) (inflP c i G) (fun u => blkP c (pt i) u V) (fun u => blkP c (pt i) u G) k.val h1 (by decide),
        Ring.AtB22_next_one' (freeP (F := F) c) (inflP c i G) (fun u => blkP c (pt i) u V) (fun u => blkP c (pt i) u G) k.val h1]
      iintro ⟨⟨⟨Hb, Ha⟩, Hf, Hf'⟩, Hw, %W, HW⟩
      iapply (wp_wand_r Idealize.ShloMosaic.frame (wpE (defs₀ (F := F)) 𝒱₀ (c : Thread nD τ) none) Set.univ)
      isplitl [Hb Hf Hw HW]
      · iapply (trip_of c i arg1 harg1 arg2 harg2 v0 g1 g2 V G hG k _ _ (part_early c i arg1 harg1 arg2 harg2 v0 g1 g2 k h2 W))
        isplitl [Hf Hw HW]
        · isplitl [Hw]; · iexact Hw
          isplitl [Hf]; · iexact Hf
          iexact HW
        iexact Hb
      · iintro %_ ⟨Hw, HW, Hfl⟩
        isplitl [Ha Hf' Hfl]
        · isplitl [Ha]; · iexact Ha
          isplitl [Hf']; · iexact Hf'
          iexact Hfl
        isplitl [Hw]; · iexact Hw
        iexact HW
    · have h0 : k.val = 0 := by omega
      unfold ringAt
      rw [Ring.AtB2_zero' 2 (freeP (F := F) c) (inflP c i G) (fun u => blkP c (pt i) u V) (fun u => blkP c (pt i) u G) k.val h0,
        Ring.AtB22_next_zero' (freeP (F := F) c) (inflP c i G) (fun u => blkP c (pt i) u V) (fun u => blkP c (pt i) u G) k.val h0]
      iintro ⟨⟨⟨Hb, Ha⟩, Hf, Hf'⟩, Hw, %W, HW⟩
      iapply (wp_wand_r Idealize.ShloMosaic.frame (wpE (defs₀ (F := F)) 𝒱₀ (c : Thread nD τ) none) Set.univ)
      isplitl [Hb Hf Hw HW]
      · iapply (trip_of c i arg1 harg1 arg2 harg2 v0 g1 g2 V G hG k _ _ (part_early c i arg1 harg1 arg2 harg2 v0 g1 g2 k h2 W))
        isplitl [Hf Hw HW]
        · isplitl [Hw]; · iexact Hw
          isplitl [Hf]; · iexact Hf
          iexact HW
        iexact Hb
      · iintro %_ ⟨Hw, HW, Hfl⟩
        isplitl [Ha Hf' Hfl]
        · isplitl [Ha]; · iexact Ha
          isplitl [Hf']; · iexact Hf'
          iexact Hfl
        isplitl [Hw]; · iexact Hw
        iexact HW

/-- What a trip starts from and ends in. -/
@[irreducible] def loopSt (k : ℕ) : sProp 𝕄 := iprop(ringAt c i V G k ∗ winP c arg1 arg2 g1 g2 ∗ (∃ W, owes (c : Thread nD τ) 0 W))

set_option warn.classDefReducibility false in
/-- The loop's invariant: the ring, the two windows, the core's waits. -/
@[sl_loop] def loopInv1 (hG : Tiles c i arg1 arg2 g1 g2 G) :
    LoopInvTy_k0_t1 (F := F) Unit ℕ (UU nD τ) ℕ 𝒱₀ c none Set.univ i arg1 harg1 arg2 harg2 outM (Memref.isWhole_whole _) bufM (Memref.isWhole_whole _) cc0_scratch1 v0 where
  inv k _ := loopSt c i arg1 arg2 g1 g2 V G k
  step k _ := by unfold loopSt; exact trip_ring c i arg1 harg1 arg2 harg2 v0 g1 g2 V G hG k

end Loop

end Cert.Proof.K

end
-- ==== Proof.ICanon.lean ====
/-
  The write ring of the kernel: canonical names for the two slots of the scratch, their semaphores and the blocks of
  256 rows of the result, the closed forms of the printed offsets, and the resources each of them stands for.
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Ring
public import Idealize.ShloMosaic.Lib.Ring.WriteBehind
public import Idealize.ShloMosaic.Lib.Tactic

@[expose] public section

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The pipeline's resources beside the counters of the kernel's own transfers. -/
abbrev UU (nD : Nat) (τ : Topo) : Type := UR sig nD τ × Counters
local notation "𝕄" => MT nD τ sig Unit (Elt F) ℕ (UU nD τ) ℕ
/-- No variants. -/
abbrev 𝒱₀ : Variants := Variants.none

omit [FloatOps F] in
theorem entails_of_eq {P Q : sProp 𝕄} (e : P = Q) : P ⊢ Q := e ▸ .rfl

/-! ## Names -/

/-- The result's array. -/
abbrev outM : Memref sig .tc .hbm S32768x6561 .f32 := Memref.whole main_v0
/-- The scratch of two slots. -/
abbrev bufM : Memref sig .tc .vmem S2x256x6561 .f32 := Memref.whole cc0_scratch0

/-- Block `u` of the rows point `n` computes. -/
abbrev blkOff (n : Fin 2) (u : Fin 64) : Fin 2 → Nat := ![16384 * n.val + 256 * u.val, 0]
theorem blkOff_inb (n : Fin 2) (u : Fin 64) : ∀ a, blkOff n u a + S256x6561.size a ≤ S32768x6561.size a := by
  have := n.isLt; have := u.isLt; intro a; fin_cases a
  · show 16384 * n.val + 256 * u.val + 256 ≤ 32768; omega
  · show 0 + 6561 ≤ 6561; omega
/-- Slot `s` of the scratch. -/
abbrev slotOff (s : Fin 2) : Fin 3 → Nat := ![s.val, 0, 0]
theorem slotOff_inb (s : Fin 2) : ∀ a, slotOff s a + S1x256x6561.size a ≤ S2x256x6561.size a := by
  have := s.isLt; intro a; fin_cases a
  · show s.val + 1 ≤ 2; omega
  · show 0 + 256 ≤ 256; omega
  · show 0 + 6561 ≤ 6561; omega
/-- Slot `s`'s semaphore in the pair. -/
abbrev semOff (s : Fin 2) : Fin 1 → Nat := ![s.val]
theorem semOff_inb (s : Fin 2) : ∀ a, semOff s a + S1.size a ≤ S2.size a := by
  have := s.isLt; intro a; fin_cases a; show s.val + 1 ≤ 2; omega

/-- Block `u` of point `n`'s rows, as the body slices it. -/
def oblk (n : Fin 2) (u : Fin 64) : Memref sig .tc .hbm S256x6561 .f32 :=
  outM.slice (Rect.unit (s := S32768x6561) (blkOff n u) S256x6561.size (blkOff_inb n u)) (fun _ => rfl)
/-- Slot `s`, as the body slices and squeezes it. -/
def rslot (s : Fin 2) : Memref sig .tc .vmem S256x6561 .f32 :=
  (bufM.slice (Rect.unit (s := S2x256x6561) (slotOff s) S1x256x6561.size (slotOff_inb s)) (fun _ => rfl)).squeeze S256x6561 squeezes_S1x256x6561_S256x6561
/-- Slot `s`'s semaphore. -/
def csm (s : Fin 2) : DmaSems sig S_ := (cc0_scratch1.slice (Rect.unit (s := S2) (semOff s) S1.size (semOff_inb s))).squeeze S_ squeezes_S1_S_

instance (s : Fin 2) : ClosedOff (slotOff s) := ⟨slotOff s, rfl⟩
instance (n : Fin 2) (u : Fin 64) : ClosedOff (blkOff n u) := ⟨blkOff n u, rfl⟩

/-! ## The offsets in closed form -/

theorem trips_eq : k0_t1_loop.trips = 64 := by decide +kernel

theorem k_lt (k : Fin k0_t1_loop.trips) : k.val < 64 := Nat.lt_of_lt_of_eq k.isLt trips_eq

/-- The point as a number below 2. -/
abbrev pt (i : grid0.Coords) : Fin 2 := i 0

theorem off1_eq : ∀ k : Fin k0_t1_loop.trips, k0_off1 k = semOff (Ring.sl 2 k.val) := by decide +kernel
theorem off3_eq : ∀ k : Fin k0_t1_loop.trips, k0_off3 k = slotOff (Ring.sl 2 k.val) := by decide +kernel
theorem off4_eq : ∀ k : Fin k0_t1_loop.trips, k0_off4 k = ![256 * k.val, 0] := by decide +kernel
theorem off5_eq : ∀ k : Fin k0_t1_loop.trips, k0_off5 k = slotOff (Ring.sl 2 k.val) := by decide +kernel
theorem off6_eq : ∀ k : Fin k0_t1_loop.trips, k0_off6 k = ![0, 0] := by decide +kernel
theorem off7_eq : ∀ k : Fin k0_t1_loop.trips, k0_off7 k = semOff (Ring.sl 2 k.val) := by decide +kernel
theorem off9_eq : ∀ k : Fin k0_t1_loop.trips, k0_off9 k = slotOff (Ring.sl 2 k.val) := by decide +kernel
theorem cond1_iff : ∀ k : Fin k0_t1_loop.trips, k0_cond1 k = 1#1 ↔ 2 ≤ k.val := by decide +kernel
theorem cond2_eq : ∀ k : Fin k0_t1_loop.trips, k0_cond2 k = 1#1 := by decide +kernel

/-- The coordinates of point `n`. -/
def coordsOf (n : Fin 2) : grid0.Coords := fun a => match a with | ⟨0, _⟩ => n
theorem coordsOf_pt (i : grid0.Coords) : coordsOf (pt i) = i := funext fun a => match a with | ⟨0, _⟩ => rfl

theorem off2_aux : ∀ (n : Fin 2) (k : Fin k0_t1_loop.trips), 2 ≤ k.val →
    k0_off2 (coordsOf n) k = blkOff n (Ring.bk 64 (k.val - 2)) := by decide +kernel
theorem off8_aux : ∀ (n : Fin 2) (k : Fin k0_t1_loop.trips), k0_off8 (coordsOf n) k = blkOff n (Ring.bk 64 k.val) := by decide +kernel
theorem off10a_aux : ∀ n : Fin 2, k0_off10 (coordsOf n) 15872#32 = blkOff n (Ring.bk 64 62) := by decide +kernel
theorem off10b_aux : ∀ n : Fin 2, k0_off10 (coordsOf n) 16128#32 = blkOff n (Ring.bk 64 63) := by decide +kernel

theorem off2_eq (i : grid0.Coords) (k : Fin k0_t1_loop.trips) (h : 2 ≤ k.val) :
    k0_off2 i k = blkOff (pt i) (Ring.bk 64 (k.val - 2)) := by rw [← off2_aux (pt i) k h, coordsOf_pt]
theorem off8_eq (i : grid0.Coords) (k : Fin k0_t1_loop.trips) : k0_off8 i k = blkOff (pt i) (Ring.bk 64 k.val) := by
  rw [← off8_aux (pt i) k, coordsOf_pt]
theorem off10a_eq (i : grid0.Coords) : k0_off10 i 15872#32 = blkOff (pt i) (Ring.bk 64 62) := by rw [← off10a_aux (pt i), coordsOf_pt]
theorem off10b_eq (i : grid0.Coords) : k0_off10 i 16128#32 = blkOff (pt i) (Ring.bk 64 63) := by rw [← off10b_aux (pt i), coordsOf_pt]

instance (k : Fin k0_t1_loop.trips) : ClosedOff (k0_off4 k) := ⟨![256 * k.val, 0], off4_eq k⟩
instance (k : Fin k0_t1_loop.trips) : ClosedOff (k0_off5 k) := ⟨slotOff (Ring.sl 2 k.val), off5_eq k⟩
instance (k : Fin k0_t1_loop.trips) : ClosedOff (k0_off6 k) := ⟨![0, 0], off6_eq k⟩

/-! ## The body's slices are the names -/

private theorem csm_congr {off : Fin 1 → Nat} {s : Fin 2} (e : off = semOff s) (hh) :
    (cc0_scratch1.slice (Rect.unit (s := S2) off S1.size hh)).squeeze S_ squeezes_S1_S_ = csm s :=
  congrArg (fun A : DmaSems sig S1 => A.squeeze S_ squeezes_S1_S_) (SemArray.slice_unit_congr _ e _ _)
private theorem rslot_congr {off : Fin 3 → Nat} {s : Fin 2} (e : off = slotOff s) (hh hs) :
    (bufM.slice (Rect.unit (s := S2x256x6561) off S1x256x6561.size hh) hs).squeeze S256x6561 squeezes_S1x256x6561_S256x6561 = rslot s :=
  congrArg (fun M : Memref sig .tc .vmem S1x256x6561 .f32 => M.squeeze S256x6561 squeezes_S1x256x6561_S256x6561) (Memref.slice_unit_congr _ e _ _ _ _)
private theorem oblk_congr {off : Fin 2 → Nat} {n : Fin 2} {u : Fin 64} (e : off = blkOff n u) (hh hs) :
    outM.slice (Rect.unit (s := S32768x6561) off S256x6561.size hh) hs = oblk n u :=
  Memref.slice_unit_congr _ e _ _ _ (fun _ => rfl)

@[sl_canon] theorem semL0 (hh) : (cc0_scratch1.slice (Rect.unit (s := S2) ![0] S1.size hh)).squeeze S_ squeezes_S1_S_ = csm 0 := csm_congr (by decide) _
@[sl_canon] theorem semL1 (hh) : (cc0_scratch1.slice (Rect.unit (s := S2) ![1] S1.size hh)).squeeze S_ squeezes_S1_S_ = csm 1 := csm_congr (by decide) _
@[sl_canon] theorem slotL0 (hh hs) : (bufM.slice (Rect.unit (s := S2x256x6561) ![0, 0, 0] S1x256x6561.size hh) hs).squeeze S256x6561 squeezes_S1x256x6561_S256x6561 = rslot 0 := rslot_congr (by decide) _ _
@[sl_canon] theorem slotL1 (hh hs) : (bufM.slice (Rect.unit (s := S2x256x6561) ![1, 0, 0] S1x256x6561.size hh) hs).squeeze S256x6561 squeezes_S1x256x6561_S256x6561 = rslot 1 := rslot_congr (by decide) _ _
@[sl_canon] theorem semW (k : Fin k0_t1_loop.trips) (hh) :
    (cc0_scratch1.slice (Rect.unit (s := S2) (k0_off1 k) S1.size hh)).squeeze S_ squeezes_S1_S_ = csm (Ring.sl 2 k.val) := csm_congr (off1_eq k) _
@[sl_canon] theorem semI (k : Fin k0_t1_loop.trips) (hh) :
    (cc0_scratch1.slice (Rect.unit (s := S2) (k0_off7 k) S1.size hh)).squeeze S_ squeezes_S1_S_ = csm (Ring.sl 2 k.val) := csm_congr (off7_eq k) _
@[sl_canon] theorem slotW (k : Fin k0_t1_loop.trips) (hh hs) :
    (bufM.slice (Rect.unit (s := S2x256x6561) (k0_off3 k) S1x256x6561.size hh) hs).squeeze S256x6561 squeezes_S1x256x6561_S256x6561 = rslot (Ring.sl 2 k.val) := rslot_congr (off3_eq k) _ _
@[sl_canon] theorem slotS (k : Fin k0_t1_loop.trips) (hh hs) :
    (bufM.slice (Rect.unit (s := S2x256x6561) (k0_off5 k) S1x256x6561.size hh) hs).squeeze S256x6561 squeezes_S1x256x6561_S256x6561 = rslot (Ring.sl 2 k.val) := rslot_congr (off5_eq k) _ _
@[sl_canon] theorem slotI (k : Fin k0_t1_loop.trips) (hh hs) :
    (bufM.slice (Rect.unit (s := S2x256x6561) (k0_off9 k) S1x256x6561.size hh) hs).squeeze S256x6561 squeezes_S1x256x6561_S256x6561 = rslot (Ring.sl 2 k.val) := rslot_congr (off9_eq k) _ _
@[sl_canon] theorem blkW (i : grid0.Coords) (k : Fin k0_t1_loop.trips) (h : 2 ≤ k.val) (hh hs) :
    outM.slice (Rect.unit (s := S32768x6561) (k0_off2 i k) S256x6561.size hh) hs = oblk (pt i) (Ring.bk 64 (k.val - 2)) := oblk_congr (off2_eq i k h) _ _
@[sl_canon] theorem blkI (i : grid0.Coords) (k : Fin k0_t1_loop.trips) (hh hs) :
    outM.slice (Rect.unit (s := S32768x6561) (k0_off8 i k) S256x6561.size hh) hs = oblk (pt i) (Ring.bk 64 k.val) := oblk_congr (off8_eq i k) _ _
@[sl_canon] theorem blkE0 (i : grid0.Coords) (hh hs) :
    outM.slice (Rect.unit (s := S32768x6561) (k0_off10 i 15872#32) S256x6561.size hh) hs = oblk (pt i) (Ring.bk 64 62) := oblk_congr (off10a_eq i) _ _
@[sl_canon] theorem blkE1 (i : grid0.Coords) (hh hs) :
    outM.slice (Rect.unit (s := S32768x6561) (k0_off10 i 16128#32) S256x6561.size hh) hs = oblk (pt i) (Ring.bk 64 63) := oblk_congr (off10b_eq i) _ _

/-! ## The resources -/

section Pieces
variable (c : Dev nD)

/-- Slot `s`'s semaphore at zero. -/
abbrev cellP (s : Fin 2) : sProp 𝕄 := semVal ((c : Thread nD τ), SemLoc.dma (csm s).sem) 0
/-- Slot `s` held at `f`. -/
abbrev slotP (s : Fin 2) (f : Buf (Elt F) ((rslot s).view.loc (c : Thread nD τ))) : sProp 𝕄 :=
  (rslot s).view.loc (c : Thread nD τ) ↦[(rslot s).view.set]{fullShare} f
/-- Block `u` of point `n`'s rows held at `g`. -/
abbrev blkP (n : Fin 2) (u : Fin 64) (g : Buf (Elt F) ((c : Thread nD τ).loc main_v0)) : sProp 𝕄 :=
  (oblk n u).view.loc (c : Thread nD τ) ↦[(oblk n u).view.set]{fullShare} g

end Pieces

end Cert.Proof.KI

end
-- ==== Proof.ITrip.lean ====
/-
  One trip of the kernel's loop: the wait for the slot's previous copy, then the 256 rows' products stored into the slot
  and the copy of the slot to its block of the result started.
-/
module

public import proofs.«01_k».proof.Proof.ICanon

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
local notation "𝕄" => MT nD τ sig Unit (Elt F) ℕ (UU nD τ) ℕ

section Trip

variable (c : Dev nD) (i : grid0.Coords)
  (arg1 : Memref sig .tc .vmem S16384x6 .f32) (harg1 : arg1.IsWhole)
  (arg2 : Memref sig .tc .vmem S40x128 .f32) (harg2 : arg2.IsWhole) (v0 : BitVec 32)

/-- The trip's first part: the wait and the two loads. -/
abbrev partG (k : Fin k0_t1_loop.trips) :=
  k0_part1 (F := F) i arg1 harg1 arg2 harg2 outM (Memref.isWhole_whole _) bufM (Memref.isWhole_whole _) cc0_scratch1 v0 0#32 1#32 k

/-- What the first part hands on, from the rows `x` and the table `T` it loaded. -/
abbrev headOf (k : Fin k0_t1_loop.trips) (x : Vec F S256x6 .f32) (T : Vec F S40x128 .f32) :
    Σ' (v16 : BitVec 32) (v17 : BitVec 32) (v28 : Vec F S256x6 .f32) (v30 : FVec F S40x128 .f32) (v31 : FVec F S1x128 .f32) (v32 : FVec F S1x128 .f32) (v35 : IVec S1x128 1) (v38 : IVec S1x128 1) (v41 : IVec S1x128 1) (v44 : IVec S1x128 1) (v47 : IVec S1x128 1) (v50 : IVec S1x128 1) (v53 : IVec S1x128 1) (v54 : FVec F S1x128 .f32), F .f32 :=
  ⟨0#32, Scalar.divsi (Scf.iv 0#32 1#32 k.val) 1#32, x, k0_pay2 T, k0_pay3 T, k0_pay4 T, k0_pay5 T, k0_pay6 T, k0_pay7 T, k0_pay8 T,
    k0_pay9 T, k0_pay10 T, k0_pay11 T, k0_pay12 T, Scalar.ofBits .f32 0x3F000000#32⟩

/-- The trip. -/
abbrev tripG (k : Fin k0_t1_loop.trips) : Prog (TpuEff nD τ sig (Elt F) Λ₀ .tc) Unit :=
  k0_t1_body (F := F) i arg1 harg1 arg2 harg2 outM (Memref.isWhole_whole _) bufM (Memref.isWhole_whole _) cc0_scratch1 v0 k ()

set_option backward.proofsInPublic true in
set_option sl_exec.resultNames true in
/-- The trip from its first part on, the slot free: the stored pieces are found by the run. -/
def coreRun (k : Fin k0_t1_loop.trips) (x : Vec F S256x6 .f32) (T : Vec F S40x128 .f32) :
    { L : List (View.Piece (Elt F) S256x6561 .f32) //
      ∀ (P R : sProp 𝕄)
        (h1 : ∀ Ψ, iprop(P ∗ (((∃ f, slotP c (Ring.sl 2 k.val) f) ∗ cellP c (Ring.sl 2 k.val) ∗ (∃ W, owes (c : Thread nD τ) 0 W) ∗ R)
            -∗ Ψ (headOf k x T))) ⊢ wp frame (wpE (defs₀ (F := F)) 𝒱₀ (c : Thread nD τ) none) Set.univ (partG i arg1 harg1 arg2 harg2 v0 k) Ψ)
        (g : Buf (Elt F) ((c : Thread nD τ).loc main_v0)),
        iprop(P ∗ blkP c (pt i) (Ring.bk 64 k.val) g)
          ⊢ wp frame (wpE (defs₀ (F := F)) 𝒱₀ (c : Thread nD τ) none) Set.univ (tripG i arg1 harg1 arg2 harg2 v0 k)
            (fun _ => iprop(R ∗ (∃ W, owes (c : Thread nD τ) 0 W) ∗ ∃ f w, Transfers.Flight countersEmb (c : Thread nD τ)
                (SemLoc.dma (csm (Ring.sl 2 k.val)).sem) () 212992
                iprop(blkP c (pt i) (Ring.bk 64 k.val) ((oblk (pt i) (Ring.bk 64 k.val)).view.writes (Elt F) g [⟨Rect.whole S256x6561, w⟩])
                  ∗ slotP c (Ring.sl 2 k.val) ((rslot (Ring.sl 2 k.val)).view.writes (Elt F) f L))
                ∗ ⌜w = (rslot (Ring.sl 2 k.val)).view.read (Elt F) ((rslot (Ring.sl 2 k.val)).view.writes (Elt F) f L)⌝)) } := by
  refine ⟨?_, ?run⟩
  case run =>
    intro P R h1 g
    have hc2 : k0_cond2 k = 1#1 := cond2_eq k
    dsimp only [tripG]
    unfold k0_t1_body
    iintro ⟨HP, Hb⟩
    rw [wp_bind]
    iapply h1
    isplitl [HP]; · iexact HP
    iintro ⟨⟨%f, Hs⟩, Hc, ⟨%W, HW⟩, HR⟩
    sl_exec_parts
    sl_step
    isplitl [HR]; · iexact HR
    isplitl [HW]; · iexists W; iexact HW
    iexists f; iexists _
    isplitl [Hc]; · iexact Hc
    ipureintro; rfl

end Trip

end Cert.Proof.KI

end
-- ==== Proof.ITile.lean ====
/-
  The tile one trip of the kernel's loop leaves in its slot: the 81 column bands cover the slot, so what the slot reads
  afterwards does not depend on what it held before, nor on which slot it is.
-/
module

public import proofs.«01_k».proof.Proof.ITrip

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
local notation "𝕄" => MT nD τ sig Unit (Elt F) ℕ (UU nD τ) ℕ

/-- The pieces the trip stores, the last one first. -/
abbrev pieces (k : Fin k0_t1_loop.trips) (x : Vec F S256x6 .f32) (T : Vec F S40x128 .f32) :
    List (View.Piece (Elt F) S256x6561 .f32) := coreRun.sl.Hs_81 k x T

theorem band_inb (a : Fin 81) : ∀ d, (![0, 81 * a.val] : Fin 2 → Nat) d + S256x81.size d ≤ S256x6561.size d := by
  have := a.isLt; intro d; fin_cases d
  · show 0 + 256 ≤ 256; omega
  · show 81 * a.val + 81 ≤ 6561; omega

/-- The rows' products with value `a` of the first point: columns `81 a … 81 a + 80`. -/
abbrev bandR (k : Fin k0_t1_loop.trips) (a : Fin 81) : Rect S256x6561 :=
  (Rect.unit (s := S256x6561) (k0_off6 k) S256x6561.size (k0_off6_inb k)).within
    (Rect.unit (s := S256x6561) ![0, 81 * a.val] S256x81.size (band_inb a)) (fun _ => rfl)

/-- The order the bands are stored in, the last one first. -/
def bandOrder : List (Fin 81) :=
  [64, 80, 65, 79, 49, 63, 66, 78, 50, 62, 36, 48, 67, 77, 51, 61, 37, 47, 25, 35, 68, 76, 52, 60, 38, 46, 26, 34, 16, 24,
   69, 75, 53, 59, 39, 45, 27, 33, 17, 23, 9, 15, 70, 74, 54, 58, 40, 44, 28, 32, 18, 22, 10, 14, 4, 8,
   71, 73, 55, 57, 41, 43, 29, 31, 19, 21, 11, 13, 5, 7, 1, 3, 72, 56, 42, 30, 20, 12, 6, 2, 0]

theorem bandOrder_all : ∀ a : Fin 81, a ∈ bandOrder := by decide +kernel

/-- The stored pieces lie on the bands, in that order. -/
theorem pieces_rects (k : Fin k0_t1_loop.trips) (x : Vec F S256x6 .f32) (T : Vec F S40x128 .f32) :
    (pieces k x T).map Sigma.fst = bandOrder.map (bandR k) := rfl

/-- Band `a` holds the columns `81 a … 81 a + 80`. -/
theorem bandR_emb (k : Fin k0_t1_loop.trips) (a : Fin 81) (x : S256x81.Idx) :
    (((bandR k a).emb x) 0).val = (x 0).val ∧ (((bandR k a).emb x) 1).val = 81 * a.val + (x 1).val := by
  have h0 : k0_off6 k 0 = 0 := by rw [off6_eq]; rfl
  have h1 : k0_off6 k 1 = 0 := by rw [off6_eq]; rfl
  refine ⟨?_, ?_⟩
  · show k0_off6 k 0 + 0 + 1 * (x 0).val = _; omega
  · show k0_off6 k 1 + 81 * a.val + 1 * (x 1).val = _; omega

/-- Every element of the slot lies on the band of its column. -/
theorem mem_bandR (k : Fin k0_t1_loop.trips) (y : S256x6561.Idx) (a : Fin 81) (ha : a.val = (y 1).val / 81) : y ∈ (bandR k a).set := by
  have h0 : k0_off6 k 0 = 0 := by rw [off6_eq]; rfl
  have h1 : k0_off6 k 1 = 0 := by rw [off6_eq]; rfl
  have hb : (y 1).val < 6561 := (y 1).isLt
  have hr : (y 0).val < 256 := (y 0).isLt
  rw [LoadRect.mem_set]
  intro d
  match d with
  | ⟨0, _⟩ => exact ⟨(y 0).val, hr, show (y 0).val = k0_off6 k 0 + 0 + 1 * (y 0).val by omega⟩
  | ⟨1, _⟩ => exact ⟨(y 1).val % 81, Nat.mod_lt _ (by decide), show (y 1).val = k0_off6 k 1 + 81 * a.val + 1 * ((y 1).val % 81) by omega⟩

theorem pieces_cover (k : Fin k0_t1_loop.trips) (x : Vec F S256x6 .f32) (T : Vec F S40x128 .f32) (y : S256x6561.Idx) :
    ∃ p ∈ pieces k x T, y ∈ p.1.set := by
  have hb : (y 1).val < 6561 := (y 1).isLt
  have hm : bandR k ⟨(y 1).val / 81, by omega⟩ ∈ (pieces k x T).map Sigma.fst := by
    rw [pieces_rects]; exact List.mem_map_of_mem (bandOrder_all _)
  obtain ⟨p, hp, he⟩ := List.mem_map.mp hm
  exact ⟨p, hp, he ▸ mem_bandR k y _ rfl⟩

/-- The tile: what the slot reads after the trip. -/
def tile (k : Fin k0_t1_loop.trips) (x : Vec F S256x6 .f32) (T : Vec F S40x128 .f32) : Vec F S256x6561 .f32 :=
  (rslot 0).view.read (Elt F) ((rslot 0).view.writes (Elt F) (rslot 0).view.junk (pieces k x T))

theorem tile_eq (k : Fin k0_t1_loop.trips) (x : Vec F S256x6 .f32) (T : Vec F S40x128 .f32) (s : Fin 2) (f) :
    (rslot s).view.read (Elt F) ((rslot s).view.writes (Elt F) f (pieces k x T)) = tile k x T :=
  View.read_writes_of_cover _ _ _ _ _ (pieces_cover k x T)

/-- A block written whole with what `G` reads there is the block at `G`. -/
theorem blk_landed (c : Dev nD) (n : Fin 2) (u : Fin 64) (g G : Buf (Elt F) ((c : Thread nD τ).loc main_v0)) (w : S256x6561.Idx → Elt F .f32)
    (h : (oblk n u).view.read (Elt F) G = w) :
    (blkP c n u ((oblk n u).view.writes (Elt F) g [⟨Rect.whole S256x6561, w⟩]) : sProp 𝕄) = blkP c n u G := by
  have e : (oblk n u).view.read (Elt F) ((oblk n u).view.writes (Elt F) g [⟨Rect.whole S256x6561, w⟩]) = (oblk n u).view.read (Elt F) G :=
    (View.read_writes_whole (oblk n u).view g w).trans h.symm
  refine (pointsTo_rep (c : Thread nD τ) (oblk n u) ((oblk n u).view.writes (Elt F) g [⟨Rect.whole S256x6561, w⟩]) fullShare).trans ?_
  rw [e]
  exact (pointsTo_rep (c : Thread nD τ) (oblk n u) G fullShare).symm

end Cert.Proof.KI

end
-- ==== Proof.ILoop.lean ====
/-
  The kernel's loop under the write ring's invariant, and the body: the loop of 64 trips and the two waits that drain it.
-/
module

public import proofs.«01_k».proof.Proof.ITile

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
local notation "𝕄" => MT nD τ sig Unit (Elt F) ℕ (UU nD τ) ℕ

section Loop

variable (c : Dev nD) (i : grid0.Coords)
  (arg1 : Memref sig .tc .vmem S16384x6 .f32) (harg1 : arg1.IsWhole)
  (arg2 : Memref sig .tc .vmem S40x128 .f32) (harg2 : arg2.IsWhole) (v0 : BitVec 32)
  (g1 : Buf (Elt F) (arg1.view.loc (c : Thread nD τ))) (g2 : Buf (Elt F) (arg2.view.loc (c : Thread nD τ)))
  (V G : Buf (Elt F) ((c : Thread nD τ).loc main_v0))

/-- The points' window and the table's. -/
abbrev winP : sProp 𝕄 :=
  iprop((arg1.view.loc (c : Thread nD τ) ↦[arg1.view.set]{fullShare} g1) ∗ (arg2.view.loc (c : Thread nD τ) ↦[arg2.view.set]{fullShare} g2))

/-- The rows trip `k` loads. -/
abbrev xAt (k : Fin k0_t1_loop.trips) : Vec F S256x6 .f32 :=
  arg1.view.readAt (Elt F) (Rect.unit (s := S16384x6) (k0_off4 k) S256x6.size (k0_off4_inb k)).toLoadRect g1
/-- The table as each trip loads it. -/
abbrev tAt : Vec F S40x128 .f32 :=
  arg2.view.readAt (Elt F) (Rect.unit (s := S40x128) ![0, 0] S40x128.size inb_S40x128_S40x128_0_0).toLoadRect g2

/-- A slot at rest: held at anything, its counter at zero. -/
abbrev freeP (s : Fin 2) : sProp 𝕄 := iprop((∃ f, slotP c s f) ∗ cellP c s)
/-- Slot `s` in flight to block `u`, which the copy leaves at `G`. -/
abbrev inflP (s : Fin 2) (u : Fin 64) : sProp 𝕄 :=
  iprop(∃ f, Transfers.Flight countersEmb (c : Thread nD τ) (SemLoc.dma (csm s).sem) () 212992
    iprop(blkP c (pt i) u G ∗ slotP c s f))

/-- The ring before trip `k`. -/
abbrev ringAt (k : ℕ) : sProp 𝕄 :=
  Ring.AtB 2 (freeP (F := F) c) (inflP c i G) (fun u => blkP c (pt i) u V) (fun u => blkP c (pt i) u G) k

/-- The first part of a trip before the second: no wait, the slot at rest. -/
theorem part_early (k : Fin k0_t1_loop.trips) (h : ¬ 2 ≤ k.val) (W) (Ψ) :
    iprop((winP c arg1 arg2 g1 g2 ∗ freeP c (Ring.sl 2 k.val) ∗ owes (c : Thread nD τ) 0 W)
        ∗ (((∃ f, slotP c (Ring.sl 2 k.val) f) ∗ cellP c (Ring.sl 2 k.val) ∗ (∃ W, owes (c : Thread nD τ) 0 W) ∗ winP c arg1 arg2 g1 g2)
          -∗ Ψ (headOf k (xAt c arg1 g1 k) (tAt c arg2 g2))))
      ⊢ wp frame (wpE (defs₀ (F := F)) 𝒱₀ (c : Thread nD τ) none) Set.univ (partG i arg1 harg1 arg2 harg2 v0 k) Ψ := by
  have hc : ¬ k0_cond1 k = 1#1 := fun e => h ((cond1_iff k).mp e)
  dsimp only [partG]
  sl_unfold [k0_part1]
  iintro ⟨⟨⟨H1, H2⟩, ⟨Hs, Hc⟩, HW⟩, Hk⟩
  sl_exec
  sl_step
  rw [show part_early.sl.v30 c arg2 g2 = k0_pay2 (tAt c arg2 g2) from rfl,
    show part_early.sl.v31 c arg2 g2 = k0_pay3 (tAt c arg2 g2) from rfl,
    show part_early.sl.v32 c arg2 g2 = k0_pay4 (tAt c arg2 g2) from rfl,
    show part_early.sl.v35 c arg2 g2 = k0_pay5 (tAt c arg2 g2) from rfl,
    show part_early.sl.v38 c arg2 g2 = k0_pay6 (tAt c arg2 g2) from rfl,
    show part_early.sl.v41 c arg2 g2 = k0_pay7 (tAt c arg2 g2) from rfl,
    show part_early.sl.v44 c arg2 g2 = k0_pay8 (tAt c arg2 g2) from rfl,
    show part_early.sl.v47 c arg2 g2 = k0_pay9 (tAt c arg2 g2) from rfl,
    show part_early.sl.v50 c arg2 g2 = k0_pay10 (tAt c arg2 g2) from rfl,
    show part_early.sl.v53 c arg2 g2 = k0_pay11 (tAt c arg2 g2) from rfl,
    show part_early.sl.v54 c arg2 g2 = k0_pay12 (tAt c arg2 g2) from rfl,
    show part_early.sl.cst (F := F) = Scalar.ofBits .f32 0x3F000000#32 from rfl,
    show part_early.sl.v17 k = Scalar.divsi (Scf.iv 0#32 1#32 k.val) 1#32 from rfl]
  iapply Hk
  isplitl [Hs]; · iexact Hs
  isplitl [Hc]; · iexact Hc
  isplitl [HW]; · iexists W; iexact HW
  isplitl [H1]; · iexact H1
  iexact H2

/-- The first part of a later trip: the slot's previous copy is waited, its block delivered. -/
theorem part_late (k : Fin k0_t1_loop.trips) (h : 2 ≤ k.val) (W) (Ψ) :
    iprop((winP c arg1 arg2 g1 g2 ∗ inflP c i G (Ring.sl 2 k.val) (Ring.bk 64 (k.val - 2)) ∗ owes (c : Thread nD τ) 0 W)
        ∗ (((∃ f, slotP c (Ring.sl 2 k.val) f) ∗ cellP c (Ring.sl 2 k.val) ∗ (∃ W, owes (c : Thread nD τ) 0 W)
            ∗ (winP c arg1 arg2 g1 g2 ∗ blkP c (pt i) (Ring.bk 64 (k.val - 2)) G))
          -∗ Ψ (headOf k (xAt c arg1 g1 k) (tAt c arg2 g2))))
      ⊢ wp frame (wpE (defs₀ (F := F)) 𝒱₀ (c : Thread nD τ) none) Set.univ (partG i arg1 harg1 arg2 harg2 v0 k) Ψ := by
  have hc : k0_cond1 k = 1#1 := (cond1_iff k).mpr h
  dsimp only [partG]
  sl_unfold [k0_part1]
  iintro ⟨⟨⟨H1, H2⟩, ⟨%f, Hc⟩, HW⟩, Hk⟩
  sl_exec
  sl_step
  rw [show part_late.sl.v30 c arg2 g2 = k0_pay2 (tAt c arg2 g2) from rfl,
    show part_late.sl.v31 c arg2 g2 = k0_pay3 (tAt c arg2 g2) from rfl,
    show part_late.sl.v32 c arg2 g2 = k0_pay4 (tAt c arg2 g2) from rfl,
    show part_late.sl.v35 c arg2 g2 = k0_pay5 (tAt c arg2 g2) from rfl,
    show part_late.sl.v38 c arg2 g2 = k0_pay6 (tAt c arg2 g2) from rfl,
    show part_late.sl.v41 c arg2 g2 = k0_pay7 (tAt c arg2 g2) from rfl,
    show part_late.sl.v44 c arg2 g2 = k0_pay8 (tAt c arg2 g2) from rfl,
    show part_late.sl.v47 c arg2 g2 = k0_pay9 (tAt c arg2 g2) from rfl,
    show part_late.sl.v50 c arg2 g2 = k0_pay10 (tAt c arg2 g2) from rfl,
    show part_late.sl.v53 c arg2 g2 = k0_pay11 (tAt c arg2 g2) from rfl,
    show part_late.sl.v54 c arg2 g2 = k0_pay12 (tAt c arg2 g2) from rfl,
    show part_late.sl.cst (F := F) = Scalar.ofBits .f32 0x3F000000#32 from rfl,
    show part_late.sl.v17 k = Scalar.divsi (Scf.iv 0#32 1#32 k.val) 1#32 from rfl]
  iapply Hk
  isplitl [Hc_src]; · iexists _; iexact Hc_src
  isplitl [Hc]; · iexact Hc
  isplitl [HW]; · iexists _; iexact HW
  isplitl [H1 H2]
  · isplitl [H1]; · iexact H1
    iexact H2
  iexact Hc_dst

/-- The block each trip's copy leaves is `G`'s: what `G` has to satisfy. -/
abbrev Tiles : Prop :=
  ∀ k : Fin k0_t1_loop.trips, (oblk (pt i) (Ring.bk 64 k.val)).view.read (Elt F) G = tile k (xAt c arg1 g1 k) (tAt c arg2 g2)

/-- A trip from its first part's behaviour. -/
theorem trip_of (hG : Tiles c i arg1 arg2 g1 g2 G) (k : Fin k0_t1_loop.trips) (P R : sProp 𝕄)
    (h1 : ∀ Ψ, iprop(P ∗ (((∃ f, slotP c (Ring.sl 2 k.val) f) ∗ cellP c (Ring.sl 2 k.val) ∗ (∃ W, owes (c : Thread nD τ) 0 W) ∗ R)
        -∗ Ψ (headOf k (xAt c arg1 g1 k) (tAt c arg2 g2)))) ⊢ wp frame (wpE (defs₀ (F := F)) 𝒱₀ (c : Thread nD τ) none) Set.univ (partG i arg1 harg1 arg2 harg2 v0 k) Ψ) :
    iprop(P ∗ blkP c (pt i) (Ring.bk 64 k.val) V)
      ⊢ wp frame (wpE (defs₀ (F := F)) 𝒱₀ (c : Thread nD τ) none) Set.univ (tripG i arg1 harg1 arg2 harg2 v0 k)
        (fun _ => iprop(R ∗ (∃ W, owes (c : Thread nD τ) 0 W) ∗ inflP c i G (Ring.sl 2 k.val) (Ring.bk 64 k.val))) := by
  iintro H
  iapply (wp_wand_r Idealize.ShloMosaic.frame (wpE (defs₀ (F := F)) 𝒱₀ (c : Thread nD τ) none) Set.univ)
  isplitl [H]
  · iapply (coreRun c i arg1 harg1 arg2 harg2 v0 k (xAt c arg1 g1 k) (tAt c arg2 g2)).2 P R h1 V; iexact H
  · iintro %_ ⟨HR, HW, %f, %w, HF, %hw⟩
    isplitl [HR]; · iexact HR
    isplitl [HW]; · iexact HW
    have e := blk_landed c (pt i) (Ring.bk 64 k.val) V G w (by rw [hw]; exact (hG k).trans (tile_eq k _ _ (Ring.sl 2 k.val) f).symm)
    rw [e]
    iexists _; iexact HF

/-- One trip on the ring. -/
theorem trip_ring (hG : Tiles c i arg1 arg2 g1 g2 G) (k : Fin k0_t1_loop.trips) :
    iprop(ringAt c i V G k.val ∗ winP c arg1 arg2 g1 g2 ∗ (∃ W, owes (c : Thread nD τ) 0 W))
      ⊢ wp frame (wpE (defs₀ (F := F)) 𝒱₀ (c : Thread nD τ) none) Set.univ (tripG i arg1 harg1 arg2 harg2 v0 k)
        (fun _ => iprop(ringAt c i V G (k.val + 1) ∗ winP c arg1 arg2 g1 g2 ∗ (∃ W, owes (c : Thread nD τ) 0 W))) := by
  have hk := k_lt k
  by_cases h2 : 2 ≤ k.val
  · unfold ringAt
    rw [Ring.AtB22_here (freeP (F := F) c) (inflP c i G) (fun u => blkP c (pt i) u V) (fun u => blkP c (pt i) u G) k.val h2 hk,
      Ring.AtB22_next (freeP (F := F) c) (inflP c i G) (fun u => blkP c (pt i) u V) (fun u => blkP c (pt i) u G) k.val h2 hk]
    iintro ⟨⟨⟨Hb, Ha⟩, Hd, Hf, Hf'⟩, Hw, %W, HW⟩
    iapply (wp_wand_r Idealize.ShloMosaic.frame (wpE (defs₀ (F := F)) 𝒱₀ (c : Thread nD τ) none) Set.univ)
    isplitl [Hb Hf Hw HW]
    · iapply (trip_of c i arg1 harg1 arg2 harg2 v0 g1 g2 V G hG k _ _ (part_late c i arg1 harg1 arg2 harg2 v0 g1 g2 G k h2 W))
      isplitl [Hf Hw HW]
      · isplitl [Hw]; · iexact Hw
        isplitl [Hf]; · iexact Hf
        iexact HW
      iexact Hb
    · iintro %_ ⟨⟨Hw, Hbd⟩, HW, Hfl⟩
      isplitl [Ha Hbd Hd Hf' Hfl]
      · isplitl [Ha]; · iexact Ha
        isplitl [Hbd Hd]
        · isplitl [Hbd]; · iexact Hbd
          iexact Hd
        isplitl [Hf']; · iexact Hf'
        iexact Hfl
      isplitl [Hw]; · iexact Hw
      iexact HW
  · by_cases h1 : k.val = 1
    · unfold ringAt
      rw [Ring.AtB22_one' (freeP (F := F) c) (inflP c i G) (fun u => blkP c (pt i) u V) (fun u => blkP c (pt i) u G) k.val h1 (by decide),
        Ring.AtB22_next_one' (freeP (F := F) c) (inflP c i G) (fun u => blkP c (pt i) u V) (fun u => blkP c (pt i) u G) k.val h1]
      iintro ⟨⟨⟨Hb, Ha⟩, Hf, Hf'⟩, Hw, %W, HW⟩
      iapply (wp_wand_r Idealize.ShloMosaic.frame (wpE (defs₀ (F := F)) 𝒱₀ (c : Thread nD τ) none) Set.univ)
      isplitl [Hb Hf Hw HW]
      · iapply (trip_of c i arg1 harg1 arg2 harg2 v0 g1 g2 V G hG k _ _ (part_early c i arg1 harg1 arg2 harg2 v0 g1 g2 k h2 W))
        isplitl [Hf Hw HW]
        · isplitl [Hw]; · iexact Hw
          isplitl [Hf]; · iexact Hf
          iexact HW
        iexact Hb
      · iintro %_ ⟨Hw, HW, Hfl⟩
        isplitl [Ha Hf' Hfl]
        · isplitl [Ha]; · iexact Ha
          isplitl [Hf']; · iexact Hf'
          iexact Hfl
        isplitl [Hw]; · iexact Hw
        iexact HW
    · have h0 : k.val = 0 := by omega
      unfold ringAt
      rw [Ring.AtB2_zero' 2 (freeP (F := F) c) (inflP c i G) (fun u => blkP c (pt i) u V) (fun u => blkP c (pt i) u G) k.val h0,
        Ring.AtB22_next_zero' (freeP (F := F) c) (inflP c i G) (fun u => blkP c (pt i) u V) (fun u => blkP c (pt i) u G) k.val h0]
      iintro ⟨⟨⟨Hb, Ha⟩, Hf, Hf'⟩, Hw, %W, HW⟩
      iapply (wp_wand_r Idealize.ShloMosaic.frame (wpE (defs₀ (F := F)) 𝒱₀ (c : Thread nD τ) none) Set.univ)
      isplitl [Hb Hf Hw HW]
      · iapply (trip_of c i arg1 harg1 arg2 harg2 v0 g1 g2 V G hG k _ _ (part_early c i arg1 harg1 arg2 harg2 v0 g1 g2 k h2 W))
        isplitl [Hf Hw HW]
        · isplitl [Hw]; · iexact Hw
          isplitl [Hf]; · iexact Hf
          iexact HW
        iexact Hb
      · iintro %_ ⟨Hw, HW, Hfl⟩
        isplitl [Ha Hf' Hfl]
        · isplitl [Ha]; · iexact Ha
          isplitl [Hf']; · iexact Hf'
          iexact Hfl
        isplitl [Hw]; · iexact Hw
        iexact HW

/-- What a trip starts from and ends in. -/
@[irreducible] def loopSt (k : ℕ) : sProp 𝕄 := iprop(ringAt c i V G k ∗ winP c arg1 arg2 g1 g2 ∗ (∃ W, owes (c : Thread nD τ) 0 W))

set_option warn.classDefReducibility false in
/-- The loop's invariant: the ring, the two windows, the core's waits. -/
@[sl_loop] def loopInv1 (hG : Tiles c i arg1 arg2 g1 g2 G) :
    LoopInvTy_k0_t1 (F := F) Unit ℕ (UU nD τ) ℕ 𝒱₀ c none Set.univ i arg1 harg1 arg2 harg2 outM (Memref.isWhole_whole _) bufM (Memref.isWhole_whole _) cc0_scratch1 v0 where
  inv k _ := loopSt c i arg1 arg2 g1 g2 V G k
  step k _ := by unfold loopSt; exact trip_ring c i arg1 harg1 arg2 harg2 v0 g1 g2 V G hG k

end Loop

end Cert.Proof.KI

end
-- ==== Proof.IBody.lean ====
/-
  The kernel's body at one grid point: the loop, then the two waits that drain the ring.
-/
module

public import proofs.«01_k».proof.Proof.ILoop

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
local notation "𝕄" => MT nD τ sig Unit (Elt F) ℕ (UU nD τ) ℕ

section Body

variable (c : Dev nD) (i : grid0.Coords)
  (arg1 : Memref sig .tc .vmem S16384x6 .f32) (harg1 : arg1.IsWhole)
  (arg2 : Memref sig .tc .vmem S40x128 .f32) (harg2 : arg2.IsWhole)
  (g1 : Buf (Elt F) (arg1.view.loc (c : Thread nD τ))) (g2 : Buf (Elt F) (arg2.view.loc (c : Thread nD τ)))
  (V G : Buf (Elt F) ((c : Thread nD τ).loc main_v0))

/-- The body on its two windows. -/
abbrev bodyG : Prog (TpuEff nD τ sig (Elt F) Λ₀ .tc) PUnit :=
  cc0__tph_kernel i arg1 harg1 arg2 harg2 outM (Memref.isWhole_whole _) bufM (Memref.isWhole_whole _) cc0_scratch1

theorem sl_end0 : Ring.sl 2 k0_t1_loop.trips = 0 := by decide +kernel
theorem sl_end1 : Ring.sl 2 (k0_t1_loop.trips + 1) = 1 := by decide +kernel
theorem bk_end0 : Ring.bk 64 (k0_t1_loop.trips - 2) = Ring.bk 64 62 := by decide +kernel
theorem bk_end1 : Ring.bk 64 (k0_t1_loop.trips - 1) = Ring.bk 64 63 := by decide +kernel

/-- The ring before the first trip. -/
theorem ring_start : (iprop(bigSep Finset.univ (fun u => blkP c (pt i) u V) ∗ bigSep Finset.univ (freeP (F := F) c)) : sProp 𝕄) = ringAt c i V G 0 :=
  (Ring.AtB_zero 2 (freeP (F := F) c) (inflP c i G) (fun u => blkP c (pt i) u V) (fun u => blkP c (pt i) u G)).symm
/-- The ring after the last trip: the last two blocks in flight. -/
theorem ring_end : (ringAt c i V G k0_t1_loop.trips : sProp 𝕄)
    = iprop(bigSep (Ring.behindSet 2 k0_t1_loop.trips) (fun u => blkP c (pt i) u G) ∗ inflP c i G 0 (Ring.bk 64 62) ∗ inflP c i G 1 (Ring.bk 64 63)) := by
  unfold ringAt
  rw [Ring.AtB22_end' (freeP (F := F) c) (inflP c i G) (fun u => blkP c (pt i) u V) (fun u => blkP c (pt i) u G) _ trips_eq (by decide),
    sl_end0, sl_end1, bk_end0, bk_end1]
/-- The ring drained. -/
theorem ring_done : (iprop(bigSep Finset.univ (fun u => blkP c (pt i) u G) ∗ bigSep Finset.univ (freeP (F := F) c)) : sProp 𝕄)
    = iprop((blkP c (pt i) (Ring.bk 64 62) G ∗ blkP c (pt i) (Ring.bk 64 63) G ∗ bigSep (Ring.behindSet 2 k0_t1_loop.trips) (fun u => blkP c (pt i) u G))
        ∗ freeP c 0 ∗ freeP c 1) := by
  have h := Ring.AtB22_epilogue' (freeP (F := F) c) (fun u => blkP c (pt i) u G) _ trips_eq (by decide)
  rw [sl_end0, sl_end1, bk_end0, bk_end1] at h
  exact h

theorem loopSt_intro (k : ℕ) : iprop(ringAt c i V G k ∗ winP c arg1 arg2 g1 g2 ∗ (∃ W, owes (c : Thread nD τ) 0 W))
    ⊢ (loopSt c i arg1 arg2 g1 g2 V G k : sProp 𝕄) := by unfold loopSt; exact .rfl
theorem loopSt_elim (k : ℕ) : (loopSt c i arg1 arg2 g1 g2 V G k : sProp 𝕄)
    ⊢ iprop(ringAt c i V G k ∗ winP c arg1 arg2 g1 g2 ∗ (∃ W, owes (c : Thread nD τ) 0 W)) := by unfold loopSt; exact .rfl

/-- The body: the rows' blocks taken from `V` to `G`. -/
theorem bodyRun (hG : Tiles c i arg1 arg2 g1 g2 G) (W) (Q : PUnit → sProp 𝕄) :
    iprop((winP c arg1 arg2 g1 g2 ∗ (bigSep Finset.univ (fun u => blkP c (pt i) u V) ∗ bigSep Finset.univ (freeP (F := F) c)) ∗ owes (c : Thread nD τ) 0 W)
        ∗ ((winP c arg1 arg2 g1 g2 ∗ (bigSep Finset.univ (fun u => blkP c (pt i) u G) ∗ bigSep Finset.univ (freeP (F := F) c)) ∗ ∃ W, owes (c : Thread nD τ) 0 W) -∗ Q ⟨⟩))
      ⊢ wp frame (wpE (defs₀ (F := F)) 𝒱₀ (c : Thread nD τ) none) Set.univ (bodyG i arg1 harg1 arg2 harg2) Q := by
  iintro ⟨⟨Hw, Hr, HW⟩, Hk⟩
  ihave Hring := (entails_of_eq (ring_start c i V G)) $$ Hr
  ihave HL := (loopSt_intro c i arg1 arg2 g1 g2 V G 0) $$ [Hring Hw HW]
  · isplitl [Hring]; · iexact Hring
    isplitl [Hw]; · iexact Hw
    iexists W; iexact HW
  dsimp only [bodyG]
  sl_unfold [cc0__tph_kernel]
  sl_exec
  ihave HL' := (loopSt_elim c i arg1 arg2 g1 g2 V G k0_t1_loop.trips) $$ HL
  icases HL' with ⟨Hring, Hw, %W', HW⟩
  ihave Hend := (entails_of_eq (ring_end c i V G)) $$ Hring
  icases Hend with ⟨Hd, ⟨%f0, Hc0⟩, ⟨%f1, Hc1⟩⟩
  sl_exec
  sl_step
  iapply Hk
  isplitl [Hw]; · iexact Hw
  isplitl [Hd Hc0 Hc1 Hc0_src Hc1_src Hc0_dst Hc1_dst]
  · iapply (entails_of_eq (ring_done c i G).symm)
    isplitl [Hd Hc0_dst Hc1_dst]
    · isplitl [Hc0_dst]; · iexact Hc0_dst
      isplitl [Hc1_dst]; · iexact Hc1_dst
      iexact Hd
    isplitl [Hc0 Hc0_src]
    · isplitl [Hc0_src]; · iexists _; iexact Hc0_src
      iexact Hc0
    · isplitl [Hc1_src]; · iexists _; iexact Hc1_src
      iexact Hc1
  iexists _; iexact HW

end Body

end Cert.Proof.KI

end
-- ==== Proof.ILaunch.lean ====
/-
  The launch: the pipeline of two points around the body, the result's 128 blocks and the scratch's two slots cut from
  their buffers and joined back, and the run of @main with what it leaves in the result.
-/
module

public import proofs.«01_k».proof.Proof.IBody
public import Idealize.ShloMosaic.Lib.Pipeline.FrameValue
public import Idealize.ShloMosaic.Lib.Pipeline.FrameBody
public import Idealize.ShloMosaic.Lib.Pipeline.RegionsLoop

@[expose] public section

set_option maxRecDepth 16384

noncomputable section

namespace Cert.Proof.KI

open Cert.KernelIdeal Cert.KernelIdeal.Gen
open Idealize.ShloMosaic
open Idealize.ShloMosaic.Pipeline (Dat WinSpec Window BodyObligation BodyObligationLoose)
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
local notation "𝕄" => MT nD τ sig Unit (Elt F) ℕ (UU nD τ) ℕ

variable (m : (ℓ : Loc nD τ sig) → Buf (Elt F) ℓ) (ρ : Dev nD → PrngReg)

/-! ## The kernel's own semaphores -/

abbrev osem : Fin 2 → SemLoc sig := fun s => .dma (csm s).sem
theorem ownSemFacts : Pipeline.OwnSemFacts spec0 osem := by decide

omit [FloatOps F] in
theorem bigSep_two (P : Fin 2 → sProp 𝕄) : bigSep Finset.univ P = iprop(P 0 ∗ P 1) :=
  bigSep_univ_eq_bigSepL [(0 : Fin 2), (1 : Fin 2)] (by decide) (by decide) P

omit [FloatOps F] in
theorem ownSems0_eq (c : Dev nD) : (Pipeline.ownSems0 (Ix := Unit) (Name := ℕ) (U := UU nD τ) (Lvl := ℕ) (Val := Elt F) (τ := τ) osem c : sProp 𝕄)
    = iprop(cellP c 0 ∗ cellP c 1) := by
  unfold Pipeline.ownSems0; rw [bigSep_two]

/-! ## The blocks of the result and the slots of the scratch as element sets -/

abbrev blkSet (p : Fin 2 × Fin 64) : Finset S32768x6561.Idx :=
  (Rect.unit (s := S32768x6561) (blkOff p.1 p.2) S256x6561.size (blkOff_inb p.1 p.2)).set
abbrev slotSet (s : Fin 2) : Finset S2x256x6561.Idx :=
  (Rect.unit (s := S2x256x6561) (slotOff s) S1x256x6561.size (slotOff_inb s)).set

theorem oblk_set (n : Fin 2) (u : Fin 64) : (oblk n u).view.set = blkSet (n, u) := View.set_slice_whole _ _
theorem rslot_set (s : Fin 2) : (rslot s).view.set = slotSet s := (View.set_reshape _ _).trans (View.set_slice_whole _ _)

theorem mem_blkSet (p : Fin 2 × Fin 64) (y : S32768x6561.Idx) : y ∈ blkSet p ↔ (y 0).val / 256 = 64 * p.1.val + p.2.val := by
  rw [Rect.mem_set_unit]
  have h1 : (y 1).val < 6561 := (y 1).isLt
  constructor
  · intro H
    have a0 : 16384 * p.1.val + 256 * p.2.val ≤ (y 0).val ∧ (y 0).val < 16384 * p.1.val + 256 * p.2.val + 256 := H 0
    omega
  · intro H d
    match d with
    | ⟨0, _⟩ => show 16384 * p.1.val + 256 * p.2.val ≤ (y 0).val ∧ (y 0).val < 16384 * p.1.val + 256 * p.2.val + 256; omega
    | ⟨1, _⟩ => show 0 ≤ (y 1).val ∧ (y 1).val < 0 + 6561; omega
theorem mem_slotSet (s : Fin 2) (y : S2x256x6561.Idx) : y ∈ slotSet s ↔ (y 0).val = s.val := by
  rw [Rect.mem_set_unit]
  have h1 : (y 1).val < 256 := (y 1).isLt
  have h2 : (y 2).val < 6561 := (y 2).isLt
  constructor
  · intro H; have a0 : s.val ≤ (y 0).val ∧ (y 0).val < s.val + 1 := H 0; omega
  · intro H d
    match d with
    | ⟨0, _⟩ => show s.val ≤ (y 0).val ∧ (y 0).val < s.val + 1; omega
    | ⟨1, _⟩ => show 0 ≤ (y 1).val ∧ (y 1).val < 0 + 256; omega
    | ⟨2, _⟩ => show 0 ≤ (y 2).val ∧ (y 2).val < 0 + 6561; omega

theorem blkSet_disjoint : ∀ p q : Fin 2 × Fin 64, p ≠ q → Disjoint (blkSet p) (blkSet q) := by
  intro p q hne; rw [Finset.disjoint_left]; intro y hy hy'; rw [mem_blkSet] at hy hy'
  have := p.2.isLt; have := q.2.isLt
  exact hne (Prod.ext (Fin.ext (by omega)) (Fin.ext (by omega)))
theorem blkSet_cover : (Finset.univ : Finset (Fin 2 × Fin 64)).biUnion blkSet = Finset.univ := by
  ext y; simp only [Finset.mem_biUnion, Finset.mem_univ, true_and, iff_true]
  have h : (y 0).val < 32768 := (y 0).isLt
  exact ⟨(⟨(y 0).val / 16384, by omega⟩, ⟨(y 0).val / 256 % 64, by omega⟩), by rw [mem_blkSet]; show (y 0).val / 256 = 64 * ((y 0).val / 16384) + (y 0).val / 256 % 64; omega⟩
theorem slotSet_disjoint : ∀ s s' : Fin 2, s ≠ s' → Disjoint (slotSet s) (slotSet s') := by
  intro s s' hne; rw [Finset.disjoint_left]; intro y hy hy'; rw [mem_slotSet] at hy hy'; exact hne (Fin.ext (hy.symm.trans hy'))
theorem slotSet_cover : (Finset.univ : Finset (Fin 2)).biUnion slotSet = Finset.univ := by
  ext y; simp only [Finset.mem_biUnion, Finset.mem_univ, true_and, iff_true]; exact ⟨(y 0).cast (by decide), by rw [mem_slotSet]; rfl⟩

/-- The rows of point `n`, block by block. -/
abbrev rowsP (c : Dev nD) (n : Fin 2) (g : Buf (Elt F) ((c : Thread nD τ).loc main_v0)) : sProp 𝕄 :=
  bigSep Finset.univ fun u => blkP c n u g

omit [FloatOps F] in
/-- The result whole is the rows of its two points. -/
theorem out_eq (c : Dev nD) (g : Buf (Elt F) ((c : Thread nD τ).loc main_v0)) :
    (((c : Thread nD τ).loc main_v0) ↦{fullShare} g : sProp 𝕄) = iprop(rowsP c 0 g ∗ rowsP c 1 g) := by
  rw [Ring.pointsTo_blocks (ℓ := (c : Thread nD τ).loc main_v0) blkSet blkSet_disjoint blkSet_cover, bigSep_univ_prod, bigSep_two]
  have e : ∀ n : Fin 2, (bigSep Finset.univ fun u : Fin 64 => (((c : Thread nD τ).loc main_v0) ↦[blkSet (n, u)]{fullShare} g : sProp 𝕄)) = rowsP c n g :=
    fun n => bigSep_congr fun u _ => by rw [← oblk_set]; rfl
  rw [e, e]

omit [FloatOps F] in
theorem slotP_eq (c : Dev nD) (s : Fin 2) (f) : slotP c s f = (((c : Thread nD τ).loc cc0_scratch0) ↦[slotSet s]{fullShare} f : sProp 𝕄) :=
  congrArg (fun S => (_ ↦[S]{fullShare} f : sProp 𝕄)) (rslot_set s)

omit [FloatOps F] in
/-- The scratch whole is its two slots; -/
theorem buf_split (c : Dev nD) :
    iprop(∃ f : Buf (Elt F) ((c : Thread nD τ).loc cc0_scratch0), ((c : Thread nD τ).loc cc0_scratch0) ↦{fullShare} f)
      ⊢ (iprop((∃ f, slotP c 0 f) ∗ ∃ f, slotP c 1 f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scratch0) slotSet slotSet_disjoint slotSet_cover f).trans (bigSep_two _))) $$ H
  icases H2 with ⟨H0, H1⟩
  isplitl [H0]
  · iexists f; iapply (entails_of_eq (slotP_eq c 0 f).symm); iexact H0
  · iexists f; iapply (entails_of_eq (slotP_eq c 1 f).symm); iexact H1
omit [FloatOps F] in
/-- and back. -/
theorem buf_join (c : Dev nD) :
    iprop((∃ f, slotP c 0 f) ∗ ∃ f, slotP c 1 f)
      ⊢ (iprop(∃ f : Buf (Elt F) ((c : Thread nD τ).loc cc0_scratch0), ((c : Thread nD τ).loc cc0_scratch0) ↦{fullShare} f) : sProp 𝕄) := by
  iintro ⟨⟨%f0, H0⟩, ⟨%f1, H1⟩⟩
  iapply (Ring.pointsTo_blocks_join_exists (ℓ := (c : Thread nD τ).loc cc0_scratch0) slotSet slotSet_disjoint slotSet_cover f0)
  irw [bigSep_two]
  isplitl [H0]
  · iexists f0; iapply (entails_of_eq (slotP_eq c 0 f0)); iexact H0
  · iexists f1; iapply (entails_of_eq (slotP_eq c 1 f1)); iexact H1

/-! ## What @main holds at the region's entry, and the result -/

/-- A buffer's contents when the region is entered. -/
abbrev V (c : Dev nD) (b : Ref sig .tc) : Buf (Elt F) ((c : Thread nD τ).loc b) := StableHlo.after hostOps0 (fun b => m (c, b)) b

/-- The rows `256 q … 256 q + 255` of the points. -/
def xrows (X : S32768x6.Idx → Elt F .f32) (q : ℕ) (hq : q < 128) : Vec F S256x6 .f32 := fun z => X fun d => match d with
  | ⟨0, _⟩ => ⟨256 * q + (z 0).val, by have : (z 0).val < 256 := (z 0).isLt; show _ < 32768; omega⟩
  | ⟨1, _⟩ => ⟨(z 1).val, (z 1).isLt⟩

/-- An index of a tile. -/
abbrev tix (r j : ℕ) (hr : r < 256) (hj : j < 6561) : S256x6561.Idx := fun d => match d with
  | ⟨0, _⟩ => ⟨r, hr⟩
  | ⟨1, _⟩ => ⟨j, hj⟩

/-- The result: every block of 256 rows is the tile of its rows. -/
def outG (X : S32768x6.Idx → Elt F .f32) (T : S40x128.Idx → Elt F .f32) : S32768x6561.Idx → Elt F .f32 := fun y =>
  have h : (y 0).val < 32768 := (y 0).isLt
  tile ⟨(y 0).val / 256 % 64, by rw [trips_eq]; omega⟩ (xrows X ((y 0).val / 256) (by omega)) T
    (tix ((y 0).val % 256) (y 1).val (by omega) (y 1).isLt)

abbrev Gb (c : Dev nD) : Buf (Elt F) ((c : Thread nD τ).loc main_v0) := outG (V m c main_arg0) (V m c main_call0_v80)

theorem outG_at (X : S32768x6.Idx → Elt F .f32) (T : S40x128.Idx → Elt F .f32) (y : S32768x6561.Idx) (n : Fin 2) (k : Fin k0_t1_loop.trips)
    (z : S256x6561.Idx) (x : Vec F S256x6 .f32) (h0 : (y 0).val = 16384 * n.val + 256 * k.val + (z 0).val) (h1 : (y 1).val = (z 1).val)
    (hx : x = xrows X (64 * n.val + k.val) (by have := n.isLt; have := k_lt k; omega)) :
    outG X T y = tile k x T z := by
  subst hx
  have hz : (z 0).val < 256 := (z 0).isLt
  have hk := k_lt k
  have e1 : (y 0).val / 256 = 64 * n.val + k.val := by omega
  have e2 : (y 0).val % 256 = (z 0).val := by omega
  have e3 : (64 * n.val + k.val) % 64 = k.val := by omega
  unfold outG
  dsimp only
  have ez : tix ((y 0).val % 256) (y 1).val (by omega) (y 1).isLt = z := by
    funext d
    match d with
    | ⟨0, _⟩ => exact Fin.ext e2
    | ⟨1, _⟩ => exact Fin.ext h1
  rw [ez]
  have ek : ∀ hh, (⟨(y 0).val / 256 % 64, hh⟩ : Fin k0_t1_loop.trips) = k := fun hh => Fin.ext (show (y 0).val / 256 % 64 = k.val by omega)
  rw [ek]
  have ex : ∀ (q : ℕ) (hq : q < 128) (e : q = 64 * n.val + k.val) (h' : 64 * n.val + k.val < 128), xrows X q hq = xrows X (64 * n.val + k.val) h' := by
    intro q hq e h'; subst e; rfl
  rw [ex _ _ e1]

/-! ## The pipeline's proof data -/

abbrev st0 (t : Fin cfg0.N) : Memref sig .tc .vmem S16384x6 .f32 := win0_0.stage (cfg0.slots t 0)
abbrev st1 (t : Fin cfg0.N) : Memref sig .tc .vmem S40x128 .f32 := win0_1.stage (cfg0.slots t 1)
abbrev hst0 (t : Fin cfg0.N) : (st0 t).IsWhole := hstage0_0 ((cfg0.slots t 0).cast nbuf0_0)
abbrev hst1 (t : Fin cfg0.N) : (st1 t).IsWhole := hstage0_1 ((cfg0.slots t 1).cast nbuf0_1)

/-- Window `w`'s block at point `t`, read off its array at the entry. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The point of grid index `t`. -/
abbrev ptOf (t : Fin cfg0.N) : Fin 2 := pt (grid0.coords t)

/-- What is at rest while point `n` runs. -/
def restP (c : Dev nD) (n : Fin 2) : sProp 𝕄 :=
  iprop((match n with | ⟨0, _⟩ => rowsP c 1 (V m c main_v0) | ⟨_ + 1, _⟩ => rowsP c 0 (Gb m c)) ∗ ∃ r, prngReg c r)

/-- The invariant before point `k`. -/
def Φ (c : Dev nD) (k : ℕ) : sProp 𝕄 :=
  iprop(rowsP c 0 (if 0 < k then Gb m c else V m c main_v0) ∗ rowsP c 1 (if 1 < k then Gb m c else V m c main_v0)
    ∗ bigSep Finset.univ (freeP (F := F) c) ∗ ∃ r, prngReg c r)

theorem Φ_before (c : Dev nD) (t : Fin cfg0.N) :
    Φ m c t.val ⊢ iprop((rowsP c (ptOf t) (V m c main_v0) ∗ bigSep Finset.univ (freeP (F := F) c)) ∗ restP m c (ptOf t)) := by
  rcases fin_N0 t with h | h <;> subst h
  · rw [show ptOf t0_0 = 0 from by decide]
    unfold Φ restP
    rw [show (t0_0 : Fin grid0.N).val = 0 from rfl, if_neg (by decide), if_neg (by decide)]
    iintro ⟨H0, H1, Hf, Hp⟩
    isplitl [H0 Hf]
    · isplitl [H0]; · iexact H0
      iexact Hf
    isplitl [H1]; · iexact H1
    iexact Hp
  · rw [show ptOf t0_1 = 1 from by decide]
    unfold Φ restP
    rw [show (t0_1 : Fin grid0.N).val = 1 from rfl, if_pos (by decide), if_neg (by decide)]
    iintro ⟨H0, H1, Hf, Hp⟩
    isplitl [H1 Hf]
    · isplitl [H1]; · iexact H1
      iexact Hf
    isplitl [H0]; · iexact H0
    iexact Hp

theorem Φ_after (c : Dev nD) (t : Fin cfg0.N) :
    iprop((rowsP c (ptOf t) (Gb m c) ∗ bigSep Finset.univ (freeP (F := F) c)) ∗ restP m c (ptOf t)) ⊢ Φ m c (t.val + 1) := by
  rcases fin_N0 t with h | h <;> subst h
  · rw [show ptOf t0_0 = 0 from by decide]
    unfold Φ restP
    rw [show (t0_0 : Fin grid0.N).val = 0 from rfl, if_pos (by decide), if_neg (by decide)]
    iintro ⟨⟨H0, Hf⟩, H1, Hp⟩
    isplitl [H0]; · iexact H0
    isplitl [H1]; · iexact H1
    isplitl [Hf]; · iexact Hf
    iexact Hp
  · rw [show ptOf t0_1 = 1 from by decide]
    unfold Φ restP
    rw [show (t0_1 : Fin grid0.N).val = 1 from rfl, if_pos (by decide), if_pos (by decide)]
    iintro ⟨⟨H1, Hf⟩, H0, Hp⟩
    isplitl [H0]; · iexact H0
    isplitl [H1]; · iexact H1
    isplitl [Hf]; · iexact Hf
    iexact Hp

def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
  Φ t := Φ m c t.val
  q _ := fullShare
  owed _ := 0

theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]
theorem before_w0 (c : Dev nD) (t : Fin cfg0.N) (d) : (dats m 0 c).before 0 t d = iblk m c 0 t := by
  rw [Dat.before_in_eq_fetched (dats m 0 c) 0 rfl (fun _ => rfl) (fun _ _ _ => rfl) (fun t => by rw [after_w0]; unfold Dat.blockOf iblk; rfl) t d]; unfold Dat.fetched Dat.blockOf iblk; dsimp only [dats]; rfl
theorem before_w1 (c : Dev nD) (t : Fin cfg0.N) (d) : (dats m 0 c).before 1 t d = iblk m c 1 t := by
  rw [Dat.before_in_eq_fetched (dats m 0 c) 1 rfl (fun _ => rfl) (fun _ _ _ => rfl) (fun t => by rw [after_w1]; unfold Dat.blockOf iblk; rfl) t d]; unfold Dat.fetched Dat.blockOf iblk; dsimp only [dats]; rfl

/-! ## Every trip's tile is what the result reads there -/

theorem transform0_aux : ∀ n : Fin 2, cc0_transform_0 (coordsOf n) = ![n.val, 0] := by decide
theorem transform0_eq (i : grid0.Coords) : cc0_transform_0 i = ![(pt i).val, 0] := by rw [← transform0_aux (pt i), coordsOf_pt]

theorem xAt_eq (c : Dev nD) (t : Fin cfg0.N) (k : Fin k0_t1_loop.trips) :
    xAt c (st0 t) ((st0 t).view.rep (iblk m c 0 t)) k
      = xrows (V m c main_arg0) (64 * (ptOf t).val + k.val) (by have := (ptOf t).isLt; have := k_lt k; omega) := by
  funext z
  have h0 : k0_off4 k 0 = 256 * k.val := by rw [off4_eq]; rfl
  have h1 : k0_off4 k 1 = 0 := by rw [off4_eq]; rfl
  have b0 : cc0_transform_0 (grid0.coords t) 0 = (ptOf t).val := by rw [transform0_eq]; rfl
  have b1 : cc0_transform_0 (grid0.coords t) 1 = 0 := by rw [transform0_eq]; rfl
  unfold xAt xrows
  rw [View.readAt_apply, View.read_rep]
  unfold iblk
  rw [View.read_apply]
  refine congrArg (V m c main_arg0) ?_
  funext d
  match d with
  | ⟨0, _⟩ =>
    refine Fin.ext ?_
    show cc0_transform_0 (grid0.coords t) 0 * 16384 + 1 * (k0_off4 k 0 + 1 * (z 0).val) = 256 * (64 * (ptOf t).val + k.val) + (z 0).val
    rw [b0, h0]; omega
  | ⟨1, _⟩ =>
    refine Fin.ext ?_
    show cc0_transform_0 (grid0.coords t) 1 * 6 + 1 * (k0_off4 k 1 + 1 * (z 1).val) = (z 1).val
    rw [b1, h1]; omega

theorem tAt_eq (c : Dev nD) (t : Fin cfg0.N) :
    tAt c (st1 t) ((st1 t).view.rep (iblk m c 1 t)) = V m c main_call0_v80 := by
  funext z
  unfold tAt
  rw [View.readAt_apply, View.read_rep]
  unfold iblk
  rw [View.read_apply]
  refine congrArg (V m c main_call0_v80) ?_
  funext d
  match d with
  | ⟨0, _⟩ => refine Fin.ext ?_; show 0 * 40 + 1 * (0 + 1 * (z 0).val) = (z 0).val; omega
  | ⟨1, _⟩ => refine Fin.ext ?_; show 0 * 128 + 1 * (0 + 1 * (z 1).val) = (z 1).val; omega

theorem tiles (c : Dev nD) (t : Fin cfg0.N) :
    Tiles c (grid0.coords t) (st0 t) (st1 t) ((st0 t).view.rep (iblk m c 0 t)) ((st1 t).view.rep (iblk m c 1 t)) (Gb m c) := by
  intro k
  rw [tAt_eq]
  funext z
  refine (View.read_apply _ _).trans ?_
  have hu : (Ring.bk 64 k.val : Fin 64).val = k.val := Nat.mod_eq_of_lt (k_lt k)
  refine outG_at _ _ _ (ptOf t) k z _ ?_ ?_ (xAt_eq m c t k)
  · show 16384 * (ptOf t).val + 256 * (Ring.bk 64 k.val : Fin 64).val + 1 * (z 0).val = _
    rw [hu]; omega
  · show 0 + 1 * (z 1).val = _; omega

/-! ## The body obligation -/

theorem defs_tc : (defs₀ (F := F)) .tc cfg0.body
    = fun a => bodyG (grid0.coords a.1) (win0_0.stage (a.2 0)) (hstage0_0 ((a.2 0).cast nbuf0_0)) (win0_1.stage (a.2 1)) (hstage0_1 ((a.2 1).cast nbuf0_1)) := rfl
theorem prog_eq (t : Fin cfg0.N) : (defs₀ (F := F)) .tc cfg0.body (cfg0.bodyArgs t (cfg0.slots t))
    = bodyG (grid0.coords t) (st0 t) (hst0 t) (st1 t) (hst1 t) :=
  (congrFun defs_tc _).trans rfl

set_option backward.isDefEq.respectTransparency.types false in
theorem body_obligation (c : Dev nD) : BodyObligation (dats (F := F) m 0 c) (defs₀ (F := F)) 𝒱₀ () Set.univ := fun t => by
  rw [bigSep_W0, bigSep_W0]
  dsimp only
  simp only [before_w0, before_w1, after_w0, after_w1]
  rw [show (dats m 0 c).Φ t.castSucc = Φ m c t.val from rfl, show (dats m 0 c).Φ t.succ = Φ m c (t.val + 1) from rfl]
  unfold Dat.owesAt Pipeline.owesWithin
  rw [show (dats m 0 c).owed t.castSucc = 0 from rfl, show (dats m 0 c).owed t.succ = 0 from rfl]
  unfold owns
  iintro ⟨HΦ, ⟨%W, -, HW⟩, ⟨%d0, %g0, %hg0, H0⟩, ⟨%d1, %g1, %hg1, H1⟩⟩
  ihave HΦ' := (Φ_before m c t) $$ HΦ
  icases HΦ' with ⟨Hr, Hrest⟩
  ihave H0' := (pointsTo_rep_entails (c : Thread nD τ) (st0 t) g0 fullShare) $$ H0
  ihave H1' := (pointsTo_rep_entails (c : Thread nD τ) (st1 t) g1 fullShare) $$ H1
  rw [hg0, hg1]
  sl_rw [prog_eq t]
  iapply (bodyRun c (grid0.coords t) (st0 t) (hst0 t) (st1 t) (hst1 t) _ _ (V m c main_v0) (Gb m c) (tiles m c t) W)
  isplitl [H0' H1' Hr HW]
  · isplitl [H0' H1']
    · isplitl [H0']; · iexact H0'
      iexact H1'
    isplitl [Hr]; · iexact Hr
    iexact HW
  · iintro ⟨⟨H0, H1⟩, Hr, ⟨%W', HW⟩⟩
    isplitl [Hr Hrest]
    · iapply (Φ_after m c t)
      isplitl [Hr]; · iexact Hr
      iexact Hrest
    isplitl [HW]
    · iexists W'; isplitr; · ipureintro; exact fun _ _ => Or.inl trivial
      iexact HW
    isplitl [H0]
    · iexists _; isplitr; · ipureintro; exact View.read_rep _ _
      iexact H0
    iexists _; isplitr; · ipureintro; exact View.read_rep _ _
    iexact H1

/-! ## The run -/

theorem hostOps0_fresh : (hostOps0 : List (HloOp τ sig (Elt F))).Forall fun op => op.fresh = ∅ := by
  simp only [List.Forall]; repeat' constructor

/-- The points' array is written by no host operation. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [List.Forall]
    repeat' apply And.intro
    all_goals exact fun hm => StableHlo.devRef_ne_of_ne (fun h => by cases h) (Finset.mem_singleton.mp hm)))

/-- The buffers with the result at its final contents. -/
def VG (c : Dev nD) : (b : Ref sig .tc) → Buf (Elt F) ((c : Thread nD τ).loc b) := Function.update (V m c) main_v0 (Gb m c)
theorem VG_out (c : Dev nD) : VG m c main_v0 = Gb m c := Function.update_self ..

theorem routed_eq (c : Dev nD) (W : (b : Ref sig .tc) → Buf (Elt F) ((c : Thread nD τ).loc b)) :
    (Pipeline.routed {main_v0} c W : sProp 𝕄) = (((c : Thread nD τ).loc main_v0) ↦{fullShare} W main_v0 : sProp 𝕄) := by
  unfold Pipeline.routed; rw [bigSep_singleton]

theorem enter (c : Dev nD) : Pipeline.ΦDRG osem spec0 ∅ {main_v0} (V m) (V m) c ⊢ (Φ m c 0 : sProp 𝕄) := by
  rw [Pipeline.ΦDRG_eq, routed_eq, out_eq, scopedRest0_eq, ownSems0_eq]
  unfold Φ
  rw [if_neg (by decide), if_neg (by decide), bigSep_two]
  iintro ⟨Hb, Hp, ⟨Hc0, Hc1⟩, -, H0, H1⟩
  ihave Hs := (buf_split c) $$ Hb
  icases Hs with ⟨Hs0, Hs1⟩
  isplitl [H0]; · iexact H0
  isplitl [H1]; · iexact H1
  isplitr [Hp]
  · isplitl [Hs0 Hc0]
    · isplitl [Hs0]; · iexact Hs0
      iexact Hc0
    isplitl [Hs1]; · iexact Hs1
    iexact Hc1
  iexact Hp

theorem leave (c : Dev nD) : (Φ m c 2 : sProp 𝕄) ⊢ Pipeline.ΦDRG osem spec0 ∅ {main_v0} (V m) (VG m) c := by
  rw [Pipeline.ΦDRG_eq, routed_eq, VG_out, out_eq, scopedRest0_eq, ownSems0_eq]
  unfold Φ
  rw [if_pos (by decide), if_pos (by decide), bigSep_two]
  iintro ⟨H0, H1, ⟨⟨Hs0, Hc0⟩, Hs1, Hc1⟩, Hp⟩
  isplitl [Hs0 Hs1]
  · iapply (buf_join c)
    isplitl [Hs0]; · iexact Hs0
    iexact Hs1
  isplitl [Hp]; · iexact Hp
  isplitl [Hc0 Hc1]
  · isplitl [Hc0]; · iexact Hc0
    iexact Hc1
  isplitr
  · rw [BI.bigSep_empty]; iempintro
  isplitl [H0]; · iexact H0
  iexact H1

/-- What the run leaves, read off the launch theorem's post. -/
theorem post_of (r : PUnit × MemSt nD τ sig (Elt F))
    (hr : Pipeline.FramePostRG cfgs (dats m) (0 : Fin 1) {main_v0} (V m) (VG m) r ∧ r.2.sem = fun _ => 0) :
    (∀ c : Dev nD, r.2.mem ((c : Thread nD τ).loc main_v0) = Gb m c ∧ r.2.mem ((c : Thread nD τ).loc main_arg0) = m ((c : Thread nD τ).loc main_arg0))
      ∧ r.2.sem = fun _ => 0 :=
  ⟨fun c => ⟨(hr.1.written c (Finset.mem_singleton_self _)).trans (VG_out m c),
    ((hr.1.1 c).1 0).trans (((dats m 0 c).arrAt_in 0 rfl _).trans (V_main_arg0 m c))⟩, hr.2⟩

set_option backward.isDefEq.respectTransparency.types false in
/-- Every weakly fair execution of @main terminates, with the result at `Gb`, the points unchanged and every counter zero. -/
theorem run : θ_run defs (onTc (τ := τ) (main (F := F))) ⟨m, fun _ => 0, ρ⟩
    (fun r => (∀ c : Dev nD, r.2.mem ((c : Thread nD τ).loc main_v0) = Gb m c ∧ r.2.mem ((c : Thread nD τ).loc main_arg0) = m ((c : Thread nD τ).loc main_arg0))
      ∧ r.2.sem = fun _ => 0) :=
  Pipeline.θ_run_frame_dmaRG cfgs (dats m) (0 : Fin 1) launch0 osem defs₀ 𝒱₀ ownSemFacts ∅ {main_v0} (by decide) (by decide) m ρ main
    (hbody := fun c => (body_obligation m c).loose) (hshare := fun c => (dats m 0 c).share_full fun _ => rfl)
    (howed := fun _ _ => rfl)
    (V := V m)
    (hmain := Pipeline.hmain_prefix cfgs 0 defs₀ 𝒱₀ m main hostOps0 hostOps0_sub hostOps0_fresh main_chain)
    (hA := fun _ _ => rfl)
    (G := VG m)
    (hin := fun c => enter m c)
    (hout := fun c => leave m c)
    (Q' := fun r => (∀ c : Dev nD, r.2.mem ((c : Thread nD τ).loc main_v0) = Gb m c ∧ r.2.mem ((c : Thread nD τ).loc main_arg0) = m ((c : Thread nD τ).loc main_arg0))
      ∧ r.2.sem = fun _ => 0)
    (hQ' := fun r hr => post_of m r hr)

end Cert.Proof.KI

end
-- ==== Proof.Named.lean ====
/-
  The constants that stand as names in the idealized kernel: each name's value rounds to the number the kernel writes.
-/
module

public import proofs.«01_k».proof.Defs

@[expose] public section

namespace Cert.Proof

open Idealize.ShloMosaic

/-- A name's statement beside the rest. -/
theorem named_and {name : String} {t : FTy} {b : BitVec t.bits} {v : EReal} {Q : Prop} (h : Cert.KernelIdeal.κ name = some v) (hq : Q) :
    IdealRules.named_const.Statement Cert.KernelIdeal.κ name t b v ∧ Q :=
  ⟨IdealRules.named_const.statement Cert.KernelIdeal.κ name t b v h, hq⟩

theorem preserves : Cert.preserves_Kernel_KernelIdeal := by
  unfold Cert.preserves_Kernel_KernelIdeal
  iterate 71 refine named_and rfl ?_
  exact IdealRules.named_const.statement Cert.KernelIdeal.κ _ _ _ _ rfl

end Cert.Proof
-- ==== Proof.Harm.lean ====
/-
  The real spherical harmonics: the associated Legendre functions by their three-term recurrence, their normalisation,
  and the recurrence that the normalised functions satisfy.
-/
module

public import Mathlib.Analysis.SpecialFunctions.Complex.Arg
public import Mathlib.Analysis.SpecialFunctions.Trigonometric.Inverse
public import Mathlib.Data.Nat.Factorial.Basic
public import Mathlib.Tactic.FieldSimp
public import Mathlib.Tactic.Linarith

@[expose] public section

noncomputable section

namespace Cert.Proof.Harm

/-- `P_m^m`: the product of `-(2q+1) s` for `q < m`. -/
def diag (s : ℝ) : ℕ → ℝ
  | 0 => 1
  | m + 1 => -(2 * m + 1) * s * diag s m

/-- `P_(m+d)^m` at `x`, `s = √(1 - x²)`. -/
def leg (x s : ℝ) (m : ℕ) : ℕ → ℝ
  | 0 => diag s m
  | 1 => (2 * m + 1) * x * diag s m
  | d + 2 => ((2 * (m + (d + 2)) - 1) * x * leg x s m (d + 1) - (2 * m + d + 1) * leg x s m d) / (d + 2)

/-- `P_l^m`, zero beyond the degree. -/
def pl (x s : ℝ) (l m : ℕ) : ℝ := if m ≤ l then leg x s m (l - m) else 0

/-- The square of the normalisation of degree `m + d` and order `m`. -/
def nsq (m d : ℕ) : ℝ := (2 * (m + d) + 1) / (4 * Real.pi) * (d.factorial / (2 * m + d).factorial)

/-- The normalisation of degree `l` and order `m`. -/
def nrm (l m : ℕ) : ℝ := √(nsq m (l - m))

/-- The normalised function of degree `l` and order `m`, zero beyond the degree. -/
def yl (x s : ℝ) (l m : ℕ) : ℝ := nrm l m * pl x s l m

theorem nsq_nonneg (m d : ℕ) : 0 ≤ nsq m d := by unfold nsq; have := Real.pi_pos; positivity

/-- A root times a nonnegative factor is the product of two roots when the squares agree. -/
theorem sqrt_mul_eq {a b c k : ℝ} (hk : 0 ≤ k) (hb : 0 ≤ b) (h : a * k ^ 2 = b * c) : √a * k = √b * √c := by
  rw [← Real.sqrt_mul hb, ← h, Real.sqrt_mul' _ (sq_nonneg k), Real.sqrt_sq hk]

/-- The first coefficient's square. -/
def upSq (l m : ℕ) : ℝ := (4 * (l : ℝ) ^ 2 - 1) / ((l : ℝ) ^ 2 - (m : ℝ) ^ 2)
/-- The second coefficient's square. -/
def backSq (l m : ℕ) : ℝ := ((2 * (l : ℝ) + 1) * (((l : ℝ) - 1) ^ 2 - (m : ℝ) ^ 2)) / ((2 * (l : ℝ) - 3) * ((l : ℝ) ^ 2 - (m : ℝ) ^ 2))

theorem nsq_up (m d : ℕ) :
    nsq m (d + 1) * ((2 * ((m : ℝ) + (d + 1)) - 1) / (d + 1)) ^ 2 = upSq (m + (d + 1)) m * nsq m d := by
  have hpi := Real.pi_ne_zero
  have h1 : ((2 * m + d).factorial : ℝ) ≠ 0 := by exact_mod_cast Nat.factorial_ne_zero _
  have h3 : (2 * (m : ℝ) + d + 1) ≠ 0 := by positivity
  have h4 : (d : ℝ) + 1 ≠ 0 := by positivity
  have h5 : ((m : ℝ) + (d + 1)) ^ 2 - (m : ℝ) ^ 2 = (d + 1) * (2 * m + d + 1) := by ring
  unfold nsq upSq
  rw [show 2 * m + (d + 1) = (2 * m + d) + 1 by ring, Nat.factorial_succ, Nat.factorial_succ]
  push_cast
  rw [h5]
  field_simp
  ring

theorem nsq_back (m d : ℕ) :
    nsq m (d + 2) * ((2 * (m : ℝ) + d + 1) / (d + 2)) ^ 2 = backSq (m + (d + 2)) m * nsq m d := by
  have hpi := Real.pi_ne_zero
  have h1 : ((2 * m + d).factorial : ℝ) ≠ 0 := by exact_mod_cast Nat.factorial_ne_zero _
  have h3 : (2 * (m : ℝ) + d + 1) ≠ 0 := by positivity
  have h3' : (2 * (m : ℝ) + d + 2) ≠ 0 := by positivity
  have h4 : (d : ℝ) + 1 ≠ 0 := by positivity
  have h4' : (d : ℝ) + 2 ≠ 0 := by positivity
  have h6 : (2 * ((m : ℝ) + (d + 2)) - 3) = 2 * m + 2 * d + 1 := by ring
  have h6' : (2 * (m : ℝ) + 2 * d + 1) ≠ 0 := by positivity
  have h5 : ((m : ℝ) + (d + 2)) ^ 2 - (m : ℝ) ^ 2 = (d + 2) * (2 * m + d + 2) := by ring
  have h7 : ((m : ℝ) + (d + 2) - 1) ^ 2 - (m : ℝ) ^ 2 = (d + 1) * (2 * m + d + 1) := by ring
  unfold nsq backSq
  rw [show 2 * m + (d + 2) = (2 * m + d) + 1 + 1 by ring, Nat.factorial_succ, Nat.factorial_succ, Nat.factorial_succ, Nat.factorial_succ]
  push_cast
  rw [h5, h7, h6]
  field_simp
  ring

theorem upSq_nonneg (m d : ℕ) : 0 ≤ upSq (m + (d + 1)) m := by
  unfold upSq; push_cast
  have h5 : ((m : ℝ) + (d + 1)) ^ 2 - (m : ℝ) ^ 2 = (d + 1) * (2 * m + d + 1) := by ring
  have h6 : 4 * ((m : ℝ) + (d + 1)) ^ 2 - 1 = (2 * (m + d) + 1) * (2 * (m + d) + 3) := by ring
  rw [h5, h6]; positivity

theorem backSq_nonneg (m d : ℕ) : 0 ≤ backSq (m + (d + 2)) m := by
  unfold backSq; push_cast
  have h5 : ((m : ℝ) + (d + 2)) ^ 2 - (m : ℝ) ^ 2 = (d + 2) * (2 * m + d + 2) := by ring
  have h7 : ((m : ℝ) + (d + 2) - 1) ^ 2 - (m : ℝ) ^ 2 = (d + 1) * (2 * m + d + 1) := by ring
  have h6 : (2 * ((m : ℝ) + (d + 2)) - 3) = 2 * m + 2 * d + 1 := by ring
  rw [h5, h7, h6]; positivity

theorem nrm_up (m d : ℕ) :
    nrm (m + (d + 1)) m * ((2 * ((m : ℝ) + (d + 1)) - 1) / (d + 1)) = √(upSq (m + (d + 1)) m) * nrm (m + d) m := by
  unfold nrm
  rw [Nat.add_sub_cancel_left, Nat.add_sub_cancel_left]
  refine sqrt_mul_eq ?_ (upSq_nonneg m d) (nsq_up m d)
  have : 2 * ((m : ℝ) + (d + 1)) - 1 = 2 * m + 2 * d + 1 := by ring
  rw [this]; positivity

theorem nrm_back (m d : ℕ) :
    nrm (m + (d + 2)) m * ((2 * (m : ℝ) + d + 1) / (d + 2)) = √(backSq (m + (d + 2)) m) * nrm (m + d) m := by
  unfold nrm
  rw [Nat.add_sub_cancel_left, Nat.add_sub_cancel_left]
  exact sqrt_mul_eq (by positivity) (backSq_nonneg m d) (nsq_back m d)

theorem pl_add (x s : ℝ) (m d : ℕ) : pl x s (m + d) m = leg x s m d := by
  rw [pl, if_pos (Nat.le_add_right _ _), Nat.add_sub_cancel_left]

theorem pl_of_lt (x s : ℝ) {l m : ℕ} (h : l < m) : pl x s l m = 0 := if_neg (by omega)
theorem yl_of_lt (x s : ℝ) {l m : ℕ} (h : l < m) : yl x s l m = 0 := by rw [yl, pl_of_lt x s h, mul_zero]

/-- The recurrence of the normalised functions, two or more above the order. -/
theorem yl_step (x s : ℝ) {l m : ℕ} (h : m + 2 ≤ l) :
    yl x s l m = √(upSq l m) * (x * yl x s (l - 1) m) + -√(backSq l m) * yl x s (l - 2) m := by
  obtain ⟨d, rfl⟩ : ∃ d, l = m + (d + 2) := ⟨l - m - 2, by omega⟩
  rw [show m + (d + 2) - 1 = m + (d + 1) by omega, show m + (d + 2) - 2 = m + d by omega]
  have h4' : (d : ℝ) + 2 ≠ 0 := by positivity
  have hu := nrm_up m (d + 1)
  have hb := nrm_back m d
  rw [show d + 1 + 1 = d + 2 by ring] at hu
  push_cast at hu
  unfold yl
  rw [pl_add, pl_add, pl_add, leg]
  have e : nrm (m + (d + 2)) m * (((2 * ((m : ℝ) + (d + 2)) - 1) * x * leg x s m (d + 1) - (2 * m + d + 1) * leg x s m d) / (d + 2))
      = (nrm (m + (d + 2)) m * ((2 * ((m : ℝ) + (d + 1 + 1)) - 1) / (d + 1 + 1))) * (x * leg x s m (d + 1))
        - (nrm (m + (d + 2)) m * ((2 * (m : ℝ) + d + 1) / (d + 2))) * leg x s m d := by
    rw [show (d : ℝ) + 1 + 1 = d + 2 by ring]; field_simp
  rw [e, hu, hb]; ring

/-- One above the order. -/
theorem yl_next (x s : ℝ) (m : ℕ) : yl x s (m + 1) m = √(upSq (m + 1) m) * (x * yl x s m m) := by
  have hu := nrm_up m 0
  push_cast at hu
  have h0 := pl_add x s m 0
  rw [Nat.add_zero] at h0 hu
  unfold yl
  rw [pl_add, h0, leg, leg]
  simp only [zero_add, div_one] at hu
  rw [show nrm (m + 1) m * ((2 * (m : ℝ) + 1) * x * diag s m) = (nrm (m + 1) m * (2 * ((m : ℝ) + 1) - 1)) * (x * diag s m) by ring, hu]
  ring

theorem upSq_next (m : ℕ) : upSq (m + 1) m = 2 * m + 3 := by
  unfold upSq; push_cast
  have h : (2 * (m : ℝ) + 1) ≠ 0 := by positivity
  rw [show ((m : ℝ) + 1) ^ 2 - (m : ℝ) ^ 2 = 2 * m + 1 by ring, show 4 * ((m : ℝ) + 1) ^ 2 - 1 = (2 * m + 3) * (2 * m + 1) by ring]
  field_simp

theorem backSq_next (m : ℕ) : backSq (m + 1) m = 0 := by
  unfold backSq; push_cast; ring

/-- The recurrence below the degree, the second term being zero one above the order. -/
theorem yl_rec (x s : ℝ) {l m : ℕ} (h : m < l) :
    yl x s l m = √(upSq l m) * (x * yl x s (l - 1) m) + -√(backSq l m) * yl x s (l - 2) m := by
  rcases Nat.lt_or_ge l (m + 2) with h2 | h2
  · obtain rfl : l = m + 1 := by omega
    rw [backSq_next, Real.sqrt_zero, neg_zero, zero_mul, add_zero, yl_next]; rfl
  · exact yl_step x s h2

/-- The recurrence of the functions themselves below the degree. -/
theorem pl_rec (x s : ℝ) {l m : ℕ} (h : m < l) (h2 : 2 ≤ l) :
    pl x s l m = ((2 * l - 1) * x * pl x s (l - 1) m - (l - 1 + m) * pl x s (l - 2) m) / (l - m) := by
  rcases Nat.lt_or_ge l (m + 2) with h3 | h3
  · obtain rfl : l = m + 1 := by omega
    have h0 := pl_add x s m 0
    rw [Nat.add_zero] at h0
    rw [pl_add, show m + 1 - 1 = m from rfl, h0, pl_of_lt x s (by omega : m + 1 - 2 < m), leg, leg]
    push_cast; ring
  · obtain ⟨d, rfl⟩ : ∃ d, l = m + (d + 2) := ⟨l - m - 2, by omega⟩
    rw [show m + (d + 2) - 1 = m + (d + 1) by omega, show m + (d + 2) - 2 = m + d by omega, pl_add, pl_add, pl_add, leg]
    push_cast
    congr 1 <;> ring_nf

theorem pl_one (x s : ℝ) : pl x s 1 0 = 1 * x * pl x s 0 0 := by
  have h1 := pl_add x s 0 1
  have h0 := pl_add x s 0 0
  rw [Nat.zero_add] at h1 h0
  rw [h1, h0, leg, leg]; push_cast; ring

theorem pl_self (x s : ℝ) (l : ℕ) : pl x s l l = diag s l := by
  have h0 := pl_add x s l 0
  rw [Nat.add_zero] at h0
  rw [h0, leg]

theorem nrm_self (m : ℕ) : nrm m m = √((2 * m + 1) / (4 * Real.pi) * (1 / (2 * m).factorial)) := by
  unfold nrm nsq; rw [Nat.sub_self]; simp

/-- The step along the diagonal. -/
theorem yl_diag (x s : ℝ) (m : ℕ) : yl x s (m + 1) (m + 1) = -√((2 * (m : ℝ) + 3) / (2 * m + 2)) * s * yl x s m m := by
  unfold yl
  rw [pl_self, pl_self, diag, nrm_self, nrm_self]
  have hpi := Real.pi_pos
  have h1 : ((2 * m).factorial : ℝ) ≠ 0 := by exact_mod_cast Nat.factorial_ne_zero _
  have e : √((2 * ((m + 1 : ℕ) : ℝ) + 1) / (4 * Real.pi) * (1 / (2 * (m + 1)).factorial)) * (2 * (m : ℝ) + 1)
      = √((2 * (m : ℝ) + 3) / (2 * m + 2)) * √((2 * m + 1) / (4 * Real.pi) * (1 / (2 * m).factorial)) := by
    refine sqrt_mul_eq (by positivity) (by positivity) ?_
    rw [show 2 * (m + 1) = 2 * m + 1 + 1 by ring, Nat.factorial_succ, Nat.factorial_succ]
    push_cast
    field_simp
    ring
  linear_combination (-s * diag s m) * e

theorem yl_zero (x s : ℝ) : yl x s 0 0 = √(1 / (4 * Real.pi)) := by
  unfold yl; rw [pl_self, nrm_self]; simp [diag]

/-- The lane seed: the square of the diagonal's coefficient. -/
def seedSq (m : ℕ) : ℝ := ∏ q ∈ Finset.range m, ((2 * (q : ℝ) + 3) / (2 * q + 2))

theorem seedSq_nonneg (m : ℕ) : 0 ≤ seedSq m := Finset.prod_nonneg fun q _ => by positivity

theorem seedSq_succ (m : ℕ) : seedSq (m + 1) = seedSq m * ((2 * (m : ℝ) + 3) / (2 * m + 2)) := Finset.prod_range_succ _ _

theorem yl_self (x s : ℝ) (m : ℕ) : yl x s m m = (-1) ^ m * √(seedSq m / (4 * Real.pi)) * s ^ m := by
  induction m with
  | zero => rw [yl_zero]; simp [seedSq]
  | succ m ih =>
    rw [yl_diag, ih, seedSq_succ, mul_comm (seedSq m), mul_div_assoc,
      Real.sqrt_mul (by positivity) (seedSq m / (4 * Real.pi))]
    ring

/-- The trigonometric factor of order `μ` at azimuth `φ`. -/
def trig (φ : ℝ) (μ : ℤ) : ℝ := if μ = 0 then 1 else √2 * (if 0 < μ then Real.cos (μ.natAbs * φ) else Real.sin (μ.natAbs * φ))

/-- The real spherical harmonic of degree `l` and order `μ`. -/
def ylm (x s φ : ℝ) (l : ℕ) (μ : ℤ) : ℝ := yl x s l μ.natAbs * trig φ μ

end Cert.Proof.Harm

end
-- ==== Proof.Scal.lean ====
/-
  Scalars over the extended reals: the kernel's and the reference's operations on finite numbers, and the polar and
  azimuthal angle of a point.
-/
module

public import proofs.«01_k».proof.Proof.Harm
public import Idealize.ShloMosaic.Lib.Pointwise.Tactic

@[expose] public section

noncomputable section

namespace Cert.Proof.Scal

open Idealize.ShloMosaic

/-! ### Literals -/

theorem lit_half : Ideal.ofBits .f32 0x3F000000#32 = ((1 / 2 : ℝ) : EReal) := by
  simp [Ideal.ofBits, Ideal.ieee, -EReal.coe_mul]; norm_num
theorem lit_neg_one : Ideal.ofBits .f32 0xBF800000#32 = ((-1 : ℝ) : EReal) := by
  simp [Ideal.ofBits, Ideal.ieee, -EReal.coe_mul]; norm_num
theorem lit_two : Ideal.ofBits .f32 0x40000000#32 = ((2 : ℝ) : EReal) := by
  simp [Ideal.ofBits, Ideal.ieee, -EReal.coe_mul]; norm_num
theorem lit_three : Ideal.ofBits .f32 0x40400000#32 = ((3 : ℝ) : EReal) := by
  simp [Ideal.ofBits, Ideal.ieee, -EReal.coe_mul]; norm_num
theorem lit_four : Ideal.ofBits .f32 0x40800000#32 = ((4 : ℝ) : EReal) := by
  simp [Ideal.ofBits, Ideal.ieee, -EReal.coe_mul]; norm_num
theorem lit_eight : Ideal.ofBits .f32 0x41000000#32 = ((8 : ℝ) : EReal) := by
  simp [Ideal.ofBits, Ideal.ieee, -EReal.coe_mul]; norm_num
theorem lit_sixteen : Ideal.ofBits .f32 0x41800000#32 = ((16 : ℝ) : EReal) := by
  simp [Ideal.ofBits, Ideal.ieee, -EReal.coe_mul]; norm_num
theorem lit_thirtytwo : Ideal.ofBits .f32 0x42000000#32 = ((32 : ℝ) : EReal) := by
  simp [Ideal.ofBits, Ideal.ieee, -EReal.coe_mul]; norm_num

/-- A named constant is what its name stands for. -/
theorem named_of {κ : String → Option EReal} {n : String} {b : BitVec FTy.f32.bits} {v : EReal} (h : κ n = some v) :
    (Named.named κ n b : Ideal .f32) = v := by
  show (κ n).getD _ = v
  rw [h]; rfl

/-! ### Comparison, choice -/

theorem sel_gt (a b : ℝ) {α : Type} (u v : α) :
    Scalar.select (FloatOps.cmpf (F := Ideal) (φ := .f32) .ogt ((a : ℝ) : EReal) ((b : ℝ) : EReal)) u v = if b < a then u else v := by
  show (if BitVec.ofBool (decide ((b : EReal) < a)) = 1 then u else v) = _
  by_cases h : b < a
  · rw [if_pos h, if_pos]; rw [decide_eq_true (EReal.coe_lt_coe_iff.2 h)]; rfl
  · rw [if_neg h, if_neg]; rw [decide_eq_false (fun h' => h (EReal.coe_lt_coe_iff.1 h'))]; decide

/-- A choice by a mask that holds 1 and 0. -/
theorem sel_mask {p : Prop} [Decidable p] {α : Type} (u v : α) {t : EReal} (ht : t = ((if p then 1 else 0 : ℝ) : EReal)) :
    Scalar.select (FloatOps.cmpf (F := Ideal) (φ := .f32) .ogt t (Ideal.ofBits .f32 0x3F000000#32)) u v = if p then u else v := by
  rw [lit_half, ht, sel_gt]
  by_cases h : p
  · rw [if_pos h, if_pos h, if_pos (by norm_num)]
  · rw [if_neg h, if_neg h, if_neg (by norm_num)]

theorem coe_ite {p : Prop} [Decidable p] (a b : ℝ) : (if p then (a : EReal) else (b : EReal)) = ((if p then a else b : ℝ) : EReal) := by
  split <;> rfl

theorem max_coe (a b : ℝ) : max (a : EReal) (b : EReal) = ((max a b : ℝ) : EReal) := (EReal.coe_strictMono.monotone.map_max).symm
theorem min_coe (a b : ℝ) : min (a : EReal) (b : EReal) = ((min a b : ℝ) : EReal) := (EReal.coe_strictMono.monotone.map_min).symm

/-! ### A point -/

/-- The cosine of the polar angle. -/
def CT (a b c : ℝ) : ℝ := c * (√(a * a + b * b + c * c))⁻¹
/-- The sine of the polar angle. -/
def ST (a b c : ℝ) : ℝ := √(1 - CT a b c * CT a b c)
/-- The azimuth. -/
def PHI (a b : ℝ) : ℝ :=
  if 0 < a then Real.arctan (b / a)
  else if a < 0 then (if 0 ≤ b then Real.arctan (b / a) + Real.pi else Real.arctan (b / a) - Real.pi)
  else if 0 < b then Real.pi / 2 else if b < 0 then -(Real.pi / 2) else 0

theorem norm_pos {a b c : ℝ} (h : a ≠ 0 ∨ b ≠ 0 ∨ c ≠ 0) : 0 < a * a + b * b + c * c := by
  rcases h with h | h | h
  · have := mul_self_pos.2 h; nlinarith [mul_self_nonneg b, mul_self_nonneg c]
  · have := mul_self_pos.2 h; nlinarith [mul_self_nonneg a, mul_self_nonneg c]
  · have := mul_self_pos.2 h; nlinarith [mul_self_nonneg b, mul_self_nonneg a]

theorem CT_abs {a b c : ℝ} (h : a ≠ 0 ∨ b ≠ 0 ∨ c ≠ 0) : |CT a b c| ≤ 1 := by
  have h0 := norm_pos h
  have h1 : 0 < √(a * a + b * b + c * c) := Real.sqrt_pos.2 h0
  unfold CT
  rw [abs_mul, abs_inv, abs_of_pos h1, ← div_eq_mul_inv, div_le_one h1]
  exact Real.abs_le_sqrt (by nlinarith [mul_self_nonneg a, mul_self_nonneg b])

theorem clip_eq {a b c : ℝ} (h : a ≠ 0 ∨ b ≠ 0 ∨ c ≠ 0) : min 1 (max (-1) (CT a b c)) = CT a b c := by
  have := abs_le.1 (CT_abs h)
  rw [max_eq_right this.1, min_eq_right this.2]

/-- The kernel's cosine of the polar angle. -/
theorem ct_eq {a b c : ℝ} (h : a ≠ 0 ∨ b ≠ 0 ∨ c ≠ 0) :
    min (1 : EReal) (max ((-1 : ℝ) : EReal) ((c : EReal) * Ideal.rsqrt ((a : EReal) * a + (b : EReal) * b + (c : EReal) * c)))
      = ((CT a b c : ℝ) : EReal) := by
  have h0 := norm_pos h
  rw [← EReal.coe_mul, ← EReal.coe_mul, ← EReal.coe_mul, ← EReal.coe_add, ← EReal.coe_add, Ideal.rsqrt_coe, if_neg (not_lt.2 h0.le),
    if_neg h0.ne', ← EReal.coe_mul, max_coe, ← EReal.coe_one, min_coe]
  exact congrArg _ (clip_eq h)

/-- The reference's polar angle. -/
theorem inc_eq {a b c : ℝ} (h : a ≠ 0 ∨ b ≠ 0 ∨ c ≠ 0) :
    Ideal.acos (min (1 : EReal) (max ((-1 : ℝ) : EReal) (Ideal.div (c : EReal) (Ideal.sqrt ((a : EReal) * a + (b : EReal) * b + (c : EReal) * c)))))
      = ((Real.arccos (CT a b c) : ℝ) : EReal) := by
  have h0 := norm_pos h
  rw [← EReal.coe_mul, ← EReal.coe_mul, ← EReal.coe_mul, ← EReal.coe_add, ← EReal.coe_add, Ideal.sqrt_coe, if_neg (not_lt.2 h0.le),
    Ideal.div_coe (Real.sqrt_pos.2 h0).ne', ← EReal.coe_mul, max_coe, ← EReal.coe_one, min_coe, one_div]
  have e : min 1 (max (-1) (c * (√(a * a + b * b + c * c))⁻¹)) = CT a b c := clip_eq h
  rw [e, Ideal.acos_coe, if_pos (abs_le.1 (CT_abs h))]

/-- The kernel's sine of the polar angle. -/
theorem st_eq {a b c : ℝ} (h : a ≠ 0 ∨ b ≠ 0 ∨ c ≠ 0) :
    Ideal.sqrt (max ((1 : EReal) - (CT a b c : ℝ) * (CT a b c : ℝ)) 0) = ((ST a b c : ℝ) : EReal) := by
  have h1 := abs_le.1 (CT_abs h)
  have h2 : 0 ≤ 1 - CT a b c * CT a b c := by nlinarith [h1.1, h1.2]
  rw [← EReal.coe_mul, ← EReal.coe_one, ← EReal.coe_sub, ← EReal.coe_zero, max_coe, max_eq_left h2, Ideal.sqrt_coe, if_neg (not_lt.2 h2)]
  rfl

theorem cos_inc {a b c : ℝ} (h : a ≠ 0 ∨ b ≠ 0 ∨ c ≠ 0) : Real.cos (Real.arccos (CT a b c)) = CT a b c :=
  Real.cos_arccos (abs_le.1 (CT_abs h)).1 (abs_le.1 (CT_abs h)).2

theorem sin_inc (a b c : ℝ) : Real.sin (Real.arccos (CT a b c)) = ST a b c := by
  rw [Real.sin_arccos, ST, sq]

theorem root_ratio {a : ℝ} (b : ℝ) (h : a ≠ 0) : √(1 + (b / a) ^ 2) = √(a * a + b * b) / |a| := by
  have e : 1 + (b / a) ^ 2 = (a * a + b * b) / a ^ 2 := by field_simp
  rw [e, Real.sqrt_div' _ (sq_nonneg a), Real.sqrt_sq_eq_abs]

theorem rho_pos {a b : ℝ} (h : 0 < a * a + b * b) : 0 < √(a * a + b * b) := Real.sqrt_pos.2 h

theorem cos_phi {a b : ℝ} (h : 0 < a * a + b * b) : Real.cos (PHI a b) = a * (√(a * a + b * b))⁻¹ := by
  have hr := (rho_pos h).ne'
  unfold PHI
  rcases lt_trichotomy a 0 with ha | ha | ha
  · have hc : Real.cos (Real.arctan (b / a)) = -(a * (√(a * a + b * b))⁻¹) := by
      rw [Real.cos_arctan, root_ratio b ha.ne, abs_of_neg ha]; field_simp
    rw [if_neg (not_lt.2 ha.le), if_pos ha]
    split
    · rw [Real.cos_add_pi, hc, neg_neg]
    · rw [Real.cos_sub_pi, hc, neg_neg]
  · subst ha
    rw [if_neg (lt_irrefl _), if_neg (lt_irrefl _), zero_mul]
    rcases lt_trichotomy b 0 with hb | hb | hb
    · rw [if_neg (not_lt.2 hb.le), if_pos hb, Real.cos_neg, Real.cos_pi_div_two]
    · subst hb; simp at h
    · rw [if_pos hb, Real.cos_pi_div_two]
  · rw [if_pos ha, Real.cos_arctan, root_ratio b ha.ne', abs_of_pos ha]; field_simp

theorem sin_phi {a b : ℝ} (h : 0 < a * a + b * b) : Real.sin (PHI a b) = b * (√(a * a + b * b))⁻¹ := by
  have hr := (rho_pos h).ne'
  unfold PHI
  rcases lt_trichotomy a 0 with ha | ha | ha
  · have hc : Real.sin (Real.arctan (b / a)) = -(b * (√(a * a + b * b))⁻¹) := by
      have ha' := ha.ne
      rw [Real.sin_arctan, root_ratio b ha.ne, abs_of_neg ha]; field_simp
    rw [if_neg (not_lt.2 ha.le), if_pos ha]
    split
    · rw [Real.sin_add_pi, hc, neg_neg]
    · rw [Real.sin_sub_pi, hc, neg_neg]
  · subst ha
    have hs : √(0 * 0 + b * b) = |b| := by rw [zero_mul, zero_add, Real.sqrt_mul_self_eq_abs]
    rw [if_neg (lt_irrefl _), if_neg (lt_irrefl _), hs]
    rcases lt_trichotomy b 0 with hb | hb | hb
    · rw [if_neg (not_lt.2 hb.le), if_pos hb, Real.sin_neg, Real.sin_pi_div_two, abs_of_neg hb, inv_neg, mul_neg, mul_inv_cancel₀ hb.ne]
    · subst hb; simp at h
    · rw [if_pos hb, Real.sin_pi_div_two, abs_of_pos hb, mul_inv_cancel₀ hb.ne']
  · have ha' := ha.ne'
    rw [if_pos ha, Real.sin_arctan, root_ratio b ha.ne', abs_of_pos ha]; field_simp

theorem phi_zero {a b : ℝ} (h : ¬ 0 < a * a + b * b) : PHI a b = 0 := by
  have ha : a = 0 := by by_contra h'; exact h (by nlinarith [mul_self_pos.2 h', mul_self_nonneg b])
  have hb : b = 0 := by by_contra h'; exact h (by nlinarith [mul_self_pos.2 h', mul_self_nonneg a])
  subst ha hb; simp [PHI]

/-- The kernel's cosine of the azimuth. -/
theorem ca_eq (a b : ℝ) :
    Scalar.select (FloatOps.cmpf (F := Ideal) (φ := .f32) .ogt ((a : EReal) * a + (b : EReal) * b) 0)
      ((a : EReal) * Ideal.rsqrt (Scalar.select (FloatOps.cmpf (F := Ideal) (φ := .f32) .ogt ((a : EReal) * a + (b : EReal) * b) 0)
        ((a : EReal) * a + (b : EReal) * b) 1)) 1 = ((Real.cos (PHI a b) : ℝ) : EReal) := by
  rw [← EReal.coe_mul, ← EReal.coe_mul, ← EReal.coe_add, ← EReal.coe_zero, sel_gt, sel_gt]
  by_cases h : 0 < a * a + b * b
  · rw [if_pos h, if_pos h, Ideal.rsqrt_coe, if_neg (not_lt.2 h.le), if_neg h.ne', ← EReal.coe_mul, cos_phi h]
  · rw [if_neg h, phi_zero h, Real.cos_zero, EReal.coe_one]

/-- The kernel's sine of the azimuth. -/
theorem sa_eq (a b : ℝ) :
    Scalar.select (FloatOps.cmpf (F := Ideal) (φ := .f32) .ogt ((a : EReal) * a + (b : EReal) * b) 0)
      ((b : EReal) * Ideal.rsqrt (Scalar.select (FloatOps.cmpf (F := Ideal) (φ := .f32) .ogt ((a : EReal) * a + (b : EReal) * b) 0)
        ((a : EReal) * a + (b : EReal) * b) 1)) 0 = ((Real.sin (PHI a b) : ℝ) : EReal) := by
  rw [← EReal.coe_mul, ← EReal.coe_mul, ← EReal.coe_add, ← EReal.coe_zero, sel_gt, sel_gt]
  by_cases h : 0 < a * a + b * b
  · rw [if_pos h, if_pos h, Ideal.rsqrt_coe, if_neg (not_lt.2 h.le), if_neg h.ne', ← EReal.coe_mul, sin_phi h]
  · rw [if_neg h, phi_zero h, Real.sin_zero]

/-- The reference's azimuth. -/
theorem atan2_eq (a b : ℝ) : Ideal.atan2 (b : EReal) (a : EReal) = ((PHI a b : ℝ) : EReal) := rfl

/-! ### Places -/

/-- The degree of the flat place `l (l + 1) + μ`. -/
def lo (a : ℕ) : ℕ :=
  if a < 1 then 0 else if a < 4 then 1 else if a < 9 then 2 else if a < 16 then 3 else if a < 25 then 4 else if a < 36 then 5
  else if a < 49 then 6 else if a < 64 then 7 else 8

/-- The order of the flat place. -/
def mo (a : ℕ) : ℤ := (a : ℤ) - lo a * (lo a + 1)

/-- The order without its sign. -/
def am (a : ℕ) : ℕ := (mo a).natAbs

theorem lo_le (a : ℕ) : lo a ≤ 8 := by unfold lo; split_ifs <;> omega
theorem am_le {a : ℕ} (h : a < 81) : am a ≤ lo a := by
  have : ∀ a : Fin 81, am a ≤ lo a := by decide +kernel
  exact this ⟨a, h⟩

/-- The value at flat place `j` of the point `(a, b, c)`. -/
def val (a b c : ℝ) (j : ℕ) : ℝ := Harm.ylm (CT a b c) (ST a b c) (PHI a b) (lo j) (mo j)

end Cert.Proof.Scal

end
-- ==== Proof.VRefA.lean ====
module

public import proofs.«01_k».proof.Proof.Scal
public import proofs.«01_k».proof.Proof.Gen.ReferenceIdeal.Run
public import Idealize.ShloMosaic.Lib.Pointwise.Tactic
public import Idealize.ShloMosaic.Lib.Pointwise.Reshape
public import Idealize.ShloMosaic.Lib.Pointwise.Select

/-! The reference, vector by vector: angles, the functions on the diagonal, the associated Legendre functions. -/

@[expose] public section

set_option maxRecDepth 16384

noncomputable section

namespace Cert.Proof.RV

open Cert.ReferenceIdeal Cert.ReferenceIdeal.Gen Cert.ReferenceIdeal.Value Cert.Proof.Scal Cert.Proof.Harm
open Idealize.ShloMosaic
open Idealize.ShloMosaic.TcCoe Idealize.ShloMosaic.Tactic

/-! ## Words that are whole numbers -/

/-- The whole number a word of thirty-two bits holds as a float, when it holds one. -/
def nat (b : BitVec 32) : ℕ := (2 ^ 23 + (b.extractLsb' 0 23).toNat) * 2 ^ ((b.extractLsb' 23 8).toNat - 127) / 2 ^ 23

/-- A word that holds a positive whole number. -/
def Whole (b : BitVec 32) : Prop :=
  b.extractLsb' 31 1 ≠ 1#1 ∧ 127 ≤ (b.extractLsb' 23 8).toNat ∧ (b.extractLsb' 23 8).toNat ≠ 255 ∧
    2 ^ 23 ∣ (2 ^ 23 + (b.extractLsb' 0 23).toNat) * 2 ^ ((b.extractLsb' 23 8).toNat - 127)

instance (b : BitVec 32) : Decidable (Whole b) := by unfold Whole; infer_instance

theorem ofBits_whole {b : BitVec 32} (h : Whole b) : Ideal.ofBits .f32 b = ((nat b : ℝ) : EReal) := by
  obtain ⟨h1, h2, h3, h4⟩ := h
  have hx : (nat b : ℝ) = ((2 ^ 23 + (b.extractLsb' 0 23).toNat : ℕ) : ℝ) * 2 ^ ((b.extractLsb' 23 8).toNat - 127) / 2 ^ 23 := by
    rw [nat, Nat.cast_div h4 (by positivity)]; push_cast; norm_num
  show Ideal.ieee 8 23 b = _
  unfold Ideal.ieee
  simp only []
  have e1 : (b.extractLsb' (8 + 23) 1 == 1#1) = false := by simpa using h1
  rw [if_neg (by omega), if_neg (by omega), hx, e1]
  congr 1
  have e2 : ((b.extractLsb' 23 8).toNat : ℤ) - (2 ^ (8 - 1) - 1) - (23 : ℕ) = (((b.extractLsb' 23 8).toNat - 127 : ℕ) : ℤ) - (23 : ℕ) := by
    push_cast [h2]; ring
  rw [e2, zpow_sub₀ (by norm_num), zpow_natCast, zpow_natCast]
  simp only [Bool.false_eq_true, if_false]
  ring

theorem div_real {y : ℝ} (h : y ≠ 0) (x : ℝ) : Ideal.div (x : EReal) (y : EReal) = ((x / y : ℝ) : EReal) := by
  rw [Ideal.div_coe h, ← EReal.coe_mul, mul_one_div]

theorem sqrt_real {x : ℝ} (h : 0 ≤ x) : Ideal.sqrt (x : EReal) = ((√x : ℝ) : EReal) := by
  rw [Ideal.sqrt_coe, if_neg (not_lt.2 h)]

/-! ## Angles -/

/-- The numbers behind the argument, with neither point at the origin. -/
structure Pts (X : Vec Ideal S32768x6 .f32) (P : Fin 32768 → Fin 6 → ℝ) : Prop where
  val : ∀ r q, X (ix2 r q) = ((P r q : ℝ) : EReal)
  one : ∀ r, P r 0 ≠ 0 ∨ P r 1 ≠ 0 ∨ P r 2 ≠ 0
  two : ∀ r, P r 3 ≠ 0 ∨ P r 4 ≠ 0 ∨ P r 5 ≠ 0

/-- Coordinate `q` of point `p`. -/
def co (P : Fin 32768 → Fin 6 → ℝ) (q : Fin 3) (r : Fin 32768) (p : Fin 2) : ℝ := P r ⟨3 * p.val + q.val, by omega⟩

variable {V : Valuation τ sig (Elt Ideal)} {P : Fin 32768 → Fin 6 → ℝ}

/-- The reference's argument. -/
abbrev X (V : Valuation τ sig (Elt Ideal)) : Vec Ideal S32768x6 .f32 := V (Proc.devRef .tc main_arg0)

theorem v0_at (h : Pts (X V) P) (r : Fin 32768) (p : Fin 2) (q : Fin 3) :
    (res_main_v0 V : Vec Ideal S32768x2x3 .f32) (ix3 r p q) = ((co P q r p : ℝ) : EReal) := by
  have e : (res_main_v0 V : Vec Ideal S32768x2x3 .f32) (ix3 r p q) = X V (ix2 r ⟨p.val * 3 + q.val, by omega⟩) := by
    unfold res_main_v0; pointwise
  rw [e, h.val, co]
  congr 3
  ring

theorem v2_at (h : Pts (X V) P) (r : Fin 32768) (p : Fin 2) : (res_main_v2 V : Vec Ideal S32768x2 .f32) (ix2 r p) = ((co P 0 r p : ℝ) : EReal) := by
  rw [← v0_at h]; unfold res_main_v2; pointwise

theorem v4_at (h : Pts (X V) P) (r : Fin 32768) (p : Fin 2) : (res_main_v4 V : Vec Ideal S32768x2 .f32) (ix2 r p) = ((co P 1 r p : ℝ) : EReal) := by
  rw [← v0_at h]; unfold res_main_v4; pointwise

theorem v6_at (h : Pts (X V) P) (r : Fin 32768) (p : Fin 2) : (res_main_v6 V : Vec Ideal S32768x2 .f32) (ix2 r p) = ((co P 2 r p : ℝ) : EReal) := by
  rw [← v0_at h]; unfold res_main_v6; pointwise

theorem co_ne (h : Pts (X V) P) (r : Fin 32768) (p : Fin 2) : co P 0 r p ≠ 0 ∨ co P 1 r p ≠ 0 ∨ co P 2 r p ≠ 0 := by
  fin_cases p
  · exact h.one r
  · exact h.two r

/-- The cosine of the polar angle of a point. -/
def ctF (P : Fin 32768 → Fin 6 → ℝ) (r : Fin 32768) (p : Fin 2) : ℝ := CT (co P 0 r p) (co P 1 r p) (co P 2 r p)
/-- The sine of the polar angle of a point. -/
def stF (P : Fin 32768 → Fin 6 → ℝ) (r : Fin 32768) (p : Fin 2) : ℝ := ST (co P 0 r p) (co P 1 r p) (co P 2 r p)
/-- The azimuth of a point. -/
def phF (P : Fin 32768 → Fin 6 → ℝ) (r : Fin 32768) (p : Fin 2) : ℝ := PHI (co P 0 r p) (co P 1 r p)

theorem v16_at (h : Pts (X V) P) (r : Fin 32768) (p : Fin 2) :
    (res_main_v16 V : Vec Ideal S32768x2 .f32) (ix2 r p) = ((Real.arccos (ctF P r p) : ℝ) : EReal) := by
  rw [ctF, ← inc_eq (co_ne h r p), ← v2_at h, ← v4_at h, ← v6_at h, ← lit_neg_one, ← Ideal.ofBits_one_f32]
  rfl

theorem v18_at (h : Pts (X V) P) (r : Fin 32768) (p : Fin 2) :
    (res_main_v18 V : Vec Ideal S32768x2x1 .f32) (ix3 r p 0) = ((ctF P r p : ℝ) : EReal) := by
  have e : (res_main_v18 V : Vec Ideal S32768x2x1 .f32) (ix3 r p 0) = Ideal.cos ((res_main_v16 V : Vec Ideal S32768x2 .f32) (ix2 r p)) := by
    unfold res_main_v18; pointwise
  rw [e, v16_at h, Ideal.cos_coe, ctF, cos_inc (co_ne h r p)]

theorem v20_at (h : Pts (X V) P) (r : Fin 32768) (p : Fin 2) :
    (res_main_v20 V : Vec Ideal S32768x2x1 .f32) (ix3 r p 0) = ((stF P r p : ℝ) : EReal) := by
  have e : (res_main_v20 V : Vec Ideal S32768x2x1 .f32) (ix3 r p 0) = Ideal.sin ((res_main_v16 V : Vec Ideal S32768x2 .f32) (ix2 r p)) := by
    unfold res_main_v20; pointwise
  rw [e, v16_at h, Ideal.sin_coe, ctF, sin_inc, stF]

/-! ## The diagonal -/

/-- Every entry is the function on the diagonal of order `m`. -/
def Dia (P : Fin 32768 → Fin 6 → ℝ) (v : FVec Ideal S32768x2x1 .f32) (m : ℕ) : Prop :=
  ∀ r p, v (ix3 r p 0) = ((diag (stF P r p) m : ℝ) : EReal)

theorem dia_zero : Dia P (res_main_v26 V) 0 := fun r p => Ideal.ofBits_one_f32

theorem dia_step (h : Pts (X V) P) {v : FVec Ideal S32768x2x1 .f32} {m : ℕ} {b : BitVec 32} (z : ℝ)
    (hb : Ideal.ofBits .f32 b = ((z : ℝ) : EReal)) (hz : z = -(2 * m + 1)) (hv : Dia P v m) :
    Dia P (mulf (mulf (broadcastInDim S32768x2x1 ![] bcast_S_S32768x2x1 (constant S_ .f32 b)) (res_main_v20 V)) v) (m + 1) := by
  intro r p
  have e : mulf (mulf (broadcastInDim S32768x2x1 ![] bcast_S_S32768x2x1 (constant S_ .f32 b)) (res_main_v20 V)) v (ix3 r p 0)
      = Ideal.ofBits .f32 b * (res_main_v20 V : Vec Ideal S32768x2x1 .f32) (ix3 r p 0) * v (ix3 r p 0) := rfl
  rw [e, hb, hz, v20_at h, hv r p, ← EReal.coe_mul, ← EReal.coe_mul, diag]

theorem dia1 (h : Pts (X V) P) : Dia P (res_main_v29 V) 1 := dia_step h (-1) lit_neg_one (by norm_num) dia_zero
theorem dia2 (h : Pts (X V) P) : Dia P (res_main_v32 V) 2 :=
  dia_step h (m := 1) (-3) (by simp [Ideal.ofBits, Ideal.ieee, -EReal.coe_mul]; norm_num) (by norm_num) (dia1 h)
theorem dia3 (h : Pts (X V) P) : Dia P (res_main_v35 V) 3 :=
  dia_step h (m := 2) (-5) (by simp [Ideal.ofBits, Ideal.ieee, -EReal.coe_mul]; norm_num) (by norm_num) (dia2 h)
theorem dia4 (h : Pts (X V) P) : Dia P (res_main_v38 V) 4 :=
  dia_step h (m := 3) (-7) (by simp [Ideal.ofBits, Ideal.ieee, -EReal.coe_mul]; norm_num) (by norm_num) (dia3 h)
theorem dia5 (h : Pts (X V) P) : Dia P (res_main_v41 V) 5 :=
  dia_step h (m := 4) (-9) (by simp [Ideal.ofBits, Ideal.ieee, -EReal.coe_mul]; norm_num) (by norm_num) (dia4 h)
theorem dia6 (h : Pts (X V) P) : Dia P (res_main_v44 V) 6 :=
  dia_step h (m := 5) (-11) (by simp [Ideal.ofBits, Ideal.ieee, -EReal.coe_mul]; norm_num) (by norm_num) (dia5 h)
theorem dia7 (h : Pts (X V) P) : Dia P (res_main_v47 V) 7 :=
  dia_step h (m := 6) (-13) (by simp [Ideal.ofBits, Ideal.ieee, -EReal.coe_mul]; norm_num) (by norm_num) (dia6 h)

/-! ## The orders -/

/-- The size of the order at place `k`. -/
def ak (k : Fin 17) : ℕ := ((k.val : ℤ) - 8).natAbs

theorem ak_le (k : Fin 17) : ak k ≤ 8 := by unfold ak; omega

theorem v23_at (k : Fin 17) : (res_main_v23 V : IVec S17 32) (ix1 k) = BitVec.ofInt 32 ((k.val : ℤ) - 8) := by
  have e : (res_main_v23 V : IVec S17 32) (ix1 k) = BitVec.ofNat 32 k.val - 8#32 := rfl
  have w : ∀ k : Fin 17, BitVec.ofNat 32 k.val - 8#32 = BitVec.ofInt 32 ((k.val : ℤ) - 8) := by decide +kernel
  rw [e, w]

theorem v24_at (k : Fin 17) : (res_main_v24 V : IVec S17 32) (ix1 k) = BitVec.ofNat 32 (ak k) := by
  have e : (res_main_v24 V : IVec S17 32) (ix1 k) = IntOp.absi ((res_main_v23 V : IVec S17 32) (ix1 k)) := rfl
  have w : ∀ k : Fin 17, IntOp.absi (BitVec.ofInt 32 ((k.val : ℤ) - 8)) = BitVec.ofNat 32 (ak k) := by decide +kernel
  rw [e, v23_at, w]

theorem v25_at (k : Fin 17) : (res_main_v25 V : FVec Ideal S17 .f32) (ix1 k) = ((ak k : ℝ) : EReal) := by
  have e : (res_main_v25 V : FVec Ideal S17 .f32) (ix1 k) = ((((res_main_v24 V : IVec S17 32) (ix1 k)).toInt : ℝ) : EReal) := rfl
  have w : ∀ k : Fin 17, (BitVec.ofNat 32 (ak k)).toInt = (ak k : ℤ) := by decide +kernel
  rw [e, v24_at, w]; norm_num

/-! ## The associated Legendre functions -/

/-- Every entry is the function of degree `l` and the order of its place. -/
def Leg (P : Fin 32768 → Fin 6 → ℝ) (v : FVec Ideal S32768x2x17 .f32) (l : ℕ) : Prop :=
  ∀ r p k, v (ix3 r p k) = ((pl (ctF P r p) (stF P r p) l (ak k) : ℝ) : EReal)

/-- Where the order is below `L`. -/
abbrev below (V : Valuation τ sig (Elt Ideal)) (L : BitVec 32) : IVec S32768x2x17 1 :=
  broadcastInDim S32768x2x17 ![2] bcast_S17_S32768x2x17_2 (cmpi .slt (res_main_v24 V) (broadcastInDim S17 ![] bcast_S_S17 (constantI S_ 32 L)))
/-- Where the order is `L`. -/
abbrev equal (V : Valuation τ sig (Elt Ideal)) (L : BitVec 32) : IVec S32768x2x17 1 :=
  broadcastInDim S32768x2x17 ![2] bcast_S17_S32768x2x17_2 (cmpi .eq (res_main_v24 V) (broadcastInDim S17 ![] bcast_S_S17 (constantI S_ 32 L)))
/-- A column repeated for every order. -/
abbrev cols (v : FVec Ideal S32768x2x1 .f32) : FVec Ideal S32768x2x17 .f32 := broadcastInDim S32768x2x17 ![0, 1, 2] bcast_S32768x2x1_S32768x2x17_0_1_2 v
/-- A row repeated for every point. -/
abbrev rows (v : FVec Ideal S17 .f32) : FVec Ideal S32768x2x17 .f32 :=
  broadcastInDim S32768x2x17 ![0, 1, 2] bcast_S1x1x17_S32768x2x17_0_1_2 (broadcastInDim S1x1x17 ![2] bcast_S17_S1x1x17_2 v)
/-- One number repeated. -/
abbrev one1 (b : BitVec 32) : FVec Ideal S32768x2x1 .f32 := broadcastInDim S32768x2x1 ![] bcast_S_S32768x2x1 (constant S_ .f32 b)
/-- One number for every order. -/
abbrev one17 (b : BitVec 32) : FVec Ideal S17 .f32 := broadcastInDim S17 ![] bcast_S_S17 (constant S_ .f32 b)
/-- Zero everywhere. -/
abbrev zeros : FVec Ideal S32768x2x17 .f32 := broadcastInDim S32768x2x17 ![] bcast_S_S32768x2x17 (id (constant S_ .f32 0x00000000#32))

theorem below_at (L : Fin 9) (r : Fin 32768) (p : Fin 2) (k : Fin 17) :
    below V (BitVec.ofNat 32 L.val) (ix3 r p k) = if ak k < L.val then 1#1 else 0#1 := by
  have e : below V (BitVec.ofNat 32 L.val) (ix3 r p k) = IntOp.cmpi .slt ((res_main_v24 V : IVec S17 32) (ix1 k)) (BitVec.ofNat 32 L.val) := by
    unfold below; pointwise
  have w : ∀ (a L : Fin 9), IntOp.cmpi .slt (BitVec.ofNat 32 a.val) (BitVec.ofNat 32 L.val) = if a.val < L.val then 1#1 else 0#1 := by decide +kernel
  rw [e, v24_at]; exact w ⟨ak k, Nat.lt_succ_of_le (ak_le k)⟩ L

theorem equal_at (L : Fin 9) (r : Fin 32768) (p : Fin 2) (k : Fin 17) :
    equal V (BitVec.ofNat 32 L.val) (ix3 r p k) = if ak k = L.val then 1#1 else 0#1 := by
  have e : equal V (BitVec.ofNat 32 L.val) (ix3 r p k) = IntOp.cmpi .eq ((res_main_v24 V : IVec S17 32) (ix1 k)) (BitVec.ofNat 32 L.val) := by
    unfold equal; pointwise
  have w : ∀ (a L : Fin 9), IntOp.cmpi .eq (BitVec.ofNat 32 a.val) (BitVec.ofNat 32 L.val) = if a.val = L.val then 1#1 else 0#1 := by decide +kernel
  rw [e, v24_at]; exact w ⟨ak k, Nat.lt_succ_of_le (ak_le k)⟩ L

theorem cols_at (v : FVec Ideal S32768x2x1 .f32) (r : Fin 32768) (p : Fin 2) (k : Fin 17) : cols v (ix3 r p k) = v (ix3 r p 0) := by
  unfold cols; pointwise

theorem rows_at (v : FVec Ideal S17 .f32) (r : Fin 32768) (p : Fin 2) (k : Fin 17) : rows v (ix3 r p k) = v (ix1 k) := by
  unfold rows; pointwise

theorem sel_ite {p : Prop} [Decidable p] {α : Type} (u v : α) : Scalar.select (if p then 1#1 else 0#1) u v = if p then u else v := by
  split <;> rfl

/-- Above the diagonal from the recurrence, on it from the diagonal, zero beyond. -/
theorem leg_of (L : Fin 9) {A : FVec Ideal S32768x2x17 .f32} {D : FVec Ideal S32768x2x1 .f32}
    (hA : ∀ r p k, ak k < L.val → A (ix3 r p k) = ((pl (ctF P r p) (stF P r p) L.val (ak k) : ℝ) : EReal)) (hD : Dia P D L.val) :
    Leg P (select (below V (BitVec.ofNat 32 L.val)) A (select (equal V (BitVec.ofNat 32 L.val)) (cols D) zeros)) L.val := by
  intro r p k
  have e : select (below V (BitVec.ofNat 32 L.val)) A (select (equal V (BitVec.ofNat 32 L.val)) (cols D) zeros) (ix3 r p k)
      = Scalar.select (below V (BitVec.ofNat 32 L.val) (ix3 r p k)) (A (ix3 r p k))
          (Scalar.select (equal V (BitVec.ofNat 32 L.val) (ix3 r p k)) (cols D (ix3 r p k)) (Ideal.ofBits .f32 0x00000000#32)) := rfl
  rw [e, below_at, equal_at, cols_at, hD r p, sel_ite, sel_ite, Ideal.ofBits_zero_f32]
  by_cases h1 : ak k < L.val
  · rw [if_pos h1, hA r p k h1]
  · rw [if_neg h1]
    by_cases h2 : ak k = L.val
    · rw [if_pos h2, h2, pl_self]
    · rw [if_neg h2, pl_of_lt _ _ (by omega)]; rfl

theorem leg_step (h : Pts (X V) P) (L : Fin 9) (h2 : 2 ≤ L.val) {A B : FVec Ideal S32768x2x17 .f32} {D : FVec Ideal S32768x2x1 .f32} {b1 b2 b3 : BitVec 32}
    (w1 : Whole b1 ∧ nat b1 = 2 * L.val - 1) (w2 : Whole b2 ∧ nat b2 = L.val - 1) (w3 : Whole b3 ∧ nat b3 = L.val)
    (hA : Leg P A (L.val - 1)) (hB : Leg P B (L.val - 2)) (hD : Dia P D L.val) :
    Leg P (select (below V (BitVec.ofNat 32 L.val))
      (Host.divf (subf (mulf (cols (mulf (one1 b1) (res_main_v18 V))) A) (mulf (rows (addf (one17 b2) (res_main_v25 V))) B))
        (rows (subf (one17 b3) (res_main_v25 V))))
      (select (equal V (BitVec.ofNat 32 L.val)) (cols D) zeros)) L.val := by
  refine leg_of L (fun r p k hk => ?_) hD
  have e : Host.divf (subf (mulf (cols (mulf (one1 b1) (res_main_v18 V))) A) (mulf (rows (addf (one17 b2) (res_main_v25 V))) B))
        (rows (subf (one17 b3) (res_main_v25 V))) (ix3 r p k)
      = Ideal.div (cols (mulf (one1 b1) (res_main_v18 V)) (ix3 r p k) * A (ix3 r p k)
          - rows (addf (one17 b2) (res_main_v25 V)) (ix3 r p k) * B (ix3 r p k)) (rows (subf (one17 b3) (res_main_v25 V)) (ix3 r p k)) := rfl
  have e1 : mulf (one1 b1) (res_main_v18 V) (ix3 r p 0) = Ideal.ofBits .f32 b1 * (res_main_v18 V : Vec Ideal S32768x2x1 .f32) (ix3 r p 0) := rfl
  have e2 : addf (one17 b2) (res_main_v25 V) (ix1 k) = Ideal.ofBits .f32 b2 + (res_main_v25 V : FVec Ideal S17 .f32) (ix1 k) := rfl
  have e3 : subf (one17 b3) (res_main_v25 V) (ix1 k) = Ideal.ofBits .f32 b3 - (res_main_v25 V : FVec Ideal S17 .f32) (ix1 k) := rfl
  have hne : ((L.val : ℝ) - (ak k : ℝ)) ≠ 0 := by
    have : (ak k : ℝ) < L.val := by exact_mod_cast hk
    exact (sub_pos.2 this).ne'
  rw [e, cols_at, rows_at, rows_at, e1, e2, e3, ofBits_whole w1.1, ofBits_whole w2.1, ofBits_whole w3.1, w1.2, w2.2, w3.2, v18_at h, v25_at, hA r p k, hB r p k,
    ← EReal.coe_mul, ← EReal.coe_mul, ← EReal.coe_add, ← EReal.coe_mul, ← EReal.coe_sub, ← EReal.coe_sub, div_real hne,
    pl_rec (ctF P r p) (stF P r p) hk h2, Nat.cast_sub (by omega), Nat.cast_sub (by omega)]
  push_cast
  rfl

theorem leg0 : Leg P (res_main_v53 V) 0 := by
  intro r p k
  have e : (res_main_v53 V : FVec Ideal S32768x2x17 .f32) (ix3 r p k)
      = Scalar.select (equal V (BitVec.ofNat 32 (0 : Fin 9).val) (ix3 r p k)) (cols (res_main_v26 V) (ix3 r p k)) (Ideal.ofBits .f32 0x00000000#32) := rfl
  rw [e, equal_at, cols_at, dia_zero (P := P) r p, sel_ite, Ideal.ofBits_zero_f32]
  by_cases h2 : ak k = (0 : Fin 9).val
  · rw [if_pos h2, h2]; exact congrArg _ (pl_self _ _ 0).symm
  · rw [if_neg h2, pl_of_lt _ _ (Nat.pos_of_ne_zero h2)]; rfl

theorem leg1 (h : Pts (X V) P) : Leg P (res_main_v63 V) 1 := by
  refine leg_of (V := V) (D := res_main_v29 V) (A := mulf (cols (mulf (one1 0x3F800000#32) (res_main_v18 V))) (res_main_v53 V)) 1 (fun r p k hk => ?_) (dia1 h)
  have e : mulf (cols (mulf (one1 0x3F800000#32) (res_main_v18 V))) (res_main_v53 V) (ix3 r p k)
      = cols (mulf (one1 0x3F800000#32) (res_main_v18 V)) (ix3 r p k) * (res_main_v53 V : FVec Ideal S32768x2x17 .f32) (ix3 r p k) := rfl
  have e1 : mulf (one1 0x3F800000#32) (res_main_v18 V) (ix3 r p 0) = Ideal.ofBits .f32 0x3F800000#32 * (res_main_v18 V : Vec Ideal S32768x2x1 .f32) (ix3 r p 0) := rfl
  have h0 : ak k = 0 := by change ak k < 1 at hk; omega
  rw [e, cols_at, e1, Ideal.ofBits_one_f32, v18_at h, leg0 (P := P) r p k, h0]
  show (1 : EReal) * _ * _ = ((pl (ctF P r p) (stF P r p) 1 0 : ℝ) : EReal)
  rw [pl_one, EReal.coe_mul, EReal.coe_mul, EReal.coe_one]

theorem leg2 (h : Pts (X V) P) : Leg P (res_main_v84 V) 2 :=
  leg_step h 2 (by decide) (b1 := 0x40400000#32) (b2 := 0x3F800000#32) (b3 := 0x40000000#32) (by decide +kernel) (by decide +kernel) (by decide +kernel) (leg1 h) leg0 (dia2 h)
theorem leg3 (h : Pts (X V) P) : Leg P (res_main_v105 V) 3 :=
  leg_step h 3 (by decide) (b1 := 0x40A00000#32) (b2 := 0x40000000#32) (b3 := 0x40400000#32) (by decide +kernel) (by decide +kernel) (by decide +kernel) (leg2 h) (leg1 h) (dia3 h)
theorem leg4 (h : Pts (X V) P) : Leg P (res_main_v126 V) 4 :=
  leg_step h 4 (by decide) (b1 := 0x40E00000#32) (b2 := 0x40400000#32) (b3 := 0x40800000#32) (by decide +kernel) (by decide +kernel) (by decide +kernel) (leg3 h) (leg2 h) (dia4 h)
theorem leg5 (h : Pts (X V) P) : Leg P (res_main_v147 V) 5 :=
  leg_step h 5 (by decide) (b1 := 0x41100000#32) (b2 := 0x40800000#32) (b3 := 0x40A00000#32) (by decide +kernel) (by decide +kernel) (by decide +kernel) (leg4 h) (leg3 h) (dia5 h)
theorem leg6 (h : Pts (X V) P) : Leg P (res_main_v168 V) 6 :=
  leg_step h 6 (by decide) (b1 := 0x41300000#32) (b2 := 0x40A00000#32) (b3 := 0x40C00000#32) (by decide +kernel) (by decide +kernel) (by decide +kernel) (leg5 h) (leg4 h) (dia6 h)
theorem leg7 (h : Pts (X V) P) : Leg P (res_main_v189 V) 7 :=
  leg_step h 7 (by decide) (b1 := 0x41500000#32) (b2 := 0x40C00000#32) (b3 := 0x40E00000#32) (by decide +kernel) (by decide +kernel) (by decide +kernel) (leg6 h) (leg5 h) (dia7 h)

end Cert.Proof.RV

end
-- ==== Proof.VRefB.lean ====
module

public import proofs.«01_k».proof.Proof.VRefA
public import Idealize.ShloMosaic.Lib.Pointwise.Tactic
public import Idealize.ShloMosaic.Lib.Pointwise.Reshape
public import Idealize.ShloMosaic.Lib.Pointwise.Select

/-! The reference, vector by vector: normalisations, the azimuth's factor, the columns. -/

@[expose] public section

set_option maxRecDepth 16384

noncomputable section

namespace Cert.Proof.RV

open Cert.ReferenceIdeal Cert.ReferenceIdeal.Gen Cert.ReferenceIdeal.Value Cert.Proof.Scal Cert.Proof.Harm
open Idealize.ShloMosaic
open Idealize.ShloMosaic.TcCoe Idealize.ShloMosaic.Tactic

variable {V : Valuation τ sig (Elt Ideal)} {P : Fin 32768 → Fin 6 → ℝ}

theorem leg8 (h : Pts (X V) P) : Leg P (select (below V 8#32)
      (Host.divf (subf (mulf (cols (mulf (one1 0x41700000#32) (res_main_v18 V))) (res_main_v189 V)) (mulf (rows (addf (one17 0x40E00000#32) (res_main_v25 V))) (res_main_v168 V)))
        (rows (subf (one17 0x41000000#32) (res_main_v25 V))))
      (select (equal V 8#32) (cols (mulf (mulf (one1 0xC1700000#32) (res_main_v20 V)) (res_main_v47 V))) zeros)) 8 :=
  leg_step h 8 (by decide) (b1 := 0x41700000#32) (b2 := 0x40E00000#32) (b3 := 0x41000000#32) (by decide +kernel) (by decide +kernel) (by decide +kernel) (leg7 h) (leg6 h)
    (dia_step h (m := 7) (-15) (by simp [Ideal.ofBits, Ideal.ieee, -EReal.coe_mul]; norm_num) (by norm_num) (dia7 h))

/-! ## Normalisations -/

theorem row17 (k : Fin 17) : S17.rowMajor (ix1 k) = k := by
  have e : ∀ k : Fin 17, (S17.rowMajor (ix1 k)).val = k.val := by decide +kernel
  exact Fin.ext (e k)

/-- The vector of normalisations of one degree. -/
abbrev normV (c : BitVec 32) (u v : FVec Ideal S17 .f32) : FVec Ideal S17 .f32 :=
  Host.sqrt (Host.divf (Host.divf (broadcastInDim S17 ![] bcast_S_S17 (Host.divf (constant S_ .f32 c)
    (mulf (constant S_ .f32 0x40800000#32) (Host.acos (constant S_ .f32 0xBF800000#32))))) u) v)

/-- The entries of `v` are the words `f`. -/
def Wd (v : FVec Ideal S17 .f32) (f : Fin 17 → BitVec 32) : Prop := ∀ k, v (ix1 k) = Ideal.ofBits .f32 (f k)

theorem wd_one (b : BitVec 32) : Wd (constant S17 .f32 b) fun _ => b := fun _ => rfl
theorem wd_tab (f : Fin 17 → BitVec 32) : Wd (fun i => FloatOps.ofBits .f32 (f (S17.rowMajor i))) f := fun k => by
  show Ideal.ofBits .f32 (f (S17.rowMajor (ix1 k))) = _
  rw [row17]

theorem norm_at (l : Fin 9) {c : BitVec 32} {u v : FVec Ideal S17 .f32} {f g : Fin 17 → BitVec 32} (hu : Wd u f) (hv : Wd v g)
    (wc : Whole c ∧ nat c = 2 * l.val + 1)
    (w : ∀ k, ak k ≤ l.val → Whole (f k) ∧ Whole (g k) ∧ nat (f k) * nat (g k) * (l.val - ak k).factorial = (l.val + ak k).factorial)
    (k : Fin 17) (hk : ak k ≤ l.val) : normV c u v (ix1 k) = ((nrm l.val (ak k) : ℝ) : EReal) := by
  have e : normV c u v (ix1 k) = Ideal.sqrt (Ideal.div (Ideal.div (Ideal.div (Ideal.ofBits .f32 c)
      (Ideal.ofBits .f32 0x40800000#32 * Ideal.acos (Ideal.ofBits .f32 0xBF800000#32))) (u (ix1 k))) (v (ix1 k))) := rfl
  obtain ⟨wf, wg, hw⟩ := w k hk
  have hfac : (nat (f k) : ℝ) * nat (g k) * (l.val - ak k).factorial = (l.val + ak k).factorial := by exact_mod_cast hw
  have hpos : (0 : ℝ) < (l.val + ak k).factorial := by exact_mod_cast Nat.factorial_pos _
  have hpos2 : (0 : ℝ) < (l.val - ak k).factorial := by exact_mod_cast Nat.factorial_pos _
  have hf : (nat (f k) : ℝ) ≠ 0 := fun h0 => by rw [h0, zero_mul, zero_mul] at hfac; exact hpos.ne hfac
  have hg : (nat (g k) : ℝ) ≠ 0 := fun h0 => by rw [h0, mul_zero, zero_mul] at hfac; exact hpos.ne hfac
  have hpi := Real.pi_pos
  rw [e, hu k, hv k, lit_four, lit_neg_one, Ideal.acos_coe, if_pos (by norm_num), Real.arccos_neg_one, ofBits_whole wc.1, ofBits_whole wf, ofBits_whole wg, wc.2,
    ← EReal.coe_mul, div_real (by positivity), div_real hf, div_real hg, sqrt_real (by positivity), nrm, nsq]
  congr 2
  rw [show 2 * ak k + (l.val - ak k) = l.val + ak k by omega, ← hfac, Nat.cast_sub hk]
  push_cast
  field_simp
  ring

/-! ## The azimuth's factor -/

theorem v215_at (h : Pts (X V) P) (r : Fin 32768) (p : Fin 2) (k : Fin 17) :
    (res_main_v215 V : FVec Ideal S32768x2x17 .f32) (ix3 r p k) = (((ak k : ℝ) * phF P r p : ℝ) : EReal) := by
  have e : (res_main_v215 V : FVec Ideal S32768x2x17 .f32) (ix3 r p k) = rows (res_main_v25 V) (ix3 r p k)
      * cols (broadcastInDim S32768x2x1 ![0, 1] bcast_S32768x2_S32768x2x1_0_1 (Host.atan2 (res_main_v4 V) (res_main_v2 V))) (ix3 r p k) := rfl
  have e1 : (broadcastInDim S32768x2x1 ![0, 1] bcast_S32768x2_S32768x2x1_0_1 (Host.atan2 (res_main_v4 V) (res_main_v2 V)) : FVec Ideal S32768x2x1 .f32) (ix3 r p 0)
      = Ideal.atan2 ((res_main_v4 V : Vec Ideal S32768x2 .f32) (ix2 r p)) ((res_main_v2 V : Vec Ideal S32768x2 .f32) (ix2 r p)) := by pointwise
  rw [e, cols_at, rows_at, e1, v25_at, v4_at h, v2_at h, atan2_eq, ← EReal.coe_mul]
  rfl

theorem v226_at (h : Pts (X V) P) (r : Fin 32768) (p : Fin 2) (k : Fin 17) :
    (res_main_v226 V : FVec Ideal S32768x2x17 .f32) (ix3 r p k) = ((trig (phF P r p) ((k.val : ℤ) - 8) : ℝ) : EReal) := by
  have b : ∀ c : CmpIPredicate, (broadcastInDim S32768x2x17 ![2] bcast_S17_S32768x2x17_2 (cmpi c (res_main_v23 V) (broadcastInDim S17 ![] bcast_S_S17 (constantI S_ 32 0#32)))) (ix3 r p k)
      = IntOp.cmpi c ((res_main_v23 V : IVec S17 32) (ix1 k)) 0#32 := fun c => by pointwise
  have e : (res_main_v226 V : FVec Ideal S32768x2x17 .f32) (ix3 r p k)
      = Scalar.select ((broadcastInDim S32768x2x17 ![2] bcast_S17_S32768x2x17_2 (cmpi .eq (res_main_v23 V) (broadcastInDim S17 ![] bcast_S_S17 (constantI S_ 32 0#32)))) (ix3 r p k))
          (Ideal.ofBits .f32 0x3F800000#32) (Ideal.sqrt (Ideal.ofBits .f32 0x40000000#32)
          * Scalar.select ((broadcastInDim S32768x2x17 ![2] bcast_S17_S32768x2x17_2 (cmpi .sgt (res_main_v23 V) (broadcastInDim S17 ![] bcast_S_S17 (constantI S_ 32 0#32)))) (ix3 r p k))
              (Ideal.cos ((res_main_v215 V : FVec Ideal S32768x2x17 .f32) (ix3 r p k))) (Ideal.sin ((res_main_v215 V : FVec Ideal S32768x2x17 .f32) (ix3 r p k)))) := rfl
  have w1 : ∀ k : Fin 17, IntOp.cmpi .eq (BitVec.ofInt 32 ((k.val : ℤ) - 8)) 0#32 = if (k.val : ℤ) - 8 = 0 then 1#1 else 0#1 := by decide +kernel
  have w2 : ∀ k : Fin 17, IntOp.cmpi .sgt (BitVec.ofInt 32 ((k.val : ℤ) - 8)) 0#32 = if 0 < (k.val : ℤ) - 8 then 1#1 else 0#1 := by decide +kernel
  rw [e, b, b, v23_at, w1, w2, sel_ite, sel_ite, v215_at h, Ideal.ofBits_one_f32, lit_two, sqrt_real (by norm_num), Ideal.cos_coe, Ideal.sin_coe, coe_ite, ← EReal.coe_mul,
    ← EReal.coe_one, coe_ite]
  rfl

/-! ## The columns -/

/-- Places of order at most `l` hold the harmonics of degree `l`. -/
def Pce (P : Fin 32768 → Fin 6 → ℝ) (v : FVec Ideal S32768x2x17 .f32) (l : ℕ) : Prop :=
  ∀ r p k, ak k ≤ l → v (ix3 r p k) = ((ylm (ctF P r p) (stF P r p) (phF P r p) l ((k.val : ℤ) - 8) : ℝ) : EReal)

theorem pce_of (h : Pts (X V) P) (l : Fin 9) {c : BitVec 32} {u v : FVec Ideal S17 .f32} {A : FVec Ideal S32768x2x17 .f32} {f g : Fin 17 → BitVec 32}
    (hu : Wd u f) (hv : Wd v g) (wc : Whole c ∧ nat c = 2 * l.val + 1)
    (w : ∀ k, ak k ≤ l.val → Whole (f k) ∧ Whole (g k) ∧ nat (f k) * nat (g k) * (l.val - ak k).factorial = (l.val + ak k).factorial)
    (hA : Leg P A l.val) : Pce P (mulf (mulf (rows (normV c u v)) A) (res_main_v226 V)) l.val := by
  intro r p k hk
  have e : mulf (mulf (rows (normV c u v)) A) (res_main_v226 V) (ix3 r p k)
      = rows (normV c u v) (ix3 r p k) * A (ix3 r p k) * (res_main_v226 V : FVec Ideal S32768x2x17 .f32) (ix3 r p k) := rfl
  rw [e, rows_at, norm_at l hu hv wc w k hk, hA r p k, v226_at h, ← EReal.coe_mul, ← EReal.coe_mul]
  rfl

/-- The harmonics of one degree and every order, as the reference multiplies them. -/
abbrev pceV (V : Valuation τ sig (Elt Ideal)) (c : BitVec 32) (u v : FVec Ideal S17 .f32) (A : FVec Ideal S32768x2x17 .f32) : FVec Ideal S32768x2x17 .f32 :=
  mulf (mulf (rows (normV c u v)) A) (res_main_v226 V)

theorem lo_at : ∀ (j : Fin 81) (l : Fin 9), l.val * l.val ≤ j.val → j.val < (l.val + 1) * (l.val + 1) → lo j.val = l.val := by decide +kernel

theorem cat_at {u0 u1 u2 u3 u4 u5 u6 u7 u8 : FVec Ideal S32768x2x17 .f32} (h0 : Pce P u0 0) (h1 : Pce P u1 1) (h2 : Pce P u2 2) (h3 : Pce P u3 3) (h4 : Pce P u4 4) (h5 : Pce P u5 5) (h6 : Pce P u6 6) (h7 : Pce P u7 7) (h8 : Pce P u8 8)
    (r : Fin 32768) (p : Fin 2) (j : Fin 81) : ((concatenate S32768x2x81 2 [⟨S32768x2x1, ((extractStridedSlice S32768x2x1 ![0, 0, 8] u0 slices_S32768x2x17_S32768x2x1_0_0_8) : FVec Ideal S32768x2x1 .f32)⟩, ⟨S32768x2x3, ((extractStridedSlice S32768x2x3 ![0, 0, 7] u1 slices_S32768x2x17_S32768x2x3_0_0_7) : FVec Ideal S32768x2x3 .f32)⟩, ⟨S32768x2x5, ((extractStridedSlice S32768x2x5 ![0, 0, 6] u2 slices_S32768x2x17_S32768x2x5_0_0_6) : FVec Ideal S32768x2x5 .f32)⟩, ⟨S32768x2x7, ((extractStridedSlice S32768x2x7 ![0, 0, 5] u3 slices_S32768x2x17_S32768x2x7_0_0_5) : FVec Ideal S32768x2x7 .f32)⟩, ⟨S32768x2x9, ((extractStridedSlice S32768x2x9 ![0, 0, 4] u4 slices_S32768x2x17_S32768x2x9_0_0_4) : FVec Ideal S32768x2x9 .f32)⟩, ⟨S32768x2x11, ((extractStridedSlice S32768x2x11 ![0, 0, 3] u5 slices_S32768x2x17_S32768x2x11_0_0_3) : FVec Ideal S32768x2x11 .f32)⟩, ⟨S32768x2x13, ((extractStridedSlice S32768x2x13 ![0, 0, 2] u6 slices_S32768x2x17_S32768x2x13_0_0_2) : FVec Ideal S32768x2x13 .f32)⟩, ⟨S32768x2x15, ((extractStridedSlice S32768x2x15 ![0, 0, 1] u7 slices_S32768x2x17_S32768x2x15_0_0_1) : FVec Ideal S32768x2x15 .f32)⟩, ⟨S32768x2x17, u8⟩]
      concatenates_S32768x2x1_S32768x2x3_S32768x2x5_S32768x2x7_S32768x2x9_S32768x2x11_S32768x2x13_S32768x2x15_S32768x2x17_S32768x2x81_d2) : FVec Ideal S32768x2x81 .f32) (ix3 r p j)
      = ((ylm (ctF P r p) (stF P r p) (phF P r p) (lo j) (mo j) : ℝ) : EReal) := by
  have key : ∀ (l : ℕ) (u : FVec Ideal S32768x2x17 .f32) (_ : Pce P u l) (i : ℕ) (hi : i < 17) (_ : l < 9) (_ : l * l ≤ j.val)
      (_ : j.val < (l + 1) * (l + 1)) (_ : i + l * (l + 1) = j.val + 8),
      u (ix3 r p ⟨i, hi⟩) = ((ylm (ctF P r p) (stF P r p) (phF P r p) (lo j) (mo j) : ℝ) : EReal) := by
    intro l u hu i hi h9 hl1 hl2 hm
    have hl : lo j.val = l := lo_at j ⟨l, h9⟩ hl1 hl2
    have hmo : (i : ℤ) - 8 = mo j.val := by
      unfold mo; rw [hl]
      have : (i : ℤ) + (l : ℤ) * ((l : ℤ) + 1) = (j.val : ℤ) + 8 := by exact_mod_cast hm
      omega
    have hb : (mo j.val).natAbs ≤ l := hl ▸ am_le j.isLt
    have hb' : ak ⟨i, hi⟩ ≤ l := by unfold ak; simp only; rw [hmo]; exact hb
    rw [hu r p ⟨i, hi⟩ hb', hl, ← hmo]
  have hj := j.isLt
  pointwise
  by_cases c0 : j.val < 1
  · rw [dif_pos c0]; exact key 0 u0 h0 _ _ (by omega) (by omega) (by omega) (by omega)
  rw [dif_neg c0]
  by_cases c1 : j.val - 1 < 3
  · rw [dif_pos c1]; exact key 1 u1 h1 _ _ (by omega) (by omega) (by omega) (by omega)
  rw [dif_neg c1]
  by_cases c2 : j.val - 1 - 3 < 5
  · rw [dif_pos c2]; exact key 2 u2 h2 _ _ (by omega) (by omega) (by omega) (by omega)
  rw [dif_neg c2]
  by_cases c3 : j.val - 1 - 3 - 5 < 7
  · rw [dif_pos c3]; exact key 3 u3 h3 _ _ (by omega) (by omega) (by omega) (by omega)
  rw [dif_neg c3]
  by_cases c4 : j.val - 1 - 3 - 5 - 7 < 9
  · rw [dif_pos c4]; exact key 4 u4 h4 _ _ (by omega) (by omega) (by omega) (by omega)
  rw [dif_neg c4]
  by_cases c5 : j.val - 1 - 3 - 5 - 7 - 9 < 11
  · rw [dif_pos c5]; exact key 5 u5 h5 _ _ (by omega) (by omega) (by omega) (by omega)
  rw [dif_neg c5]
  by_cases c6 : j.val - 1 - 3 - 5 - 7 - 9 - 11 < 13
  · rw [dif_pos c6]; exact key 6 u6 h6 _ _ (by omega) (by omega) (by omega) (by omega)
  rw [dif_neg c6]
  by_cases c7 : j.val - 1 - 3 - 5 - 7 - 9 - 11 - 13 < 15
  · rw [dif_pos c7]; exact key 7 u7 h7 _ _ (by omega) (by omega) (by omega) (by omega)
  rw [dif_neg c7]
  exact key 8 u8 h8 _ _ (by omega) (by omega) (by omega) (by omega)

/-- Column `j` of point `p` of row `r` is the harmonic at flat place `j`. -/
theorem v334_at (h : Pts (X V) P) (r : Fin 32768) (p : Fin 2) (j : Fin 81) :
    (res_main_v334 V : FVec Ideal S32768x2x81 .f32) (ix3 r p j)
      = ((val (co P 0 r p) (co P 1 r p) (co P 2 r p) j : ℝ) : EReal) :=
  cat_at
    (pce_of h 0 (c := 0x3F800000#32) (wd_one 0x3F800000#32) (wd_one 0x3F800000#32) (by decide +kernel) (by decide +kernel) leg0)
    (pce_of h 1 (c := 0x40400000#32) (wd_one 0x3F800000#32) (wd_tab lit0) (by decide +kernel) (by decide +kernel) (leg1 h))
    (pce_of h 2 (c := 0x40A00000#32) (wd_tab lit1) (wd_tab lit2) (by decide +kernel) (by decide +kernel) (leg2 h))
    (pce_of h 3 (c := 0x40E00000#32) (wd_tab lit3) (wd_tab lit4) (by decide +kernel) (by decide +kernel) (leg3 h))
    (pce_of h 4 (c := 0x41100000#32) (wd_tab lit5) (wd_tab lit6) (by decide +kernel) (by decide +kernel) (leg4 h))
    (pce_of h 5 (c := 0x41300000#32) (wd_tab lit7) (wd_tab lit8) (by decide +kernel) (by decide +kernel) (leg5 h))
    (pce_of h 6 (c := 0x41500000#32) (wd_tab lit9) (wd_tab lit10) (by decide +kernel) (by decide +kernel) (leg6 h))
    (pce_of h 7 (c := 0x41700000#32) (wd_tab lit11) (wd_tab lit12) (by decide +kernel) (by decide +kernel) (leg7 h))
    (pce_of h 8 (c := 0x41880000#32) (wd_tab lit13) (wd_tab lit14) (by decide +kernel) (by decide +kernel) (leg8 h))
    r p j

/-- The reference's result from its columns. -/
abbrev outer (v : FVec Ideal S32768x2x81 .f32) : FVec Ideal S32768x6561 .f32 :=
  shapeCast _ (mulf (broadcastInDim S32768x81x81 ![0, 1, 2] bcast_S32768x81x1_S32768x81x81_0_1_2 (broadcastInDim S32768x81x1 ![0, 1] bcast_S32768x81_S32768x81x1_0_1 (shapeCast _ (extractStridedSlice S32768x1x81 ![0, 0, 0] v slices_S32768x2x81_S32768x1x81_0_0_0) shapeCasts_S32768x1x81_S32768x81))) (broadcastInDim S32768x81x81 ![0, 1, 2] bcast_S32768x1x81_S32768x81x81_0_1_2 (broadcastInDim S32768x1x81 ![0, 2] bcast_S32768x81_S32768x1x81_0_2 (shapeCast _ (extractStridedSlice S32768x1x81 ![0, 1, 0] v slices_S32768x2x81_S32768x1x81_0_1_0) shapeCasts_S32768x1x81_S32768x81)))) shapeCasts_S32768x81x81_S32768x6561

theorem outer_at (v : FVec Ideal S32768x2x81 .f32) (r : Fin 32768) (y : Fin 6561) :
    outer v (ix2 r y) = v (ix3 r 0 ⟨y.val / 81, by omega⟩) * v (ix3 r 1 ⟨y.val % 81, by omega⟩) := by
  pointwise

end Cert.Proof.RV

end
-- ==== Proof.VCol.lean ====
/-
  The kernel's values of the first point: every column vector of the 256 rows holds a normalised function of the polar
  angle or a multiple of the azimuth, so each stored band is one harmonic times the lanes of the second point.
-/
module

public import proofs.«01_k».proof.Proof.ITile
public import proofs.«01_k».proof.Proof.Scal
public import Idealize.ShloMosaic.Lib.Pointwise.Reshape

@[expose] public section

set_option maxRecDepth 16384

noncomputable section

namespace Cert.Proof.KV

open Cert.KernelIdeal Cert.KernelIdeal.Gen Cert.Proof.KI
open Idealize.ShloMosaic
open Idealize.ShloMosaic.TcCoe Idealize.ShloMosaic.Tactic
open Cert.Proof.Scal Cert.Proof.Harm

/-- The rows of a tile hold points: coordinates `P`, each point with a coordinate that is not zero. -/
structure Pts (x : Vec Ideal S256x6 .f32) (P : Fin 256 → Fin 6 → ℝ) : Prop where
  val : ∀ r q, x (ix2 r q) = ((P r q : ℝ) : EReal)
  one : ∀ r, P r 0 ≠ 0 ∨ P r 1 ≠ 0 ∨ P r 2 ≠ 0
  two : ∀ r, P r 3 ≠ 0 ∨ P r 4 ≠ 0 ∨ P r 5 ≠ 0

/-- Every lane of row `r` holds `f r`. -/
def Col (v : FVec Ideal S256x128 .f32) (f : Fin 256 → ℝ) : Prop := ∀ r j, v (ix2 r j) = ((f r : ℝ) : EReal)

/-! ### Steps -/

variable {u v w z : FVec Ideal S256x128 .f32} {f g h k : Fin 256 → ℝ}

theorem Col.mul (a : Col u f) (b : Col v g) : Col (mulf u v) (fun r => f r * g r) := fun r j => by
  show (u (ix2 r j) : EReal) * v (ix2 r j) = _
  rw [a r j, b r j, EReal.coe_mul]

theorem Col.add (a : Col u f) (b : Col v g) : Col (addf u v) (fun r => f r + g r) := fun r j => by
  show (u (ix2 r j) : EReal) + v (ix2 r j) = _
  rw [a r j, b r j, EReal.coe_add]

theorem Col.sub (a : Col u f) (b : Col v g) : Col (subf u v) (fun r => f r - g r) := fun r j => by
  show (u (ix2 r j) : EReal) - v (ix2 r j) = _
  rw [a r j, b r j, EReal.coe_sub]

theorem Col.const {t : Ideal .f32} {q : ℝ} (e : t = (q : EReal)) : Col (broadcast S256x128 t) (fun _ => q) := fun _ _ => e

theorem Col.named {n : String} {b : BitVec FTy.f32.bits} {q : ℝ} (e : κ n = some (q : EReal)) :
    Col (broadcast S256x128 (Named.named κ n b : Ideal .f32)) (fun _ => q) := Col.const (named_of e)

theorem Col.to (a : Col u f) (e : ∀ r, f r = g r) : Col u g := fun r j => by rw [a r j, e r]

section Steps

variable {ct st φ : Fin 256 → ℝ} {c s : FVec Ideal S256x128 .f32} {n n' : String} {b b' : BitVec FTy.f32.bits} {l m : ℕ} {p q : ℝ}

/-- One degree above the order. -/
theorem col_next (hc : Col c ct) (a : Col u fun r => yl (ct r) (st r) m m)
    (e : κ n = some ((√p : ℝ) : EReal) := by rfl) (hp : p = 2 * (m : ℝ) + 3 := by norm_num) :
    Col (mulf (mulf (broadcast S256x128 (Named.named κ n b : Ideal .f32)) c) u) fun r => yl (ct r) (st r) (m + 1) m :=
  (((Col.named e).mul hc).mul a).to fun r => by rw [yl_next, upSq_next, hp]; ring

/-- The first term of a recurrence. -/
theorem col_up (hc : Col c ct) (a : Col u fun r => yl (ct r) (st r) (l - 1) m)
    (e : κ n = some ((√p : ℝ) : EReal) := by rfl) (hp : upSq l m = p := by norm_num [upSq]) :
    Col (mulf (broadcast S256x128 (Named.named κ n b : Ideal .f32)) (mulf c u))
      fun r => √(upSq l m) * (ct r * yl (ct r) (st r) (l - 1) m) :=
  ((Col.named e).mul (hc.mul a)).to fun r => by rw [hp]

/-- The first term, its coefficient held over a scale. -/
theorem col_ups {t : Ideal .f32} {d : ℝ} (ht : t = (d : EReal)) (hc : Col c ct) (a : Col u fun r => yl (ct r) (st r) (l - 1) m)
    (e : κ n = some ((√p : ℝ) : EReal) := by rfl) (hp : upSq l m = p * d ^ 2 := by norm_num [upSq]) (hd : 0 ≤ d := by norm_num) :
    Col (mulf (broadcast S256x128 (Named.named κ n b : Ideal .f32)) (mulf (broadcast S256x128 t) (mulf c u)))
      fun r => √(upSq l m) * (ct r * yl (ct r) (st r) (l - 1) m) :=
  ((Col.named e).mul ((Col.const ht).mul (hc.mul a))).to fun r => by
    rw [hp, Real.sqrt_mul' _ (sq_nonneg d), Real.sqrt_sq hd, mul_assoc]

/-- The second term of a recurrence. -/
theorem col_back (a : Col u fun r => yl (ct r) (st r) (l - 2) m) (e : κ n = some ((-√p : ℝ) : EReal) := by rfl)
    (hp : backSq l m = p := by norm_num [backSq]) :
    Col (mulf (broadcast S256x128 (Named.named κ n b : Ideal .f32)) u) fun r => -√(backSq l m) * yl (ct r) (st r) (l - 2) m :=
  ((Col.named e).mul a).to fun r => by rw [hp]

theorem col_backs {t : Ideal .f32} {d : ℝ} (ht : t = (d : EReal)) (a : Col u fun r => yl (ct r) (st r) (l - 2) m)
    (e : κ n = some ((-√p : ℝ) : EReal) := by rfl) (hp : backSq l m = p * d ^ 2 := by norm_num [backSq]) (hd : 0 ≤ d := by norm_num) :
    Col (mulf (broadcast S256x128 (Named.named κ n b : Ideal .f32)) (mulf (broadcast S256x128 t) u))
      fun r => -√(backSq l m) * yl (ct r) (st r) (l - 2) m :=
  ((Col.named e).mul ((Col.const ht).mul a)).to fun r => by
    rw [hp, Real.sqrt_mul' _ (sq_nonneg d), Real.sqrt_sq hd]; ring

/-- A recurrence from its two terms. -/
theorem col_rec (a : Col u fun r => √(upSq l m) * (ct r * yl (ct r) (st r) (l - 1) m))
    (b : Col v fun r => -√(backSq l m) * yl (ct r) (st r) (l - 2) m) (hl : m < l := by decide) : Col (addf u v) fun r => yl (ct r) (st r) l m :=
  (a.add b).to fun r => (yl_rec _ _ hl).symm

/-- The step along the diagonal. -/
theorem col_diag (hs : Col s st) (a : Col u fun r => yl (ct r) (st r) m m) (e : κ n = some ((-√p : ℝ) : EReal) := by rfl)
    (hp : p = (2 * (m : ℝ) + 3) / (2 * m + 2) := by norm_num) :
    Col (mulf (mulf (broadcast S256x128 (Named.named κ n b : Ideal .f32)) s) u) fun r => yl (ct r) (st r) (m + 1) (m + 1) :=
  (((Col.named e).mul hs).mul a).to fun r => by rw [yl_diag, hp]

theorem col_diags {t : Ideal .f32} {d : ℝ} (ht : t = (d : EReal)) (hs : Col s st) (a : Col u fun r => yl (ct r) (st r) m m)
    (e : κ n = some ((-√p : ℝ) : EReal) := by rfl) (hp : (2 * (m : ℝ) + 3) / (2 * m + 2) = p * d ^ 2 := by norm_num) (hd : 0 ≤ d := by norm_num) :
    Col (mulf (mulf (broadcast S256x128 (Named.named κ n b : Ideal .f32)) (mulf (broadcast S256x128 t) s)) u)
      fun r => yl (ct r) (st r) (m + 1) (m + 1) :=
  (((Col.named e).mul ((Col.const ht).mul hs)).mul a).to fun r => by
    rw [yl_diag, hp, Real.sqrt_mul' _ (sq_nonneg d), Real.sqrt_sq hd]; ring

/-- The cosine of the next multiple of an angle. -/
theorem col_cos (a : Col u fun r => Real.cos (m * φ r)) (b : Col v fun r => Real.sin (m * φ r)) (c1 : Col w fun r => Real.cos (φ r))
    (s1 : Col z fun r => Real.sin (φ r)) : Col (subf (mulf u w) (mulf v z)) fun r => Real.cos ((m + 1 : ℕ) * φ r) :=
  ((a.mul c1).sub (b.mul s1)).to fun r => by push_cast; rw [add_mul, one_mul, Real.cos_add]

theorem col_sin (a : Col u fun r => Real.cos (m * φ r)) (b : Col v fun r => Real.sin (m * φ r)) (c1 : Col w fun r => Real.cos (φ r))
    (s1 : Col z fun r => Real.sin (φ r)) : Col (addf (mulf v w) (mulf u z)) fun r => Real.sin ((m + 1 : ℕ) * φ r) :=
  ((b.mul c1).add (a.mul s1)).to fun r => by push_cast; rw [add_mul, one_mul, Real.sin_add]

/-- Times the root of two. -/
theorem col_root (a : Col u f) (e : κ n = some ((√2 : ℝ) : EReal) := by rfl) :
    Col (mulf (broadcast S256x128 (Named.named κ n b : Ideal .f32)) u) fun r => √2 * f r := (Col.named e).mul a

end Steps

/-! ### The first point -/

section Point

variable {x : Vec Ideal S256x6 .f32} {P : Fin 256 → Fin 6 → ℝ}

/-- The three functions of the first point. -/
abbrev ct1 (P : Fin 256 → Fin 6 → ℝ) (r : Fin 256) : ℝ := CT (P r 0) (P r 1) (P r 2)
abbrev st1 (P : Fin 256 → Fin 6 → ℝ) (r : Fin 256) : ℝ := ST (P r 0) (P r 1) (P r 2)
abbrev ph1 (P : Fin 256 → Fin 6 → ℝ) (r : Fin 256) : ℝ := PHI (P r 0) (P r 1)

theorem col_x0 (hP : Pts x P) : Col (coreRun.sl.v119 x) (fun r => P r 0) := fun r j => by
  unfold coreRun.sl.v119 coreRun.sl.v118 coreRun.sl.v117; rw [shapeCast_id]; pointwise; exact hP.val r 0
theorem col_x1 (hP : Pts x P) : Col (coreRun.sl.v122 x) (fun r => P r 1) := fun r j => by
  unfold coreRun.sl.v122 coreRun.sl.v121 coreRun.sl.v120; rw [shapeCast_id]; pointwise; exact hP.val r 1
theorem col_x2 (hP : Pts x P) : Col (coreRun.sl.v125 x) (fun r => P r 2) := fun r j => by
  unfold coreRun.sl.v125 coreRun.sl.v124 coreRun.sl.v123; rw [shapeCast_id]; pointwise; exact hP.val r 2
theorem col_x3 (hP : Pts x P) : Col (coreRun.sl.v128 x) (fun r => P r 3) := fun r j => by
  unfold coreRun.sl.v128 coreRun.sl.v127 coreRun.sl.v126; rw [shapeCast_id]; pointwise; exact hP.val r 3
theorem col_x4 (hP : Pts x P) : Col (coreRun.sl.v131 x) (fun r => P r 4) := fun r j => by
  unfold coreRun.sl.v131 coreRun.sl.v130 coreRun.sl.v129; rw [shapeCast_id]; pointwise; exact hP.val r 4
theorem col_x5 (hP : Pts x P) : Col (coreRun.sl.v134 x) (fun r => P r 5) := fun r j => by
  unfold coreRun.sl.v134 coreRun.sl.v133 coreRun.sl.v132; rw [shapeCast_id]; pointwise; exact hP.val r 5

theorem ct_of {a b c : FVec Ideal S256x128 .f32} (ha : Col a f) (hb : Col b g) (hc : Col c h) (hn : ∀ r, f r ≠ 0 ∨ g r ≠ 0 ∨ h r ≠ 0) :
    Col (minimumf (broadcast S256x128 (Ideal.ofBits .f32 0x3F800000#32)) (maximumf (broadcast S256x128 (Ideal.ofBits .f32 0xBF800000#32))
      (mulf c (rsqrt (addf (addf (mulf a a) (mulf b b)) (mulf c c)))))) (fun r => CT (f r) (g r) (h r)) := fun r j => by
  show min (Ideal.ofBits .f32 0x3F800000#32) (max (Ideal.ofBits .f32 0xBF800000#32) ((c (ix2 r j) : EReal) *
    Ideal.rsqrt ((a (ix2 r j) : EReal) * a (ix2 r j) + (b (ix2 r j) : EReal) * b (ix2 r j) + (c (ix2 r j) : EReal) * c (ix2 r j)))) = _
  rw [ha r j, hb r j, hc r j, lit_neg_one, Ideal.ofBits_one_f32, ct_eq (hn r)]

theorem st_of {c : FVec Ideal S256x128 .f32} (hc : Col c fun r => CT (f r) (g r) (h r)) (hn : ∀ r, f r ≠ 0 ∨ g r ≠ 0 ∨ h r ≠ 0) :
    Col (sqrt (maximumf (subf (broadcast S256x128 (Ideal.ofBits .f32 0x3F800000#32)) (mulf c c)) (broadcast S256x128 (Ideal.ofBits .f32 0#32))))
      (fun r => ST (f r) (g r) (h r)) := fun r j => by
  show Ideal.sqrt (max ((Ideal.ofBits .f32 0x3F800000#32 : EReal) - (c (ix2 r j) : EReal) * c (ix2 r j)) (Ideal.ofBits .f32 0#32)) = _
  rw [hc r j, Ideal.ofBits_one_f32, Ideal.ofBits_zero_f32, st_eq (hn r)]

theorem ca_of {a b : FVec Ideal S256x128 .f32} (ha : Col a f) (hb : Col b g) :
    Col (select (cmpf .ogt (addf (mulf a a) (mulf b b)) (broadcast S256x128 (Ideal.ofBits .f32 0#32)))
      (mulf a (rsqrt (select (cmpf .ogt (addf (mulf a a) (mulf b b)) (broadcast S256x128 (Ideal.ofBits .f32 0#32))) (addf (mulf a a) (mulf b b))
        (broadcast S256x128 (Ideal.ofBits .f32 0x3F800000#32))))) (broadcast S256x128 (Ideal.ofBits .f32 0x3F800000#32)))
      (fun r => Real.cos (PHI (f r) (g r))) := fun r j => by
  have e := ca_eq (f r) (g r)
  rw [← ha r j, ← hb r j] at e
  rw [← e, ← Ideal.ofBits_one_f32, ← Ideal.ofBits_zero_f32]; rfl

theorem sa_of {a b : FVec Ideal S256x128 .f32} (ha : Col a f) (hb : Col b g) :
    Col (select (cmpf .ogt (addf (mulf a a) (mulf b b)) (broadcast S256x128 (Ideal.ofBits .f32 0#32)))
      (mulf b (rsqrt (select (cmpf .ogt (addf (mulf a a) (mulf b b)) (broadcast S256x128 (Ideal.ofBits .f32 0#32))) (addf (mulf a a) (mulf b b))
        (broadcast S256x128 (Ideal.ofBits .f32 0x3F800000#32))))) (broadcast S256x128 (Ideal.ofBits .f32 0#32)))
      (fun r => Real.sin (PHI (f r) (g r))) := fun r j => by
  have e := sa_eq (f r) (g r)
  rw [← ha r j, ← hb r j] at e
  rw [← e, ← Ideal.ofBits_one_f32, ← Ideal.ofBits_zero_f32]; rfl

theorem col_ct (hP : Pts x P) : Col (coreRun.sl.v361 x) (ct1 P) := ct_of (col_x0 hP) (col_x1 hP) (col_x2 hP) hP.one
theorem col_st (hP : Pts x P) : Col (coreRun.sl.v367 x) (st1 P) := st_of (col_ct hP) hP.one
theorem col_ca (hP : Pts x P) : Col (coreRun.sl.v375 x) (fun r => Real.cos (ph1 P r)) := ca_of (col_x0 hP) (col_x1 hP)
theorem col_sa (hP : Pts x P) : Col (coreRun.sl.v378 x) (fun r => Real.sin (ph1 P r)) := sa_of (col_x0 hP) (col_x1 hP)

end Point

end Cert.Proof.KV

end
-- ==== Proof.VLane.lean ====
/-
  The kernel's lanes of the second point: lane `j` of a row holds the harmonic at flat place `j`, provided the table
  holds the lane's constants.
-/
module

public import proofs.«01_k».proof.Proof.VCol

@[expose] public section

set_option maxRecDepth 16384

noncomputable section

namespace Cert.Proof.KV

open Cert.KernelIdeal Cert.KernelIdeal.Gen Cert.Proof.KI
open Idealize.ShloMosaic
open Idealize.ShloMosaic.TcCoe Idealize.ShloMosaic.Tactic
open Cert.Proof.Scal Cert.Proof.Harm

/-- Lane `j` of the table: the constants of degree `lo j` and order `mo j`. -/
structure IsTab (T : Vec Ideal S40x128 .f32) (j : Fin 128) : Prop where
  pref : T (ix2 0 j) = (((-1) ^ am j * √(seedSq (am j) / (4 * Real.pi)) : ℝ) : EReal)
  root : T (ix2 1 j) = ((if mo j = 0 then 1 else √2 : ℝ) : EReal)
  pos : T (ix2 2 j) = ((if 0 < mo j then 1 else 0 : ℝ) : EReal)
  neg : T (ix2 3 j) = ((if mo j < 0 then 1 else 0 : ℝ) : EReal)
  bit : ∀ k (h : k < 4), T (ix2 ⟨4 + k, by omega⟩ j) = ((if am j / 2 ^ k % 2 = 1 then 1 else 0 : ℝ) : EReal)
  seed : ∀ d (h : d < 9), T (ix2 ⟨8 + d, by omega⟩ j) = ((if am j = d then 1 else 0 : ℝ) : EReal)
  deg : ∀ d (h : d < 8), T (ix2 ⟨17 + d, by omega⟩ j) = ((if lo j = d + 1 then 1 else 0 : ℝ) : EReal)
  up : ∀ d (h : d < 8), T (ix2 ⟨25 + d, by omega⟩ j) = ((if am j < d + 1 then √(upSq (d + 1) (am j)) else 0 : ℝ) : EReal)
  back : ∀ d (h : d < 7), T (ix2 ⟨33 + d, by omega⟩ j) = ((if am j < d + 2 then -√(backSq (d + 2) (am j)) else 0 : ℝ) : EReal)

/-- Lane `j` of row `r` holds `f r`. -/
def Lan (j : Fin 128) (v : FVec Ideal S256x128 .f32) (f : Fin 256 → ℝ) : Prop := ∀ r, v (ix2 r j) = ((f r : ℝ) : EReal)

variable {j : Fin 128} {T : Vec Ideal S40x128 .f32} {u v w z c s : FVec Ideal S256x128 .f32} {f g h k : Fin 256 → ℝ}

theorem Col.lan (a : Col u f) : Lan j u f := fun r => a r j

theorem Lan.mul (a : Lan j u f) (b : Lan j v g) : Lan j (mulf u v) (fun r => f r * g r) := fun r => by
  show (u (ix2 r j) : EReal) * v (ix2 r j) = _
  rw [a r, b r, EReal.coe_mul]
theorem Lan.add (a : Lan j u f) (b : Lan j v g) : Lan j (addf u v) (fun r => f r + g r) := fun r => by
  show (u (ix2 r j) : EReal) + v (ix2 r j) = _
  rw [a r, b r, EReal.coe_add]
theorem Lan.sub (a : Lan j u f) (b : Lan j v g) : Lan j (subf u v) (fun r => f r - g r) := fun r => by
  show (u (ix2 r j) : EReal) - v (ix2 r j) = _
  rw [a r, b r, EReal.coe_sub]
theorem Lan.to (a : Lan j u f) (e : ∀ r, f r = g r) : Lan j u g := fun r => by rw [a r, e r]

/-- Every row of the table is one of its slices. -/
theorem row_ok (q : Fin 40) : S40x128.Slices ![q.val, 0] S1x128 := by
  revert q; decide

/-- A row of the table, over all rows of the tile. -/
theorem lan_row (q : Fin 40) {t : ℝ} (ht : T (ix2 q j) = (t : EReal))
    {hb : S1x128.Broadcasts S256x128} :
    Lan j (broadcastTo S256x128 (extractStridedSlice S1x128 ![q.val, 0] (k0_pay2 T) (row_ok q)) hb) (fun _ => t) := fun r => by
  rw [← ht]
  unfold k0_pay2
  rw [shapeCast_id]
  refine congrArg T (funext fun d => Fin.ext ?_)
  match d with
  | ⟨0, _⟩ => rfl
  | ⟨1, _⟩ => exact Nat.zero_add _

/-- A choice by a row of the table that holds 1 and 0. -/
theorem lan_sel {p : Prop} [Decidable p] (q : Fin 40) (ht : T (ix2 q j) = ((if p then 1 else 0 : ℝ) : EReal))
    {hb : S1x128.Broadcasts S256x128} {hc : S1x128.ShapeCasts S1x128} (ha : p → Lan j u f) (hn : ¬ p → Lan j v f) :
    Lan j (select (broadcastTo S256x128 (shapeCast S1x128 (cmpf .ogt (extractStridedSlice S1x128 ![q.val, 0] (k0_pay2 T) (row_ok q))
      (broadcast S1x128 (Ideal.ofBits .f32 0x3F000000#32))) hc) hb) u v) f := fun r => by
  have e := lan_row (hb := hb) q ht r
  rw [shapeCast_id]
  refine (sel_mask (p := p) (u (ix2 r j)) (v (ix2 r j)) e).trans ?_
  by_cases hp : p
  · rw [if_pos hp]; exact ha hp r
  · rw [if_neg hp]; exact hn hp r

/-! ### Multiples of the azimuth and powers of the sine -/

variable {φ st ct : Fin 256 → ℝ} {n d : ℕ}

theorem lan_cos2 (a : Lan j c fun r => Real.cos (n * φ r)) (b : Lan j s fun r => Real.sin (n * φ r)) :
    Lan j (subf (mulf c c) (mulf s s)) fun r => Real.cos ((n * 2 : ℕ) * φ r) :=
  ((a.mul a).sub (b.mul b)).to fun r => by
    push_cast; rw [show (n : ℝ) * 2 * φ r = n * φ r + n * φ r by ring, Real.cos_add]
theorem lan_sin2 (a : Lan j c fun r => Real.cos (n * φ r)) (b : Lan j s fun r => Real.sin (n * φ r)) :
    Lan j (addf (mulf c s) (mulf c s)) fun r => Real.sin ((n * 2 : ℕ) * φ r) :=
  ((a.mul b).add (a.mul b)).to fun r => by
    push_cast; rw [show (n : ℝ) * 2 * φ r = n * φ r + n * φ r by ring, Real.sin_add]; ring
theorem lan_pow2 (a : Lan j c fun r => st r ^ n) : Lan j (mulf c c) fun r => st r ^ (n * 2) :=
  (a.mul a).to fun r => by rw [← pow_add]; congr 1; omega

theorem mod_on {m n : ℕ} (h : m / n % 2 = 1) : m % (n * 2) = m % n + n := by rw [Nat.mod_mul, h, mul_one]
theorem mod_off {m n : ℕ} (h : ¬ m / n % 2 = 1) : m % (n * 2) = m % n := by
  rw [Nat.mod_mul, show m / n % 2 = 0 by omega, mul_zero, add_zero]

theorem lan_cosb (m : ℕ) (hm : m / n % 2 = 1) (a : Lan j u fun r => Real.cos ((m % n : ℕ) * φ r)) (b : Lan j v fun r => Real.sin ((m % n : ℕ) * φ r))
    (c1 : Lan j w fun r => Real.cos (n * φ r)) (s1 : Lan j z fun r => Real.sin (n * φ r)) :
    Lan j (subf (mulf u w) (mulf v z)) fun r => Real.cos ((m % (n * 2) : ℕ) * φ r) :=
  ((a.mul c1).sub (b.mul s1)).to fun r => by rw [mod_on hm]; push_cast; rw [add_mul, Real.cos_add]
theorem lan_sinb (m : ℕ) (hm : m / n % 2 = 1) (a : Lan j u fun r => Real.cos ((m % n : ℕ) * φ r)) (b : Lan j v fun r => Real.sin ((m % n : ℕ) * φ r))
    (c1 : Lan j w fun r => Real.cos (n * φ r)) (s1 : Lan j z fun r => Real.sin (n * φ r)) :
    Lan j (addf (mulf v w) (mulf u z)) fun r => Real.sin ((m % (n * 2) : ℕ) * φ r) :=
  ((b.mul c1).add (a.mul s1)).to fun r => by rw [mod_on hm]; push_cast; rw [add_mul, Real.sin_add]
theorem lan_powb (m : ℕ) (hm : m / n % 2 = 1) (a : Lan j u fun r => st r ^ (m % n)) (b : Lan j v fun r => st r ^ n) :
    Lan j (mulf u v) fun r => st r ^ (m % (n * 2)) :=
  (a.mul b).to fun r => by rw [mod_on hm, pow_add]
theorem lan_off {F : ℕ → Fin 256 → ℝ} (m : ℕ) (hm : ¬ m / n % 2 = 1) (a : Lan j u (F (m % n))) : Lan j u (F (m % (n * 2))) := by
  rw [mod_off hm]; exact a

/-! ### The lanes -/

section Lanes

variable {x : Vec Ideal S256x6 .f32} {P : Fin 256 → Fin 6 → ℝ}

abbrev ct2 (P : Fin 256 → Fin 6 → ℝ) (r : Fin 256) : ℝ := CT (P r 3) (P r 4) (P r 5)
abbrev st2 (P : Fin 256 → Fin 6 → ℝ) (r : Fin 256) : ℝ := ST (P r 3) (P r 4) (P r 5)
abbrev ph2 (P : Fin 256 → Fin 6 → ℝ) (r : Fin 256) : ℝ := PHI (P r 3) (P r 4)
abbrev Lc (j : Fin 128) (P : Fin 256 → Fin 6 → ℝ) (v : FVec Ideal S256x128 .f32) (n : ℕ) : Prop := Lan j v fun r => Real.cos (n * ph2 P r)
abbrev Ls (j : Fin 128) (P : Fin 256 → Fin 6 → ℝ) (v : FVec Ideal S256x128 .f32) (n : ℕ) : Prop := Lan j v fun r => Real.sin (n * ph2 P r)
abbrev Lp (j : Fin 128) (P : Fin 256 → Fin 6 → ℝ) (v : FVec Ideal S256x128 .f32) (n : ℕ) : Prop := Lan j v fun r => st2 P r ^ n
abbrev Ly (j : Fin 128) (P : Fin 256 → Fin 6 → ℝ) (v : FVec Ideal S256x128 .f32) (l m : ℕ) : Prop := Lan j v fun r => yl (ct2 P r) (st2 P r) l m

theorem lan_one : Lan j coreRun.sl.v144 (fun _ => 1) := fun _ => Ideal.ofBits_one_f32
theorem lan_nil : Lan j coreRun.sl.v149 (fun _ => 0) := fun _ => Ideal.ofBits_zero_f32

theorem lan_ct (hP : Pts x P) : Lan j (coreRun.sl.v145 x) (ct2 P) := (ct_of (col_x3 hP) (col_x4 hP) (col_x5 hP) hP.two).lan
theorem lan_st (hP : Pts x P) : Lan j (coreRun.sl.v151 x) (st2 P) :=
  (st_of (ct_of (col_x3 hP) (col_x4 hP) (col_x5 hP) hP.two) hP.two).lan
theorem lan_c1 (hP : Pts x P) : Lc j P (coreRun.sl.v159 x) 1 :=
  (ca_of (col_x3 hP) (col_x4 hP)).lan.to fun r => by rw [Nat.cast_one, one_mul]
theorem lan_s1 (hP : Pts x P) : Ls j P (coreRun.sl.v162 x) 1 :=
  (sa_of (col_x3 hP) (col_x4 hP)).lan.to fun r => by rw [Nat.cast_one, one_mul]

theorem lan_c2 (hP : Pts x P) : Lc j P (coreRun.sl.v166 x) 2 := lan_cos2 (n := 1) (lan_c1 hP) (lan_s1 hP)
theorem lan_s2 (hP : Pts x P) : Ls j P (coreRun.sl.v167 x) 2 := lan_sin2 (n := 1) (lan_c1 hP) (lan_s1 hP)
theorem lan_c4 (hP : Pts x P) : Lc j P (coreRun.sl.v171 x) 4 := lan_cos2 (n := 2) (lan_c2 hP) (lan_s2 hP)
theorem lan_s4 (hP : Pts x P) : Ls j P (coreRun.sl.v172 x) 4 := lan_sin2 (n := 2) (lan_c2 hP) (lan_s2 hP)
theorem lan_c8 (hP : Pts x P) : Lc j P (coreRun.sl.v176 x) 8 := lan_cos2 (n := 4) (lan_c4 hP) (lan_s4 hP)
theorem lan_s8 (hP : Pts x P) : Ls j P (coreRun.sl.v177 x) 8 := lan_sin2 (n := 4) (lan_c4 hP) (lan_s4 hP)
theorem lan_p1 (hP : Pts x P) : Lp j P (coreRun.sl.v151 x) 1 := (lan_st hP).to fun r => (pow_one _).symm
theorem lan_p2 (hP : Pts x P) : Lp j P (coreRun.sl.v231 x) 2 := lan_pow2 (n := 1) (lan_p1 hP)
theorem lan_p4 (hP : Pts x P) : Lp j P (coreRun.sl.v232 x) 4 := lan_pow2 (n := 2) (lan_p2 hP)
theorem lan_p8 (hP : Pts x P) : Lp j P (coreRun.sl.v233 x) 8 := lan_pow2 (n := 4) (lan_p4 hP)

/-- Multiples of the azimuth and powers of the sine by the order's lowest bits. -/
theorem bits1 (hP : Pts x P) (hT : IsTab T j) : Lc j P (coreRun.sl.v181 x T) (am j % 2) ∧ Ls j P (coreRun.sl.v185 x T) (am j % 2)
    ∧ Lp j P (coreRun.sl.v237 x T) (am j % 2) := by
  have e : am j / 2 ^ 0 % 2 = am j % 2 := by rw [pow_zero, Nat.div_one]
  refine ⟨lan_sel 4 (hT.bit 0 (by decide)) (fun hp => ?_) (fun hp => ?_), lan_sel 4 (hT.bit 0 (by decide)) (fun hp => ?_) (fun hp => ?_),
    lan_sel 4 (hT.bit 0 (by decide)) (fun hp => ?_) (fun hp => ?_)⟩ <;> rw [e] at hp
  · rw [hp]; exact lan_c1 hP
  · rw [show am j % 2 = 0 by omega]; exact lan_one.to fun r => by rw [Nat.cast_zero, zero_mul, Real.cos_zero]
  · rw [hp]; exact lan_s1 hP
  · rw [show am j % 2 = 0 by omega]; exact lan_nil.to fun r => by rw [Nat.cast_zero, zero_mul, Real.sin_zero]
  · rw [hp]; exact lan_p1 hP
  · rw [show am j % 2 = 0 by omega]; exact lan_one.to fun r => by rw [pow_zero]

theorem bits2 (hP : Pts x P) (hT : IsTab T j) : Lc j P (coreRun.sl.v194 x T) (am j % (2 * 2)) ∧ Ls j P (coreRun.sl.v197 x T) (am j % (2 * 2))
    ∧ Lp j P (coreRun.sl.v241 x T) (am j % (2 * 2)) := by
  obtain ⟨hc, hs, hp⟩ := bits1 hP hT
  exact ⟨lan_sel 5 (hT.bit 1 (by decide)) (fun h => lan_cosb _ h hc hs (lan_c2 hP) (lan_s2 hP)) (fun h => lan_off (F := fun n r => Real.cos (n * ph2 P r)) _ h hc),
    lan_sel 5 (hT.bit 1 (by decide)) (fun h => lan_sinb _ h hc hs (lan_c2 hP) (lan_s2 hP)) (fun h => lan_off (F := fun n r => Real.sin (n * ph2 P r)) _ h hs),
    lan_sel 5 (hT.bit 1 (by decide)) (fun h => lan_powb _ h hp (lan_p2 hP)) (fun h => lan_off (F := fun n r => st2 P r ^ n) _ h hp)⟩

theorem bits4 (hP : Pts x P) (hT : IsTab T j) : Lc j P (coreRun.sl.v206 x T) (am j % (4 * 2)) ∧ Ls j P (coreRun.sl.v209 x T) (am j % (4 * 2))
    ∧ Lp j P (coreRun.sl.v245 x T) (am j % (4 * 2)) := by
  obtain ⟨hc, hs, hp⟩ := bits2 hP hT
  exact ⟨lan_sel 6 (hT.bit 2 (by decide)) (fun h => lan_cosb _ h hc hs (lan_c4 hP) (lan_s4 hP)) (fun h => lan_off (F := fun n r => Real.cos (n * ph2 P r)) _ h hc),
    lan_sel 6 (hT.bit 2 (by decide)) (fun h => lan_sinb _ h hc hs (lan_c4 hP) (lan_s4 hP)) (fun h => lan_off (F := fun n r => Real.sin (n * ph2 P r)) _ h hs),
    lan_sel 6 (hT.bit 2 (by decide)) (fun h => lan_powb _ h hp (lan_p4 hP)) (fun h => lan_off (F := fun n r => st2 P r ^ n) _ h hp)⟩

theorem bits8 (hP : Pts x P) (hT : IsTab T j) (hj : am j < 16) : Lc j P (coreRun.sl.v218 x T) (am j) ∧ Ls j P (coreRun.sl.v221 x T) (am j)
    ∧ Lp j P (coreRun.sl.v249 x T) (am j) := by
  obtain ⟨hc, hs, hp⟩ := bits4 hP hT
  have e : am j % (8 * 2) = am j := Nat.mod_eq_of_lt hj
  rw [← e]
  have hT3 := hT.bit 3 (by decide)
  rw [← e] at hc hs hp hT3
  rw [e] at hc hs hp hT3 ⊢
  rw [← e]
  exact ⟨lan_sel 7 hT3 (fun h => lan_cosb _ h hc hs (lan_c8 hP) (lan_s8 hP)) (fun h => lan_off (F := fun n r => Real.cos (n * ph2 P r)) _ h hc),
    lan_sel 7 hT3 (fun h => lan_sinb _ h hc hs (lan_c8 hP) (lan_s8 hP)) (fun h => lan_off (F := fun n r => Real.sin (n * ph2 P r)) _ h hs),
    lan_sel 7 hT3 (fun h => lan_powb _ h hp (lan_p8 hP)) (fun h => lan_off (F := fun n r => st2 P r ^ n) _ h hp)⟩

/-- The azimuth's part. -/
theorem lan_trig (hP : Pts x P) (hT : IsTab T j) (hj : am j < 16) : Lan j (coreRun.sl.v230 x T) fun r => trig (ph2 P r) (mo j) := by
  obtain ⟨hc, hs, -⟩ := bits8 hP hT hj
  have h1 : Lan j (coreRun.sl.v228 x T) fun r => if mo j = 0 then 1 else if 0 < mo j then Real.cos (am j * ph2 P r) else Real.sin (am j * ph2 P r) :=
    lan_sel 2 hT.pos (fun hp => hc.to fun r => by rw [if_neg (by omega), if_pos hp])
      fun hp => lan_sel 3 hT.neg (fun hn => hs.to fun r => by rw [if_neg (by omega), if_neg hp])
        fun hn => lan_one.to fun r => by rw [if_pos (by omega)]
  refine (h1.mul (lan_row 1 hT.root)).to fun r => ?_
  unfold trig
  by_cases h0 : mo j = 0
  · rw [if_pos h0, if_pos h0, if_pos h0, mul_one]
  · rw [if_neg h0, if_neg h0, if_neg h0, mul_comm]; rfl

/-- The diagonal at the lane's order. -/
theorem lan_seed (hP : Pts x P) (hT : IsTab T j) (hj : am j < 16) : Ly j P (coreRun.sl.v251 x T) (am j) (am j) :=
  ((lan_row 0 hT.pref).mul (bits8 hP hT hj).2.2).to fun r => (yl_self _ _ _).symm

theorem lan_rec (hP : Pts x P) (hT : IsTab T j) (hj : am j < 16) (d : ℕ) (hd : d < 7) (a : Ly j P u (d + 1) (am j)) (b : Ly j P v d (am j))
    {hb : S1x128.Broadcasts S256x128} {hc : S1x128.ShapeCasts S1x128}
    {hb1 : S1x128.Broadcasts S256x128}
    {hb2 : S1x128.Broadcasts S256x128} :
    Ly j P (select (broadcastTo S256x128 (shapeCast S1x128 (cmpf .ogt (extractStridedSlice S1x128 ![10 + d, 0] (k0_pay2 T) (row_ok ⟨10 + d, by omega⟩))
      (broadcast S1x128 (Ideal.ofBits .f32 0x3F000000#32))) hc) hb) (coreRun.sl.v251 x T)
      (addf (mulf (broadcastTo S256x128 (extractStridedSlice S1x128 ![26 + d, 0] (k0_pay2 T) (row_ok ⟨26 + d, by omega⟩)) hb1) (mulf (coreRun.sl.v145 x) u))
        (mulf (broadcastTo S256x128 (extractStridedSlice S1x128 ![33 + d, 0] (k0_pay2 T) (row_ok ⟨33 + d, by omega⟩)) hb2) v))) (d + 2) (am j) := by
  have e8 : T (ix2 (⟨10 + d, by omega⟩ : Fin 40) j) = ((if am j = d + 2 then 1 else 0 : ℝ) : EReal) := by
    have := hT.seed (d + 2) (by omega)
    rwa [show (⟨8 + (d + 2), by omega⟩ : Fin 40) = ⟨10 + d, by omega⟩ from Fin.ext (by show 8 + (d + 2) = 10 + d; omega)] at this
  have e25 : T (ix2 (⟨26 + d, by omega⟩ : Fin 40) j) = ((if am j < d + 2 then √(upSq (d + 2) (am j)) else 0 : ℝ) : EReal) := by
    have := hT.up (d + 1) (by omega)
    rwa [show (⟨25 + (d + 1), by omega⟩ : Fin 40) = ⟨26 + d, by omega⟩ from Fin.ext (by show 25 + (d + 1) = 26 + d; omega)] at this
  refine lan_sel ⟨10 + d, by omega⟩ e8 (fun hp => ?_) fun hn => ?_
  · rw [← hp]; exact lan_seed hP hT hj
  · refine (((lan_row ⟨26 + d, by omega⟩ e25).mul ((lan_ct hP).mul a)).add ((lan_row ⟨33 + d, by omega⟩ (hT.back d hd)).mul b)).to fun r => ?_
    by_cases h : am j < d + 2
    · rw [if_pos h, if_pos h, yl_rec _ _ h]; rfl
    · rw [if_neg h, if_neg h, yl_of_lt _ _ (show d + 2 < am j by omega), zero_mul, zero_mul, add_zero]

theorem lan_y0 (hP : Pts x P) (hT : IsTab T j) (hj : am j < 16) : Ly j P (coreRun.sl.v255 x T) 0 (am j) :=
  lan_sel 8 (hT.seed 0 (by decide)) (fun hp => by have := lan_seed hP hT hj; rw [hp] at this ⊢; exact this)
    fun hn => lan_nil.to fun r => (yl_of_lt _ _ (Nat.pos_of_ne_zero hn)).symm
theorem lan_y1 (hP : Pts x P) (hT : IsTab T j) (hj : am j < 16) : Ly j P (coreRun.sl.v261 x T) 1 (am j) :=
  lan_sel 9 (hT.seed 1 (by decide)) (fun hp => by have := lan_seed hP hT hj; rw [hp] at this ⊢; exact this)
    fun hn => ((lan_row 25 (hT.up 0 (by decide))).mul ((lan_ct hP).mul (lan_y0 hP hT hj))).to fun r => by
      by_cases h : am j = 0
      · rw [h, if_pos (by decide)]; exact (yl_next _ _ 0).symm
      · rw [if_neg (by omega), yl_of_lt _ _ (show 1 < am j by omega), zero_mul]
theorem lan_y2 (hP : Pts x P) (hT : IsTab T j) (hj : am j < 16) : Ly j P (coreRun.sl.v273 x T) 2 (am j) :=
  lan_rec hP hT hj 0 (by decide) (lan_y1 hP hT hj) (lan_y0 hP hT hj)
theorem lan_y3 (hP : Pts x P) (hT : IsTab T j) (hj : am j < 16) : Ly j P (coreRun.sl.v285 x T) 3 (am j) :=
  lan_rec hP hT hj 1 (by decide) (lan_y2 hP hT hj) (lan_y1 hP hT hj)
theorem lan_y4 (hP : Pts x P) (hT : IsTab T j) (hj : am j < 16) : Ly j P (coreRun.sl.v297 x T) 4 (am j) :=
  lan_rec hP hT hj 2 (by decide) (lan_y3 hP hT hj) (lan_y2 hP hT hj)
theorem lan_y5 (hP : Pts x P) (hT : IsTab T j) (hj : am j < 16) : Ly j P (coreRun.sl.v309 x T) 5 (am j) :=
  lan_rec hP hT hj 3 (by decide) (lan_y4 hP hT hj) (lan_y3 hP hT hj)
theorem lan_y6 (hP : Pts x P) (hT : IsTab T j) (hj : am j < 16) : Ly j P (coreRun.sl.v321 x T) 6 (am j) :=
  lan_rec hP hT hj 4 (by decide) (lan_y5 hP hT hj) (lan_y4 hP hT hj)
theorem lan_y7 (hP : Pts x P) (hT : IsTab T j) (hj : am j < 16) : Ly j P (coreRun.sl.v333 x T) 7 (am j) :=
  lan_rec hP hT hj 5 (by decide) (lan_y6 hP hT hj) (lan_y5 hP hT hj)
theorem lan_y8 (hP : Pts x P) (hT : IsTab T j) (hj : am j < 16) : Ly j P (coreRun.sl.v345 x T) 8 (am j) :=
  lan_rec hP hT hj 6 (by decide) (lan_y7 hP hT hj) (lan_y6 hP hT hj)

/-- Keep the degree that is the lane's. -/
theorem lan_deg (hT : IsTab T j) (d : ℕ) (hd : d < 8) (a : Ly j P u (d + 1) (am j)) (b : lo j ≤ d → Ly j P v (lo j) (am j))
    {hb : S1x128.Broadcasts S256x128} {hc : S1x128.ShapeCasts S1x128} (h : lo j ≤ d + 1) :
    Ly j P (select (broadcastTo S256x128 (shapeCast S1x128 (cmpf .ogt (extractStridedSlice S1x128 ![17 + d, 0] (k0_pay2 T) (row_ok ⟨17 + d, by omega⟩))
      (broadcast S1x128 (Ideal.ofBits .f32 0x3F000000#32))) hc) hb) u v) (lo j) (am j) :=
  lan_sel ⟨17 + d, by omega⟩ (hT.deg d hd) (fun hp => by rw [hp]; exact a) fun hn => b (by omega)

theorem lan_y (hP : Pts x P) (hT : IsTab T j) (hj : am j < 16) : Ly j P (coreRun.sl.v348 x T) (lo j) (am j) :=
  lan_deg hT 7 (by decide) (lan_y8 hP hT hj) (lan_deg hT 6 (by decide) (lan_y7 hP hT hj) (lan_deg hT 5 (by decide) (lan_y6 hP hT hj)
    (lan_deg hT 4 (by decide) (lan_y5 hP hT hj) (lan_deg hT 3 (by decide) (lan_y4 hP hT hj) (lan_deg hT 2 (by decide) (lan_y3 hP hT hj)
      (lan_deg hT 1 (by decide) (lan_y2 hP hT hj) (lan_deg hT 0 (by decide) (lan_y1 hP hT hj)
        fun h => by rw [Nat.le_zero.1 h]; exact lan_y0 hP hT hj))))))) (lo_le _)

end Lanes

/-- The lanes of the second point. -/
theorem lanes {x : Vec Ideal S256x6 .f32} {P : Fin 256 → Fin 6 → ℝ} (hP : Pts x P) (hT : ∀ j : Fin 128, j.val < 81 → IsTab T j) (r : Fin 256)
    (j : Fin 81) : coreRun.sl.v350 x T (ix2 r j) = ((val (P r 3) (P r 4) (P r 5) j : ℝ) : EReal) := by
  have hj : am j < 16 := lt_of_le_of_lt ((am_le j.isLt).trans (lo_le j)) (by decide)
  have hT' := hT ⟨j.val, by omega⟩ j.isLt
  have e := ((lan_y hP hT' hj).mul (lan_trig hP hT' hj)) r
  refine Eq.trans (congrArg (coreRun.sl.v349 x T) (funext fun d => Fin.ext ?_)) e
  match d with
  | ⟨0, _⟩ => exact Nat.zero_add _
  | ⟨1, _⟩ => exact Nat.zero_add _

end Cert.Proof.KV

end
-- ==== Proof.VTab.lean ====
module

public import proofs.«01_k».proof.Proof.VLane
public import proofs.«01_k».proof.Proof.ILaunch
public import Idealize.ShloMosaic.Lib.StableHlo.RunRead

/-! The table the host program hands to the kernel holds, lane by lane, the numbers the lane recurrence needs. -/

@[expose] public section

set_option maxRecDepth 16384

noncomputable section

namespace Cert.Proof.KV

open Cert.KernelIdeal Cert.KernelIdeal.Gen Cert.Proof.KI Cert.Proof.Scal Cert.Proof.Harm
open Idealize.ShloMosaic
open Idealize.ShloMosaic.TcCoe Idealize.ShloMosaic.Tactic Idealize.ShloMosaic.StableHlo

/-! ## The vectors the host program builds -/

/-- The degree of every lane. -/
def degV : IVec S1x128 32 := fun i => lit0 (S1x128.rowMajor i)
/-- The signed order of every lane. -/
def ordV : IVec S1x128 32 := fun i => lit1 (S1x128.rowMajor i)
/-- The size of the order of every lane. -/
def absV : IVec S1x128 32 := fun i => lit2 (S1x128.rowMajor i)
/-- One integer everywhere in a row. -/
def rowI (b : BitVec 32) : IVec S1x128 32 := broadcastInDim S1x128 ![] bcast_S_S1x128 (constantI S_ 32 b)
/-- One integer everywhere in eight rows. -/
def allI (b : BitVec 32) : IVec S8x128 32 := broadcastInDim S8x128 ![] bcast_S_S8x128 (constantI S_ 32 b)
/-- The degrees one to eight, down the rows. -/
def frm : IVec S8x128 32 := addi (iotaInDim S8x128 32 0) (allI 1#32)
/-- A row repeated eight times. -/
def down (v : IVec S1x128 32) : IVec S8x128 32 := broadcastInDim S8x128 ![0, 1] bcast_S1x128_S8x128_0_1 v
/-- Where the order is below the degree of the row. -/
def insV : IVec S8x128 1 := cmpi .slt (down absV) frm
/-- Degree squared less order squared, one outside. -/
def gapV : FVec Ideal S8x128 .f32 := sitofp .f32 (select insV (subi (muli frm frm) (down (muli absV absV))) (allI 1#32))
/-- The same for the degree before, zero outside. -/
def befV : FVec Ideal S8x128 .f32 := sitofp .f32 (select insV (subi (muli (subi frm (allI 1#32)) (subi frm (allI 1#32))) (down (muli absV absV))) (allI 0#32))
/-- The leading rows of the table: the seed sizes without sign. -/
def rootV : FVec Ideal S1x128 .f32 :=
  Host.sqrt (Host.divf (Host.divf (fun i => FloatOps.ofBits .f32 (lit3 (S1x128.rowMajor i))) (fun i => FloatOps.ofBits .f32 (lit4 (S1x128.rowMajor i))))
    (broadcastInDim S1x128 ![] bcast_S_S1x128 (mulf (constant S_ .f32 0x40800000#32) (Host.acos (constant S_ .f32 0xBF800000#32)))))
/-- The signed seeds. -/
def preV : FVec Ideal S1x128 .f32 := select (cmpi .eq (andi absV (rowI 1#32)) (rowI 1#32)) (Host.negf rootV) rootV
/-- The factor of the order. -/
def sclV : FVec Ideal S1x128 .f32 := select (cmpi .ne ordV (rowI 0#32))
  (broadcastInDim S1x128 ![] bcast_S_S1x128 (Host.sqrt (constant S_ .f32 0x40000000#32)))
  (broadcastInDim S1x128 ![] bcast_S_S1x128 (constant S_ .f32 0x3F800000#32))
/-- Which lanes have a positive order. -/
def posV : FVec Ideal S1x128 .f32 := uitofp .f32 (cmpi .sgt ordV (rowI 0#32))
/-- Which lanes have a negative order. -/
def negV : FVec Ideal S1x128 .f32 := uitofp .f32 (cmpi .slt ordV (rowI 0#32))
/-- The binary digits of the order. -/
def bitV : FVec Ideal S4x128 .f32 := sitofp .f32 (andi (Host.shrsi (broadcastInDim S4x128 ![0, 1] bcast_S1x128_S4x128_0_1 absV) (iotaInDim S4x128 32 0))
  (broadcastInDim S4x128 ![] bcast_S_S4x128 (constantI S_ 32 1#32)))
/-- Which order a lane has. -/
def seedV : FVec Ideal S9x128 .f32 := uitofp .f32 (cmpi .eq (broadcastInDim S9x128 ![0, 1] bcast_S1x128_S9x128_0_1 absV) (iotaInDim S9x128 32 0))
/-- Which degree a lane has. -/
def isdV : FVec Ideal S8x128 .f32 := uitofp .f32 (cmpi .eq (down degV) frm)
/-- The factors onto the degree before. -/
def upV : FVec Ideal S8x128 .f32 := select insV (Host.sqrt (Host.divf (sitofp .f32 (subi (muli (allI 4#32) (muli frm frm)) (allI 1#32))) gapV))
  (broadcastInDim S8x128 ![] bcast_S_S8x128 (constant S_ .f32 0x00000000#32))
/-- The factors onto the degree two before. -/
def bckV : FVec Ideal S8x128 .f32 := Host.negf (Host.sqrt (Host.divf
  (mulf (sitofp .f32 (addi (muli (allI 2#32) frm) (allI 1#32))) befV)
  (mulf (sitofp .f32 (subi (muli (allI 2#32) frm) (allI 3#32))) gapV)))

variable (m : (ℓ : Loc nD τ sig) → Buf (Elt Ideal) ℓ) (c : Dev nD)

/-- The contents before the last host operation. -/
abbrev U (b : Ref sig .tc) : Buf (Elt Ideal) ((c : Thread nD τ).loc b) := upto hostOps0 (fun b => m (c, b)) 116 (Proc.devRef .tc b)

set_option maxHeartbeats 8000000

theorem u16 : (U m c main_call0_v16 : Vec Ideal S1x128 .f32) = preV := by unfold U; after_reads_simp; rfl
theorem u20 : (U m c main_call0_v20 : Vec Ideal S1x128 .f32) = sclV := by unfold U; after_reads_simp; rfl
theorem u64 : (U m c main_call0_v64 : Vec Ideal S1x128 .f32) = posV := by unfold U; after_reads_simp; rfl
theorem u67 : (U m c main_call0_v67 : Vec Ideal S1x128 .f32) = negV := by unfold U; after_reads_simp; rfl
theorem u72 : (U m c main_call0_v72 : Vec Ideal S4x128 .f32) = bitV := by unfold U; after_reads_simp; rfl
theorem u75 : (U m c main_call0_v75 : Vec Ideal S9x128 .f32) = seedV := by unfold U; after_reads_simp; rfl
theorem u78 : (U m c main_call0_v78 : Vec Ideal S8x128 .f32) = isdV := by unfold U; after_reads_simp; rfl
theorem u46 : (U m c main_call0_v46 : Vec Ideal S8x128 .f32) = upV := by unfold U; after_reads_simp; rfl
theorem u79 : (U m c main_call0_v79 : Vec Ideal S7x128 .f32) = extractStridedSlice S7x128 ![1, 0] bckV slices_S8x128_S7x128_1_0 := by
  unfold U; after_reads_simp; rfl

/-- The last host operation, which stacks the rows. -/
def lastOp : HloOp τ sig (Elt Ideal) := StableHlo.TRef.nary (Ts := ![⟨S1x128, .f32⟩, ⟨S1x128, .f32⟩, ⟨S1x128, .f32⟩, ⟨S1x128, .f32⟩, ⟨S4x128, .f32⟩, ⟨S9x128, .f32⟩, ⟨S8x128, .f32⟩, ⟨S8x128, .f32⟩, ⟨S7x128, .f32⟩]) (Fin.cons main_call0_call0.v0 (Fin.cons main_call0_call1.v3 (Fin.cons (.of main_call0_v64 : StableHlo.TRef sig ⟨S1x128, .f32⟩) (Fin.cons (.of main_call0_v67 : StableHlo.TRef sig ⟨S1x128, .f32⟩) (Fin.cons (.of main_call0_v72 : StableHlo.TRef sig ⟨S4x128, .f32⟩) (Fin.cons (.of main_call0_v75 : StableHlo.TRef sig ⟨S9x128, .f32⟩) (Fin.cons (.of main_call0_v78 : StableHlo.TRef sig ⟨S8x128, .f32⟩) (Fin.cons main_call0_call4.v2 (Fin.cons (.of main_call0_v79 : StableHlo.TRef sig ⟨S7x128, .f32⟩) (fun k => k.elim0)))))))))) (.of main_call0_v80 : StableHlo.TRef sig ⟨S40x128, .f32⟩) (fun u => (concatenate S40x128 0 [⟨S1x128, (u 0 : (⟨S1x128, .f32⟩ : BufTy).Contents (Elt Ideal))⟩, ⟨S1x128, (u 1 : (⟨S1x128, .f32⟩ : BufTy).Contents (Elt Ideal))⟩, ⟨S1x128, (u 2 : (⟨S1x128, .f32⟩ : BufTy).Contents (Elt Ideal))⟩, ⟨S1x128, (u 3 : (⟨S1x128, .f32⟩ : BufTy).Contents (Elt Ideal))⟩, ⟨S4x128, (u 4 : (⟨S4x128, .f32⟩ : BufTy).Contents (Elt Ideal))⟩, ⟨S9x128, (u 5 : (⟨S9x128, .f32⟩ : BufTy).Contents (Elt Ideal))⟩, ⟨S8x128, (u 6 : (⟨S8x128, .f32⟩ : BufTy).Contents (Elt Ideal))⟩, ⟨S8x128, (u 7 : (⟨S8x128, .f32⟩ : BufTy).Contents (Elt Ideal))⟩, ⟨S7x128, (u 8 : (⟨S7x128, .f32⟩ : BufTy).Contents (Elt Ideal))⟩] concatenates_S1x128_S1x128_S1x128_S1x128_S4x128_S9x128_S8x128_S8x128_S7x128_S40x128_d0 : (⟨S40x128, .f32⟩ : BufTy).Contents (Elt Ideal)))

/-- A piece of the contents. -/
abbrev at1 (W : Valuation τ sig (Elt Ideal)) (b : Ref sig .tc) := W (Proc.devRef .tc b)

theorem last_val (W : Valuation τ sig (Elt Ideal)) : lastOp.result W (Proc.devRef .tc main_call0_v80) = concatenate S40x128 0 [⟨S1x128, (at1 W main_call0_v16 : Vec Ideal S1x128 .f32)⟩,
    ⟨S1x128, (at1 W main_call0_v20 : Vec Ideal S1x128 .f32)⟩, ⟨S1x128, (at1 W main_call0_v64 : Vec Ideal S1x128 .f32)⟩,
    ⟨S1x128, (at1 W main_call0_v67 : Vec Ideal S1x128 .f32)⟩, ⟨S4x128, (at1 W main_call0_v72 : Vec Ideal S4x128 .f32)⟩,
    ⟨S9x128, (at1 W main_call0_v75 : Vec Ideal S9x128 .f32)⟩, ⟨S8x128, (at1 W main_call0_v78 : Vec Ideal S8x128 .f32)⟩,
    ⟨S8x128, (at1 W main_call0_v46 : Vec Ideal S8x128 .f32)⟩, ⟨S7x128, (at1 W main_call0_v79 : Vec Ideal S7x128 .f32)⟩]
    concatenates_S1x128_S1x128_S1x128_S1x128_S4x128_S9x128_S8x128_S8x128_S7x128_S40x128_d0 := by
  unfold lastOp
  exact nary_result' ..

theorem tab_last : V m c main_call0_v80 = lastOp.result (upto (hostOps0 (F := Ideal)) (fun b => m (c,b)) 116) (Proc.devRef .tc main_call0_v80) :=
  after_last_write (ops := hostOps0 (F := Ideal)) (i := 116) (r := main_call0_v80) [] rfl rfl (by simp) (fun b => m (c, b))

/-- The table as it reaches the kernel. -/
def tab : FVec Ideal S40x128 .f32 := concatenate S40x128 0 [⟨S1x128, preV⟩, ⟨S1x128, sclV⟩, ⟨S1x128, posV⟩, ⟨S1x128, negV⟩,
    ⟨S4x128, bitV⟩, ⟨S9x128, seedV⟩, ⟨S8x128, isdV⟩, ⟨S8x128, upV⟩,
    ⟨S7x128, extractStridedSlice S7x128 ![1, 0] bckV slices_S8x128_S7x128_1_0⟩]
    concatenates_S1x128_S1x128_S1x128_S1x128_S4x128_S9x128_S8x128_S8x128_S7x128_S40x128_d0

theorem tab_eq : V m c main_call0_v80 = tab := by
  rw [tab_last, last_val]
  have h16 : at1 (upto (hostOps0 (F := Ideal)) (fun b => m (c, b)) 116) main_call0_v16 = preV := u16 m c
  have h20 : at1 (upto (hostOps0 (F := Ideal)) (fun b => m (c, b)) 116) main_call0_v20 = sclV := u20 m c
  have h64 : at1 (upto (hostOps0 (F := Ideal)) (fun b => m (c, b)) 116) main_call0_v64 = posV := u64 m c
  have h67 : at1 (upto (hostOps0 (F := Ideal)) (fun b => m (c, b)) 116) main_call0_v67 = negV := u67 m c
  have h72 : at1 (upto (hostOps0 (F := Ideal)) (fun b => m (c, b)) 116) main_call0_v72 = bitV := u72 m c
  have h75 : at1 (upto (hostOps0 (F := Ideal)) (fun b => m (c, b)) 116) main_call0_v75 = seedV := u75 m c
  have h78 : at1 (upto (hostOps0 (F := Ideal)) (fun b => m (c, b)) 116) main_call0_v78 = isdV := u78 m c
  have h46 : at1 (upto (hostOps0 (F := Ideal)) (fun b => m (c, b)) 116) main_call0_v46 = upV := u46 m c
  have h79 : at1 (upto (hostOps0 (F := Ideal)) (fun b => m (c, b)) 116) main_call0_v79 = extractStridedSlice S7x128 ![1, 0] bckV slices_S8x128_S7x128_1_0 := u79 m c
  rw [h16, h20, h64, h67, h72, h75, h78, h46, h79]; rfl

end Cert.Proof.KV

end
-- ==== Proof.VRows.lean ====
module

public import proofs.«01_k».proof.Proof.VTab

/-! The rows of the table, as numbers. -/

@[expose] public section

set_option maxRecDepth 16384

noncomputable section

namespace Cert.Proof.KV

open Cert.KernelIdeal Cert.KernelIdeal.Gen Cert.Proof.KI Cert.Proof.Scal Cert.Proof.Harm
open Idealize.ShloMosaic
open Idealize.ShloMosaic.TcCoe Idealize.ShloMosaic.Tactic Idealize.ShloMosaic.StableHlo

/-! ## The integers -/

theorem row_at (j : Fin 128) : S1x128.rowMajor (ix2 0 j) = j := by
  have e : ∀ j : Fin 128, (S1x128.rowMajor (ix2 0 j)).val = j.val := by decide +kernel
  exact Fin.ext (e j)

theorem lit_abs : ∀ j : Fin 128, j.val < 81 → lit2 j = BitVec.ofNat 32 (am j) := by decide +kernel
theorem lit_ord : ∀ j : Fin 128, j.val < 81 → lit1 j = BitVec.ofInt 32 (mo j) := by decide +kernel
theorem lit_deg : ∀ j : Fin 128, j.val < 81 → lit0 j = BitVec.ofNat 32 (lo j) := by decide +kernel

theorem abs_at (j : Fin 128) (h : j.val < 81) : absV (ix2 0 j) = BitVec.ofNat 32 (am j) := by
  rw [absV, row_at]; exact lit_abs j h
theorem ord_at (j : Fin 128) (h : j.val < 81) : ordV (ix2 0 j) = BitVec.ofInt 32 (mo j) := by
  rw [ordV, row_at]; exact lit_ord j h
theorem deg_at (j : Fin 128) (h : j.val < 81) : degV (ix2 0 j) = BitVec.ofNat 32 (lo j) := by
  rw [degV, row_at]; exact lit_deg j h

theorem down_at (v : IVec S1x128 32) (d : Fin 8) (j : Fin 128) : down v (ix2 d j) = v (ix2 0 j) := by
  unfold down; pointwise
theorem down4_at (v : IVec S1x128 32) (d : Fin 4) (j : Fin 128) : broadcastInDim S4x128 ![0, 1] bcast_S1x128_S4x128_0_1 v (ix2 d j) = v (ix2 0 j) := by
  pointwise
theorem down9_at (v : IVec S1x128 32) (d : Fin 9) (j : Fin 128) : broadcastInDim S9x128 ![0, 1] bcast_S1x128_S9x128_0_1 v (ix2 d j) = v (ix2 0 j) := by
  pointwise

theorem frm_at (d : Fin 8) (j : Fin 128) : frm (ix2 d j) = BitVec.ofNat 32 (d.val + 1) := by
  have e : ∀ d : Fin 8, BitVec.ofNat 32 d.val + 1#32 = BitVec.ofNat 32 (d.val + 1) := by decide
  exact e d

/-- The order of a lane as one of nine. -/
def amF (j : Fin 128) (h : j.val < 81) : Fin 9 := ⟨am j, Nat.lt_succ_of_le ((am_le h).trans (lo_le _))⟩

theorem ins_word : ∀ (a : Fin 9) (d : Fin 8), IntOp.cmpi .slt (BitVec.ofNat 32 a.val) (BitVec.ofNat 32 (d.val + 1)) =
    if a.val < d.val + 1 then 1#1 else 0#1 := by decide +kernel

theorem ins_at (d : Fin 8) (j : Fin 128) (h : j.val < 81) : insV (ix2 d j) = if am j < d.val + 1 then 1#1 else 0#1 := by
  have e : insV (ix2 d j) = IntOp.cmpi .slt (down absV (ix2 d j)) (frm (ix2 d j)) := rfl
  rw [e, down_at, frm_at, abs_at j h]; exact ins_word (amF j h) d

theorem gap_word : ∀ (a : Fin 9) (d : Fin 8),
    (Scalar.select (if a.val < d.val + 1 then 1#1 else 0#1) (BitVec.ofNat 32 (d.val + 1) * BitVec.ofNat 32 (d.val + 1) - BitVec.ofNat 32 a.val * BitVec.ofNat 32 a.val) 1#32).toInt
      = if a.val < d.val + 1 then ((d.val : ℤ) + 1) ^ 2 - (a.val : ℤ) ^ 2 else 1 := by decide +kernel

theorem gap_int (d : Fin 8) (j : Fin 128) (h : j.val < 81) :
    (select insV (subi (muli frm frm) (down (muli absV absV))) (allI 1#32) (ix2 d j)).toInt
      = if am j < d.val + 1 then ((d.val : ℤ) + 1) ^ 2 - (am j : ℤ) ^ 2 else 1 := by
  have e : select insV (subi (muli frm frm) (down (muli absV absV))) (allI 1#32) (ix2 d j)
      = Scalar.select (insV (ix2 d j)) (frm (ix2 d j) * frm (ix2 d j) - down (muli absV absV) (ix2 d j)) 1#32 := rfl
  have e2 : muli absV absV (ix2 0 j) = absV (ix2 0 j) * absV (ix2 0 j) := rfl
  rw [e, ins_at d j h, down_at, e2, frm_at, abs_at j h]; exact gap_word (amF j h) d

theorem bef_word : ∀ (a : Fin 9) (d : Fin 8),
    (Scalar.select (if a.val < d.val + 1 then 1#1 else 0#1) ((BitVec.ofNat 32 (d.val + 1) - 1#32) * (BitVec.ofNat 32 (d.val + 1) - 1#32) - BitVec.ofNat 32 a.val * BitVec.ofNat 32 a.val) 0#32).toInt
      = if a.val < d.val + 1 then (d.val : ℤ) ^ 2 - (a.val : ℤ) ^ 2 else 0 := by decide +kernel

theorem bef_int (d : Fin 8) (j : Fin 128) (h : j.val < 81) :
    (select insV (subi (muli (subi frm (allI 1#32)) (subi frm (allI 1#32))) (down (muli absV absV))) (allI 0#32) (ix2 d j)).toInt
      = if am j < d.val + 1 then (d.val : ℤ) ^ 2 - (am j : ℤ) ^ 2 else 0 := by
  have e : select insV (subi (muli (subi frm (allI 1#32)) (subi frm (allI 1#32))) (down (muli absV absV))) (allI 0#32) (ix2 d j)
      = Scalar.select (insV (ix2 d j)) ((frm (ix2 d j) - 1#32) * (frm (ix2 d j) - 1#32) - down (muli absV absV) (ix2 d j)) 0#32 := rfl
  have e2 : muli absV absV (ix2 0 j) = absV (ix2 0 j) * absV (ix2 0 j) := rfl
  rw [e, ins_at d j h, down_at, e2, frm_at, abs_at j h]; exact bef_word (amF j h) d

theorem four_int (d : Fin 8) (j : Fin 128) :
    (subi (muli (allI 4#32) (muli frm frm)) (allI 1#32) (ix2 d j)).toInt = 4 * ((d.val : ℤ) + 1) ^ 2 - 1 := by
  have e : subi (muli (allI 4#32) (muli frm frm)) (allI 1#32) (ix2 d j) = 4#32 * (frm (ix2 d j) * frm (ix2 d j)) - 1#32 := rfl
  have w : ∀ d : Fin 8, (4#32 * (BitVec.ofNat 32 (d.val + 1) * BitVec.ofNat 32 (d.val + 1)) - 1#32).toInt = 4 * ((d.val : ℤ) + 1) ^ 2 - 1 := by decide +kernel
  rw [e, frm_at]; exact w d

theorem twice_int (d : Fin 8) (j : Fin 128) :
    (addi (muli (allI 2#32) frm) (allI 1#32) (ix2 d j)).toInt = 2 * (d.val : ℤ) + 3 := by
  have e : addi (muli (allI 2#32) frm) (allI 1#32) (ix2 d j) = 2#32 * frm (ix2 d j) + 1#32 := rfl
  have w : ∀ d : Fin 8, (2#32 * BitVec.ofNat 32 (d.val + 1) + 1#32).toInt = 2 * (d.val : ℤ) + 3 := by decide +kernel
  rw [e, frm_at]; exact w d

theorem less_int (d : Fin 8) (j : Fin 128) :
    (subi (muli (allI 2#32) frm) (allI 3#32) (ix2 d j)).toInt = 2 * (d.val : ℤ) - 1 := by
  have e : subi (muli (allI 2#32) frm) (allI 3#32) (ix2 d j) = 2#32 * frm (ix2 d j) - 3#32 := rfl
  have w : ∀ d : Fin 8, (2#32 * BitVec.ofNat 32 (d.val + 1) - 3#32).toInt = 2 * (d.val : ℤ) - 1 := by decide +kernel
  rw [e, frm_at]; exact w d

theorem odd_at (j : Fin 128) (h : j.val < 81) :
    cmpi .eq (andi absV (rowI 1#32)) (rowI 1#32) (ix2 0 j) = if am j % 2 = 1 then 1#1 else 0#1 := by
  have e : cmpi .eq (andi absV (rowI 1#32)) (rowI 1#32) (ix2 0 j) = IntOp.cmpi .eq (absV (ix2 0 j) &&& 1#32) 1#32 := rfl
  have w : ∀ a : Fin 9, IntOp.cmpi .eq (BitVec.ofNat 32 a.val &&& 1#32) 1#32 = if a.val % 2 = 1 then 1#1 else 0#1 := by decide +kernel
  rw [e, abs_at j h]; exact w (amF j h)

/-- The signed order of a lane as one of seventeen. -/
theorem mo_bound : ∀ j : Fin 81, -8 ≤ mo j ∧ mo j ≤ 8 := by decide +kernel

theorem ord_word (P : ℤ → Prop) (hP : ∀ k : Fin 17, P ((k.val : ℤ) - 8)) (j : Fin 128) (h : j.val < 81) : P (mo j) := by
  have hb := mo_bound ⟨j.val, h⟩
  have := hP ⟨(mo j + 8).toNat, by simp only at hb; omega⟩
  rwa [show (((mo j + 8).toNat : ℕ) : ℤ) - 8 = mo j by simp only at hb; omega] at this

theorem zero_at (j : Fin 128) (h : j.val < 81) : cmpi .ne ordV (rowI 0#32) (ix2 0 j) = if mo j = 0 then 0#1 else 1#1 := by
  have e : cmpi .ne ordV (rowI 0#32) (ix2 0 j) = IntOp.cmpi .ne (ordV (ix2 0 j)) 0#32 := rfl
  rw [e, ord_at j h]
  exact ord_word (fun z => IntOp.cmpi .ne (BitVec.ofInt 32 z) 0#32 = if z = 0 then 0#1 else 1#1) (by decide +kernel) j h

theorem pos_int (j : Fin 128) (h : j.val < 81) : (cmpi .sgt ordV (rowI 0#32) (ix2 0 j)).toNat = if 0 < mo j then 1 else 0 := by
  have e : cmpi .sgt ordV (rowI 0#32) (ix2 0 j) = IntOp.cmpi .sgt (ordV (ix2 0 j)) 0#32 := rfl
  rw [e, ord_at j h]
  exact ord_word (fun z => (IntOp.cmpi .sgt (BitVec.ofInt 32 z) 0#32).toNat = if 0 < z then 1 else 0) (by decide +kernel) j h

theorem neg_int (j : Fin 128) (h : j.val < 81) : (cmpi .slt ordV (rowI 0#32) (ix2 0 j)).toNat = if mo j < 0 then 1 else 0 := by
  have e : cmpi .slt ordV (rowI 0#32) (ix2 0 j) = IntOp.cmpi .slt (ordV (ix2 0 j)) 0#32 := rfl
  rw [e, ord_at j h]
  exact ord_word (fun z => (IntOp.cmpi .slt (BitVec.ofInt 32 z) 0#32).toNat = if z < 0 then 1 else 0) (by decide +kernel) j h

/-- The shifted word of a binary digit. -/
abbrev shifted : IVec S4x128 32 := Host.shrsi (broadcastInDim S4x128 ![0, 1] bcast_S1x128_S4x128_0_1 absV) (iotaInDim S4x128 32 0)

theorem bit_int (k : Fin 4) (j : Fin 128) (h : j.val < 81) :
    (andi shifted (broadcastInDim S4x128 ![] bcast_S_S4x128 (constantI S_ 32 1#32)) (ix2 k j)).toInt = if am j / 2 ^ k.val % 2 = 1 then 1 else 0 := by
  have e : andi shifted (broadcastInDim S4x128 ![] bcast_S_S4x128 (constantI S_ 32 1#32)) (ix2 k j)
      = IntOp.shrsi .host (broadcastInDim S4x128 ![0, 1] bcast_S1x128_S4x128_0_1 absV (ix2 k j)) (BitVec.ofNat 32 k.val) &&& 1#32 := rfl
  have w : ∀ (a : Fin 9) (k : Fin 4), (IntOp.shrsi .host (BitVec.ofNat 32 a.val) (BitVec.ofNat 32 k.val) &&& 1#32).toInt
      = if a.val / 2 ^ k.val % 2 = 1 then 1 else 0 := by decide +kernel
  rw [e, down4_at, abs_at j h]; exact w (amF j h) k

theorem seed_int (d : Fin 9) (j : Fin 128) (h : j.val < 81) :
    (cmpi .eq (broadcastInDim S9x128 ![0, 1] bcast_S1x128_S9x128_0_1 absV) (iotaInDim S9x128 32 0) (ix2 d j)).toNat
      = if am j = d.val then 1 else 0 := by
  have e : cmpi .eq (broadcastInDim S9x128 ![0, 1] bcast_S1x128_S9x128_0_1 absV) (iotaInDim S9x128 32 0) (ix2 d j)
      = IntOp.cmpi .eq (broadcastInDim S9x128 ![0, 1] bcast_S1x128_S9x128_0_1 absV (ix2 d j)) (BitVec.ofNat 32 d.val) := rfl
  have w : ∀ a d : Fin 9, (IntOp.cmpi .eq (BitVec.ofNat 32 a.val) (BitVec.ofNat 32 d.val)).toNat = if a.val = d.val then 1 else 0 := by decide +kernel
  rw [e, down9_at, abs_at j h]; exact w (amF j h) d

theorem deg_int (d : Fin 8) (j : Fin 128) (h : j.val < 81) :
    (cmpi .eq (down degV) frm (ix2 d j)).toNat = if lo j = d.val + 1 then 1 else 0 := by
  have e : cmpi .eq (down degV) frm (ix2 d j) = IntOp.cmpi .eq (down degV (ix2 d j)) (frm (ix2 d j)) := rfl
  have w : ∀ (a : Fin 9) (d : Fin 8), (IntOp.cmpi .eq (BitVec.ofNat 32 a.val) (BitVec.ofNat 32 (d.val + 1))).toNat
      = if a.val = d.val + 1 then 1 else 0 := by decide +kernel
  rw [e, down_at, frm_at, deg_at j h]; exact w ⟨lo j, Nat.lt_succ_of_le (lo_le _)⟩ d

/-! ## The rows -/

theorem ite_word {p : Prop} [Decidable p] : ((if p then 1 else 0 : ℤ) : ℝ) = if p then 1 else 0 := by split <;> simp

theorem ite_nat {p : Prop} [Decidable p] : ((if p then 1 else 0 : ℕ) : ℝ) = if p then 1 else 0 := by split <;> simp

theorem pos_at (j : Fin 128) (h : j.val < 81) : posV (ix2 0 j) = ((if 0 < mo j then 1 else 0 : ℝ) : EReal) := by
  rw [← ite_nat, ← pos_int j h]; rfl

theorem neg_at (j : Fin 128) (h : j.val < 81) : negV (ix2 0 j) = ((if mo j < 0 then 1 else 0 : ℝ) : EReal) := by
  rw [← ite_nat, ← neg_int j h]; rfl

theorem bit_at (k : Fin 4) (j : Fin 128) (h : j.val < 81) : bitV (ix2 k j) = ((if am j / 2 ^ k.val % 2 = 1 then 1 else 0 : ℝ) : EReal) := by
  rw [← ite_word, ← bit_int k j h]; rfl

theorem seed_at (d : Fin 9) (j : Fin 128) (h : j.val < 81) : seedV (ix2 d j) = ((if am j = d.val then 1 else 0 : ℝ) : EReal) := by
  rw [← ite_nat, ← seed_int d j h]; rfl

theorem isd_at (d : Fin 8) (j : Fin 128) (h : j.val < 81) : isdV (ix2 d j) = ((if lo j = d.val + 1 then 1 else 0 : ℝ) : EReal) := by
  rw [← ite_nat, ← deg_int d j h]; rfl

theorem gap_at (d : Fin 8) (j : Fin 128) (h : j.val < 81) :
    gapV (ix2 d j) = ((if am j < d.val + 1 then ((d.val : ℝ) + 1) ^ 2 - (am j : ℝ) ^ 2 else 1 : ℝ) : EReal) := by
  have e : gapV (ix2 d j) = (((select insV (subi (muli frm frm) (down (muli absV absV))) (allI 1#32) (ix2 d j)).toInt : ℝ) : EReal) := rfl
  rw [e, gap_int d j h]
  split <;> push_cast <;> rfl

theorem bef_at (d : Fin 8) (j : Fin 128) (h : j.val < 81) :
    befV (ix2 d j) = ((if am j < d.val + 1 then (d.val : ℝ) ^ 2 - (am j : ℝ) ^ 2 else 0 : ℝ) : EReal) := by
  have e : befV (ix2 d j) = (((select insV (subi (muli (subi frm (allI 1#32)) (subi frm (allI 1#32))) (down (muli absV absV))) (allI 0#32)
    (ix2 d j)).toInt : ℝ) : EReal) := rfl
  rw [e, bef_int d j h]
  split <;> push_cast <;> rfl

theorem div_real {y : ℝ} (h : y ≠ 0) (x : ℝ) : Ideal.div (x : EReal) (y : EReal) = ((x / y : ℝ) : EReal) := by
  rw [Ideal.div_coe h, ← EReal.coe_mul, mul_one_div]

theorem sqrt_real {x : ℝ} (h : 0 ≤ x) : Ideal.sqrt (x : EReal) = ((√x : ℝ) : EReal) := by
  rw [Ideal.sqrt_coe, if_neg (not_lt.2 h)]

theorem gap_pos (d : ℕ) (a : ℕ) : 0 < (if a < d + 1 then ((d : ℝ) + 1) ^ 2 - (a : ℝ) ^ 2 else 1 : ℝ) := by
  split
  · next h =>
      have : (a : ℝ) < d + 1 := by exact_mod_cast h
      have h0 : (0 : ℝ) ≤ a := by positivity
      nlinarith
  · norm_num

theorem up_at (d : Fin 8) (j : Fin 128) (h : j.val < 81) :
    upV (ix2 d j) = ((if am j < d.val + 1 then √(upSq (d.val + 1) (am j)) else 0 : ℝ) : EReal) := by
  have e : upV (ix2 d j) = Scalar.select (insV (ix2 d j))
      (Ideal.sqrt (Ideal.div ((((subi (muli (allI 4#32) (muli frm frm)) (allI 1#32) (ix2 d j)).toInt : ℝ) : EReal)) (gapV (ix2 d j))))
      (Ideal.ofBits .f32 0x00000000#32) := rfl
  have hg := gap_pos d (am j)
  have h4 : (0 : ℝ) ≤ ((4 * ((d.val : ℤ) + 1) ^ 2 - 1 : ℤ) : ℝ) := by
    have : (0 : ℝ) ≤ d.val := by positivity
    push_cast; nlinarith
  rw [e, ins_at d j h, four_int, gap_at d j h, Ideal.ofBits_zero_f32, div_real hg.ne', sqrt_real (div_nonneg h4 hg.le)]
  by_cases hd : am j < d.val + 1
  · simp only [if_pos hd]
    show ((_ : ℝ) : EReal) = _
    congr 2
    rw [upSq]; push_cast; ring_nf
  · simp only [if_neg hd]
    rfl

theorem bck_at (d : Fin 8) (j : Fin 128) (h : j.val < 81) (h1 : 1 ≤ d.val) :
    bckV (ix2 d j) = ((if am j < d.val + 1 then -√(backSq (d.val + 1) (am j)) else 0 : ℝ) : EReal) := by
  have e : bckV (ix2 d j) = -(Ideal.sqrt (Ideal.div
      ((((addi (muli (allI 2#32) frm) (allI 1#32) (ix2 d j)).toInt : ℝ) : EReal) * befV (ix2 d j))
      ((((subi (muli (allI 2#32) frm) (allI 3#32) (ix2 d j)).toInt : ℝ) : EReal) * gapV (ix2 d j)))) := rfl
  have hg := gap_pos d (am j)
  have h2 : (0 : ℝ) < ((2 * (d.val : ℤ) - 1 : ℤ) : ℝ) := by
    have : (1 : ℝ) ≤ d.val := by exact_mod_cast h1
    push_cast; linarith
  have h3 : (0 : ℝ) ≤ ((2 * (d.val : ℤ) + 3 : ℤ) : ℝ) := by push_cast; positivity
  have hb : (0 : ℝ) ≤ (if am j < d.val + 1 then (d.val : ℝ) ^ 2 - (am j : ℝ) ^ 2 else 0 : ℝ) := by
    split
    · next hd =>
        have h5 : (am j : ℝ) ≤ d.val := by exact_mod_cast Nat.lt_succ_iff.1 hd
        have h6 : (0 : ℝ) ≤ am j := by positivity
        nlinarith
    · exact le_rfl
  rw [e, twice_int, less_int, bef_at d j h, gap_at d j h, ← EReal.coe_mul, ← EReal.coe_mul,
    div_real (mul_pos h2 hg).ne', sqrt_real (div_nonneg (mul_nonneg h3 hb) (mul_pos h2 hg).le), ← EReal.coe_neg]
  by_cases hd : am j < d.val + 1
  · simp only [if_pos hd]
    congr 3
    rw [backSq]; push_cast; ring_nf
  · simp only [if_neg hd]
    simp

theorem scl_at (j : Fin 128) (h : j.val < 81) : sclV (ix2 0 j) = ((if mo j = 0 then 1 else √2 : ℝ) : EReal) := by
  have e : sclV (ix2 0 j) = Scalar.select (cmpi .ne ordV (rowI 0#32) (ix2 0 j)) (Ideal.sqrt (Ideal.ofBits .f32 0x40000000#32))
      (Ideal.ofBits .f32 0x3F800000#32) := rfl
  rw [e, zero_at j h, lit_two, Ideal.ofBits_one_f32, sqrt_real (by norm_num)]
  by_cases hd : mo j = 0
  · simp only [if_pos hd]; rfl
  · simp only [if_neg hd]; rfl

/-- The numerators of the seeds, by order. -/
def numB : ℕ → BitVec 32
  | 0 => 0x3F800000#32 | 1 => 0x40400000#32 | 2 => 0x41700000#32 | 3 => 0x420C0000#32 | 4 => 0x439D8000#32
  | 5 => 0x442D4000#32 | 6 => 0x453BB000#32 | 7 => 0x45C91800#32 | _ => 0x47D5A980#32
/-- The denominators of the seeds, by order. -/
def denB : ℕ → BitVec 32
  | 0 => 0x3F800000#32 | 1 => 0x40000000#32 | 2 => 0x41000000#32 | 3 => 0x41800000#32 | 4 => 0x43000000#32
  | 5 => 0x43800000#32 | 6 => 0x44800000#32 | 7 => 0x45000000#32 | _ => 0x47000000#32

theorem lit_num : ∀ j : Fin 128, j.val < 81 → lit3 j = numB (am j) := by decide +kernel
theorem lit_den : ∀ j : Fin 128, j.val < 81 → lit4 j = denB (am j) := by decide +kernel

theorem num_at : ∀ j : Fin 128, j.val < 81 → lit3 (S1x128.rowMajor (ix2 0 j)) = numB (am j) := by
  intro j h; rw [row_at]; exact lit_num j h
theorem den_at : ∀ j : Fin 128, j.val < 81 → lit4 (S1x128.rowMajor (ix2 0 j)) = denB (am j) := by
  intro j h; rw [row_at]; exact lit_den j h

theorem quot_at : ∀ a : ℕ, a ≤ 8 → Ideal.div (Ideal.ofBits .f32 (numB a)) (Ideal.ofBits .f32 (denB a)) = ((seedSq a : ℝ) : EReal) := by
  have key : ∀ (x y q : ℝ) (u v : EReal), u = x → v = y → y ≠ 0 → x / y = q → Ideal.div u v = (q : EReal) := by
    intro x y q u v hu hv hy hq
    rw [hu, hv, div_real hy, hq]
  intro a ha
  interval_cases a
  · refine key 1 1 _ _ _ ?_ ?_ (by norm_num) ?_
    · simp [numB, Ideal.ofBits, Ideal.ieee, -EReal.coe_mul]; norm_num
    · simp [denB, Ideal.ofBits, Ideal.ieee, -EReal.coe_mul]; norm_num
    · simp [seedSq]
  · refine key 3 2 _ _ _ ?_ ?_ (by norm_num) ?_
    · simp [numB, Ideal.ofBits, Ideal.ieee, -EReal.coe_mul]; norm_num
    · simp [denB, Ideal.ofBits, Ideal.ieee, -EReal.coe_mul]; norm_num
    · simp [seedSq]
  · refine key 15 8 _ _ _ ?_ ?_ (by norm_num) ?_
    · simp [numB, Ideal.ofBits, Ideal.ieee, -EReal.coe_mul]; norm_num
    · simp [denB, Ideal.ofBits, Ideal.ieee, -EReal.coe_mul]; norm_num
    · norm_num [seedSq, Finset.prod_range_succ]
  · refine key 35 16 _ _ _ ?_ ?_ (by norm_num) ?_
    · simp [numB, Ideal.ofBits, Ideal.ieee, -EReal.coe_mul]; norm_num
    · simp [denB, Ideal.ofBits, Ideal.ieee, -EReal.coe_mul]; norm_num
    · norm_num [seedSq, Finset.prod_range_succ]
  · refine key 315 128 _ _ _ ?_ ?_ (by norm_num) ?_
    · simp [numB, Ideal.ofBits, Ideal.ieee, -EReal.coe_mul]; norm_num
    · simp [denB, Ideal.ofBits, Ideal.ieee, -EReal.coe_mul]; norm_num
    · norm_num [seedSq, Finset.prod_range_succ]
  · refine key 693 256 _ _ _ ?_ ?_ (by norm_num) ?_
    · simp [numB, Ideal.ofBits, Ideal.ieee, -EReal.coe_mul]; norm_num
    · simp [denB, Ideal.ofBits, Ideal.ieee, -EReal.coe_mul]; norm_num
    · norm_num [seedSq, Finset.prod_range_succ]
  · refine key 3003 1024 _ _ _ ?_ ?_ (by norm_num) ?_
    · simp [numB, Ideal.ofBits, Ideal.ieee, -EReal.coe_mul]; norm_num
    · simp [denB, Ideal.ofBits, Ideal.ieee, -EReal.coe_mul]; norm_num
    · norm_num [seedSq, Finset.prod_range_succ]
  · refine key 6435 2048 _ _ _ ?_ ?_ (by norm_num) ?_
    · simp [numB, Ideal.ofBits, Ideal.ieee, -EReal.coe_mul]; norm_num
    · simp [denB, Ideal.ofBits, Ideal.ieee, -EReal.coe_mul]; norm_num
    · norm_num [seedSq, Finset.prod_range_succ]
  · refine key 109395 32768 _ _ _ ?_ ?_ (by norm_num) ?_
    · simp [numB, Ideal.ofBits, Ideal.ieee, -EReal.coe_mul]; norm_num
    · simp [denB, Ideal.ofBits, Ideal.ieee, -EReal.coe_mul]; norm_num
    · norm_num [seedSq, Finset.prod_range_succ]

theorem root_at (j : Fin 128) (h : j.val < 81) : rootV (ix2 0 j) = ((√(seedSq (am j) / (4 * Real.pi)) : ℝ) : EReal) := by
  have e : rootV (ix2 0 j) = Ideal.sqrt (Ideal.div (Ideal.div (Ideal.ofBits .f32 (lit3 (S1x128.rowMajor (ix2 0 j))))
      (Ideal.ofBits .f32 (lit4 (S1x128.rowMajor (ix2 0 j)))))
      (Ideal.ofBits .f32 0x40800000#32 * Ideal.acos (Ideal.ofBits .f32 0xBF800000#32))) := rfl
  rw [e, num_at j h, den_at j h, quot_at _ ((am_le h).trans (lo_le _)), lit_four, lit_neg_one, Ideal.acos_coe, if_pos (by norm_num), Real.arccos_neg_one, ← EReal.coe_mul,
    div_real (by positivity), sqrt_real (div_nonneg (seedSq_nonneg _) (by positivity))]

theorem pre_at (j : Fin 128) (h : j.val < 81) :
    preV (ix2 0 j) = (((-1) ^ am j * √(seedSq (am j) / (4 * Real.pi)) : ℝ) : EReal) := by
  have e : preV (ix2 0 j) = Scalar.select (cmpi .eq (andi absV (rowI 1#32)) (rowI 1#32) (ix2 0 j)) (-(rootV (ix2 0 j))) (rootV (ix2 0 j)) := rfl
  rw [e, odd_at j h, root_at j h, ← EReal.coe_neg]
  by_cases hd : am j % 2 = 1
  · simp only [if_pos hd]
    rw [Odd.neg_one_pow (Nat.odd_iff.2 hd), neg_one_mul]; rfl
  · simp only [if_neg hd]
    rw [Even.neg_one_pow (Nat.even_iff.2 (by omega)), one_mul]; rfl

end Cert.Proof.KV

end
-- ==== Proof.VIsTab.lean ====
module

public import proofs.«01_k».proof.Proof.VRows
public import Idealize.ShloMosaic.Lib.Pointwise.Select

/-! The table is the one the lane recurrence asks for. -/

@[expose] public section

set_option maxRecDepth 16384

set_option maxHeartbeats 1000000

noncomputable section

namespace Cert.Proof.KV

open Cert.KernelIdeal Cert.KernelIdeal.Gen Cert.Proof.KI Cert.Proof.Scal Cert.Proof.Harm
open Idealize.ShloMosaic
open Idealize.ShloMosaic.TcCoe Idealize.ShloMosaic.Tactic Idealize.ShloMosaic.StableHlo

theorem row_pref (j : Fin 128) : tab (ix2 0 j) = preV (ix2 0 j) := by unfold tab; pointwise

theorem row_root (j : Fin 128) : tab (ix2 1 j) = sclV (ix2 0 j) := by unfold tab; pointwise

theorem row_pos (j : Fin 128) : tab (ix2 2 j) = posV (ix2 0 j) := by unfold tab; pointwise

theorem row_neg (j : Fin 128) : tab (ix2 3 j) = negV (ix2 0 j) := by unfold tab; pointwise

theorem row_bit (d : ℕ) (hd : d < 4) (j : Fin 128) : tab (ix2 ⟨4 + d, by omega⟩ j) = bitV (ix2 ⟨d, by omega⟩ j) := by
  unfold tab; pointwise
  split_ifs <;> first | (exfalso; omega) | exact congrArg (fun r => bitV (ix2 r j)) (Fin.ext (by dsimp only; omega))

theorem row_seed (d : ℕ) (hd : d < 9) (j : Fin 128) : tab (ix2 ⟨8 + d, by omega⟩ j) = seedV (ix2 ⟨d, by omega⟩ j) := by
  unfold tab; pointwise
  split_ifs <;> first | (exfalso; omega) | exact congrArg (fun r => seedV (ix2 r j)) (Fin.ext (by dsimp only; omega))

theorem row_deg (d : ℕ) (hd : d < 8) (j : Fin 128) : tab (ix2 ⟨17 + d, by omega⟩ j) = isdV (ix2 ⟨d, by omega⟩ j) := by
  unfold tab; pointwise
  split_ifs <;> first | (exfalso; omega) | exact congrArg (fun r => isdV (ix2 r j)) (Fin.ext (by dsimp only; omega))

theorem row_up (d : ℕ) (hd : d < 8) (j : Fin 128) : tab (ix2 ⟨25 + d, by omega⟩ j) = upV (ix2 ⟨d, by omega⟩ j) := by
  unfold tab; pointwise
  split_ifs <;> first | (exfalso; omega) | exact congrArg (fun r => upV (ix2 r j)) (Fin.ext (by dsimp only; omega))

theorem row_back (d : ℕ) (hd : d < 7) (j : Fin 128) : tab (ix2 ⟨33 + d, by omega⟩ j) = bckV (ix2 ⟨d + 1, by omega⟩ j) := by
  unfold tab; pointwise
  split_ifs <;> first | (exfalso; omega) | exact congrArg (fun r => bckV (ix2 r j)) (Fin.ext (by dsimp only; omega))

theorem isTab (j : Fin 128) (h : j.val < 81) : IsTab tab j where
  pref := (row_pref j).trans (pre_at j h)
  root := (row_root j).trans (scl_at j h)
  pos := (row_pos j).trans (pos_at j h)
  neg := (row_neg j).trans (neg_at j h)
  bit d hd := (row_bit d hd j).trans (bit_at ⟨d, hd⟩ j h)
  seed d hd := (row_seed d hd j).trans (seed_at ⟨d, hd⟩ j h)
  deg d hd := (row_deg d hd j).trans (isd_at ⟨d, hd⟩ j h)
  up d hd := (row_up d hd j).trans (up_at ⟨d, hd⟩ j h)
  back d hd := (row_back d hd j).trans (bck_at ⟨d + 1, by omega⟩ j h (by simp))

end Cert.Proof.KV

end
-- ==== Proof.VBand.lean ====
/-
  The stored bands: each is one harmonic of the first point times the lanes of the second.
-/
module

public import proofs.«01_k».proof.Proof.VCol

@[expose] public section

set_option maxRecDepth 16384

noncomputable section

namespace Cert.Proof.KV

open Cert.KernelIdeal Cert.KernelIdeal.Gen Cert.Proof.KI
open Idealize.ShloMosaic
open Idealize.ShloMosaic.TcCoe Idealize.ShloMosaic.Tactic
open Cert.Proof.Scal Cert.Proof.Harm

variable {x : Vec Ideal S256x6 .f32} {P : Fin 256 → Fin 6 → ℝ}

/-- The column holds the function of degree `l` and order `m`. -/
abbrev Yl (P : Fin 256 → Fin 6 → ℝ) (v : FVec Ideal S256x128 .f32) (l m : ℕ) : Prop := Col v fun r => yl (ct1 P r) (st1 P r) l m
abbrev Cm (P : Fin 256 → Fin 6 → ℝ) (v : FVec Ideal S256x128 .f32) (m : ℕ) : Prop := Col v fun r => Real.cos (m * ph1 P r)
abbrev Sm (P : Fin 256 → Fin 6 → ℝ) (v : FVec Ideal S256x128 .f32) (m : ℕ) : Prop := Col v fun r => Real.sin (m * ph1 P r)

/-! ### Order 0 -/

theorem y00 : Yl P k0_pay92 0 0 := (Col.named (q := √((4 * Real.pi)⁻¹)) rfl).to fun r => by rw [yl_zero, one_div]
theorem y10 (h : Pts x P) : Yl P (coreRun.sl.v390 x) 1 0 := col_next (col_ct h) y00
theorem y20 (h : Pts x P) : Yl P (coreRun.sl.v404 x) 2 0 := col_rec (col_up (col_ct h) (y10 h)) (col_back y00)
theorem y30 (h : Pts x P) : Yl P (k0_pay99 (coreRun.sl.v390 x) (coreRun.sl.v415 x)) 3 0 :=
  col_rec (col_up (col_ct h) (y20 h)) (col_back (y10 h))
theorem y40 (h : Pts x P) : Yl P (coreRun.sl.v432 x) 4 0 := col_rec (col_up (col_ct h) (y30 h)) (col_back (y20 h))
theorem y50 (h : Pts x P) : Yl P (coreRun.sl.v448 x) 5 0 := col_rec (col_up (col_ct h) (y40 h)) (col_backs lit_two (y30 h))
theorem y60 (h : Pts x P) : Yl P (coreRun.sl.v466 x) 6 0 := col_rec (col_ups lit_two (col_ct h) (y50 h)) (col_backs lit_four (y40 h))
theorem y70 (h : Pts x P) : Yl P (coreRun.sl.v484 x) 7 0 := col_rec (col_ups lit_four (col_ct h) (y60 h)) (col_backs lit_eight (y50 h))

/-! ### Order 1 -/

theorem y11 (h : Pts x P) : Yl P (coreRun.sl.v513 x) 1 1 := col_diag (col_st h) y00
theorem y21 (h : Pts x P) : Yl P (coreRun.sl.v538 x) 2 1 := col_next (col_ct h) (y11 h)
theorem y31 (h : Pts x P) : Yl P (coreRun.sl.v562 x) 3 1 := col_rec (col_up (col_ct h) (y21 h)) (col_back (y11 h))
theorem y41 (h : Pts x P) : Yl P (coreRun.sl.v586 x) 4 1 := col_rec (col_up (col_ct h) (y31 h)) (col_back (y21 h))
theorem y51 (h : Pts x P) : Yl P (coreRun.sl.v610 x) 5 1 := col_rec (col_up (col_ct h) (y41 h)) (col_back (y31 h))
theorem y61 (h : Pts x P) : Yl P (coreRun.sl.v634 x) 6 1 := col_rec (col_up (col_ct h) (y51 h)) (col_back (y41 h))
theorem y71 (h : Pts x P) : Yl P (k0_pay134 (coreRun.sl.v361 x) (coreRun.sl.v610 x) (coreRun.sl.v634 x)) 7 1 :=
  col_rec (col_ups lit_two (col_ct h) (y61 h)) (col_backs lit_two (y51 h))
theorem y81 (h : Pts x P) : Yl P (k0_pay138 (coreRun.sl.v634 x) (coreRun.sl.v681 x)) 8 1 :=
  col_rec (col_ups lit_four (col_ct h) (y71 h)) (col_backs lit_thirtytwo (y61 h))

/-! ### Order 2 -/

theorem y22 (h : Pts x P) : Yl P (coreRun.sl.v711 x) 2 2 := col_diag (col_st h) (y11 h)
theorem y32 (h : Pts x P) : Yl P (coreRun.sl.v742 x) 3 2 := col_next (col_ct h) (y22 h)
theorem y42 (h : Pts x P) : Yl P (coreRun.sl.v766 x) 4 2 := col_rec (col_up (col_ct h) (y32 h)) (col_back (y22 h))
theorem y52 (h : Pts x P) : Yl P (coreRun.sl.v790 x) 5 2 := col_rec (col_up (col_ct h) (y42 h)) (col_back (y32 h))
theorem y62 (h : Pts x P) : Yl P (coreRun.sl.v814 x) 6 2 := col_rec (col_up (col_ct h) (y52 h)) (col_back (y42 h))
theorem y72 (h : Pts x P) : Yl P (k0_pay165 (coreRun.sl.v790 x) (coreRun.sl.v833 x) k0_pay164) 7 2 :=
  col_rec (col_up (col_ct h) (y62 h)) (col_back (y52 h))
theorem y82 (h : Pts x P) : Yl P (coreRun.sl.v864 x) 8 2 := col_rec (col_up (col_ct h) (y72 h)) (col_backs lit_two (y62 h))

/-! ### Order 3 -/

theorem y33 (h : Pts x P) : Yl P (coreRun.sl.v885 x) 3 3 := col_diag (col_st h) (y22 h)
theorem y43 (h : Pts x P) : Yl P (coreRun.sl.v916 x) 4 3 :=
  (((Col.const lit_three).mul (col_ct h)).mul (y33 h)).to fun r => by
    rw [yl_next, upSq_next, show 2 * ((3 : ℕ) : ℝ) + 3 = 3 ^ 2 by norm_num, Real.sqrt_sq (by norm_num)]; ring
theorem y53 (h : Pts x P) : Yl P (coreRun.sl.v940 x) 5 3 := col_rec (col_up (col_ct h) (y43 h)) (col_back (y33 h))
theorem y63 (h : Pts x P) : Yl P (coreRun.sl.v966 x) 6 3 := col_rec (col_ups lit_two (col_ct h) (y53 h)) (col_back (y43 h))
theorem y73 (h : Pts x P) : Yl P (k0_pay190 (coreRun.sl.v940 x) (coreRun.sl.v987 x) coreRun.sl.cst_319) 7 3 :=
  col_rec (col_up (col_ct h) (y63 h)) (col_back (y53 h))
theorem y83 (h : Pts x P) : Yl P (k0_pay193 (coreRun.sl.v361 x) (coreRun.sl.v940 x) (coreRun.sl.v966 x) (coreRun.sl.v987 x) coreRun.sl.cst_319) 8 3 :=
  col_rec (col_up (col_ct h) (y73 h)) (col_back (y63 h))

/-! ### Order 4 -/

theorem y44 (h : Pts x P) : Yl P (coreRun.sl.v1035 x) 4 4 := col_diag (col_st h) (y33 h)
theorem y54 (h : Pts x P) : Yl P (coreRun.sl.v1066 x) 5 4 := col_next (col_ct h) (y44 h)
theorem y64 (h : Pts x P) : Yl P (coreRun.sl.v1090 x) 6 4 := col_rec (col_up (col_ct h) (y54 h)) (col_back (y44 h))
theorem y74 (h : Pts x P) : Yl P (k0_pay212 (coreRun.sl.v361 x) (coreRun.sl.v1066 x) (coreRun.sl.v1090 x)) 7 4 :=
  col_rec (col_up (col_ct h) (y64 h)) (col_back (y54 h))
theorem y84 (h : Pts x P) : Yl P (coreRun.sl.v1140 x) 8 4 := col_rec (col_up (col_ct h) (y74 h)) (col_backs lit_two (y64 h))

/-! ### Order 5 -/

theorem y55 (h : Pts x P) : Yl P (coreRun.sl.v1161 x) 5 5 := col_diag (col_st h) (y44 h)
theorem y65 (h : Pts x P) : Yl P (coreRun.sl.v1192 x) 6 5 := col_next (col_ct h) (y55 h)
theorem y75 (h : Pts x P) : Yl P (coreRun.sl.v1216 x) 7 5 := col_rec (col_up (col_ct h) (y65 h)) (col_back (y55 h))
theorem y85 (h : Pts x P) : Yl P (k0_pay234 (coreRun.sl.v361 x) (coreRun.sl.v1192 x) (coreRun.sl.v1216 x)) 8 5 :=
  col_rec (col_up (col_ct h) (y75 h)) (col_back (y65 h))

/-! ### Orders 6, 7 and 8 -/

theorem y66 (h : Pts x P) : Yl P (coreRun.sl.v1261 x) 6 6 := col_diag (col_st h) (y55 h)
theorem y76 (h : Pts x P) : Yl P (coreRun.sl.v1292 x) 7 6 := col_next (col_ct h) (y66 h)
theorem y86 (h : Pts x P) : Yl P (k0_pay249 (coreRun.sl.v361 x) (coreRun.sl.v1261 x) (coreRun.sl.v1292 x)) 8 6 :=
  col_rec (col_up (col_ct h) (y76 h)) (col_back (y66 h))
theorem y77 (h : Pts x P) : Yl P (coreRun.sl.v1337 x) 7 7 := col_diag (col_st h) (y66 h)
theorem y87 (h : Pts x P) : Yl P (coreRun.sl.v1368 x) 8 7 := col_next (col_ct h) (y77 h)
theorem y88 (h : Pts x P) : Yl P (k0_pay264 (coreRun.sl.v367 x) (coreRun.sl.v1337 x)) 8 8 := col_diags lit_two (col_st h) (y77 h)

/-! ### Multiples of the azimuth -/

theorem c1 (h : Pts x P) : Cm P (coreRun.sl.v375 x) 1 := (col_ca h).to fun r => by rw [Nat.cast_one, one_mul]
theorem s1 (h : Pts x P) : Sm P (coreRun.sl.v378 x) 1 := (col_sa h).to fun r => by rw [Nat.cast_one, one_mul]
theorem c2 (h : Pts x P) : Cm P (coreRun.sl.v714 x) 2 := col_cos (c1 h) (s1 h) (col_ca h) (col_sa h)
theorem s2 (h : Pts x P) : Sm P (coreRun.sl.v717 x) 2 := col_sin (c1 h) (s1 h) (col_ca h) (col_sa h)
theorem c3 (h : Pts x P) : Cm P (coreRun.sl.v888 x) 3 := col_cos (c2 h) (s2 h) (col_ca h) (col_sa h)
theorem s3 (h : Pts x P) : Sm P (coreRun.sl.v891 x) 3 := col_sin (c2 h) (s2 h) (col_ca h) (col_sa h)
theorem c4 (h : Pts x P) : Cm P (coreRun.sl.v1038 x) 4 := col_cos (c3 h) (s3 h) (col_ca h) (col_sa h)
theorem s4 (h : Pts x P) : Sm P (coreRun.sl.v1041 x) 4 := col_sin (c3 h) (s3 h) (col_ca h) (col_sa h)
theorem c5 (h : Pts x P) : Cm P (coreRun.sl.v1164 x) 5 := col_cos (c4 h) (s4 h) (col_ca h) (col_sa h)
theorem s5 (h : Pts x P) : Sm P (coreRun.sl.v1167 x) 5 := col_sin (c4 h) (s4 h) (col_ca h) (col_sa h)
theorem c6 (h : Pts x P) : Cm P (coreRun.sl.v1264 x) 6 := col_cos (c5 h) (s5 h) (col_ca h) (col_sa h)
theorem s6 (h : Pts x P) : Sm P (coreRun.sl.v1267 x) 6 := col_sin (c5 h) (s5 h) (col_ca h) (col_sa h)
theorem c7 (h : Pts x P) : Cm P (coreRun.sl.v1340 x) 7 := col_cos (c6 h) (s6 h) (col_ca h) (col_sa h)
theorem s7 (h : Pts x P) : Sm P (coreRun.sl.v1343 x) 7 := col_sin (c6 h) (s6 h) (col_ca h) (col_sa h)

/-! ### The bands -/

/-- The harmonic at flat place `a` of the first point of row `r`. -/
abbrev val1 (P : Fin 256 → Fin 6 → ℝ) (a : ℕ) (r : Fin 256) : ℝ := val (P r 0) (P r 1) (P r 2) a

section Places

variable {u v : FVec Ideal S256x128 .f32} {a l m : ℕ}

theorem at_zero (hu : Yl P u l 0) (hl : lo a = l := by decide) (hm : mo a = 0 := by decide) : Col u (val1 P a) :=
  hu.to fun r => by rw [val1, val, hl, hm, ylm, trig, if_pos rfl, mul_one]; rfl

theorem at_pos (hu : Yl P u l m) (hv : Col v fun r => √2 * Real.cos (m * ph1 P r)) (hl : lo a = l := by decide)
    (hm : mo a = (m : ℤ) := by decide) (h0 : 0 < m := by decide) : Col (mulf u v) (val1 P a) :=
  (hu.mul hv).to fun r => by
    rw [val1, val, hl, hm, ylm, trig, if_neg (by omega), if_pos (by omega), Int.natAbs_natCast]

theorem at_neg (hu : Yl P u l m) (hv : Col v fun r => √2 * Real.sin (m * ph1 P r)) (hl : lo a = l := by decide)
    (hm : mo a = -(m : ℤ) := by decide) (h0 : 0 < m := by decide) : Col (mulf u v) (val1 P a) :=
  (hu.mul hv).to fun r => by
    rw [val1, val, hl, hm, ylm, trig, if_neg (by omega), if_neg (by omega), Int.natAbs_neg, Int.natAbs_natCast]

end Places

/-- What the slot reads: the first point's harmonic of the band times the second point's lane. -/
def prodG (P : Fin 256 → Fin 6 → ℝ) (w : FVec Ideal S256x81 .f32) : Vec Ideal S256x6561 .f32 := fun y =>
  ((val1 P ((y 1).val / 81) (y 0) : ℝ) : EReal) * w (ix2 (y 0) ⟨(y 1).val % 81, Nat.mod_lt _ (by decide)⟩)

theorem band (k : Fin k0_t1_loop.trips) (w : FVec Ideal S256x81 .f32) (a : Fin 81) {u : FVec Ideal S256x128 .f32} (hu : Col u (val1 P a))
    {hc : S256x81.ShapeCasts S256x81} (i : S256x81.Idx) :
    shapeCast S256x81 (mulf (extractStridedSlice S256x81 ![0, 0] u slices_S256x128_o0_0_S256x81) w) hc i = prodG P w ((bandR k a).emb i) := by
  have hb : (i 1).val < 81 := (i 1).isLt
  obtain ⟨e0, e1⟩ := bandR_emb k a i
  have h0 : ((bandR k a).emb i) 0 = i 0 := Fin.ext e0
  have h1 : (((bandR k a).emb i) 1).val / 81 = a.val := by omega
  have h2 : (⟨(((bandR k a).emb i) 1).val % 81, Nat.mod_lt _ (by decide)⟩ : Fin 81) = i 1 := Fin.ext (by show _ % 81 = _; omega)
  have hE : extractStridedSlice S256x81 ![0, 0] u slices_S256x128_o0_0_S256x81 i = ((val1 P a (i 0) : ℝ) : EReal) := by
    rw [← hu (i 0) ⟨(i 1).val, by omega⟩]
    refine congrArg u (funext fun d => Fin.ext ?_)
    match d with
    | ⟨0, _⟩ => exact Nat.zero_add _
    | ⟨1, _⟩ => exact Nat.zero_add _
  rw [shapeCast_id]
  show (extractStridedSlice S256x81 ![0, 0] u slices_S256x128_o0_0_S256x81 i : EReal) * w i = _
  unfold prodG
  rw [hE, h0, h1, h2]
  refine congrArg _ (congrArg w (funext fun d => ?_))
  match d with
  | ⟨0, _⟩ => rfl
  | ⟨1, _⟩ => rfl

theorem bands (h : Pts x P) (k : Fin k0_t1_loop.trips) (T : Vec Ideal S40x128 .f32) :
    ∀ p ∈ pieces k x T, ∀ i, p.2 i = prodG P (coreRun.sl.v350 x T) (p.1.emb i) := by
  refine List.forall_mem_cons.2 ⟨band k _ 64 (at_neg (y88 h) (col_root (col_sin (c7 h) (s7 h) (col_ca h) (col_sa h)))), ?_⟩
  refine List.forall_mem_cons.2 ⟨band k _ 80 (at_pos (y88 h) (col_root (col_cos (c7 h) (s7 h) (col_ca h) (col_sa h)))), ?_⟩
  refine List.forall_mem_cons.2 ⟨band k _ 65 (at_neg (y87 h) (col_root (s7 h))), ?_⟩
  refine List.forall_mem_cons.2 ⟨band k _ 79 (at_pos (y87 h) (col_root (c7 h))), ?_⟩
  refine List.forall_mem_cons.2 ⟨band k _ 49 (at_neg (y77 h) (col_root (s7 h))), ?_⟩
  refine List.forall_mem_cons.2 ⟨band k _ 63 (at_pos (y77 h) (col_root (c7 h))), ?_⟩
  refine List.forall_mem_cons.2 ⟨band k _ 66 (at_neg (y86 h) (col_root (s6 h))), ?_⟩
  refine List.forall_mem_cons.2 ⟨band k _ 78 (at_pos (y86 h) (col_root (c6 h))), ?_⟩
  refine List.forall_mem_cons.2 ⟨band k _ 50 (at_neg (y76 h) (col_root (s6 h))), ?_⟩
  refine List.forall_mem_cons.2 ⟨band k _ 62 (at_pos (y76 h) (col_root (c6 h))), ?_⟩
  refine List.forall_mem_cons.2 ⟨band k _ 36 (at_neg (y66 h) (col_root (s6 h))), ?_⟩
  refine List.forall_mem_cons.2 ⟨band k _ 48 (at_pos (y66 h) (col_root (c6 h))), ?_⟩
  refine List.forall_mem_cons.2 ⟨band k _ 67 (at_neg (y85 h) (col_root (s5 h))), ?_⟩
  refine List.forall_mem_cons.2 ⟨band k _ 77 (at_pos (y85 h) (col_root (c5 h))), ?_⟩
  refine List.forall_mem_cons.2 ⟨band k _ 51 (at_neg (y75 h) (col_root (s5 h))), ?_⟩
  refine List.forall_mem_cons.2 ⟨band k _ 61 (at_pos (y75 h) (col_root (c5 h))), ?_⟩
  refine List.forall_mem_cons.2 ⟨band k _ 37 (at_neg (y65 h) (col_root (s5 h))), ?_⟩
  refine List.forall_mem_cons.2 ⟨band k _ 47 (at_pos (y65 h) (col_root (c5 h))), ?_⟩
  refine List.forall_mem_cons.2 ⟨band k _ 25 (at_neg (y55 h) (col_root (s5 h))), ?_⟩
  refine List.forall_mem_cons.2 ⟨band k _ 35 (at_pos (y55 h) (col_root (c5 h))), ?_⟩
  refine List.forall_mem_cons.2 ⟨band k _ 68 (at_neg (y84 h) (col_root (s4 h))), ?_⟩
  refine List.forall_mem_cons.2 ⟨band k _ 76 (at_pos (y84 h) (col_root (c4 h))), ?_⟩
  refine List.forall_mem_cons.2 ⟨band k _ 52 (at_neg (y74 h) (col_root (s4 h))), ?_⟩
  refine List.forall_mem_cons.2 ⟨band k _ 60 (at_pos (y74 h) (col_root (c4 h))), ?_⟩
  refine List.forall_mem_cons.2 ⟨band k _ 38 (at_neg (y64 h) (col_root (s4 h))), ?_⟩
  refine List.forall_mem_cons.2 ⟨band k _ 46 (at_pos (y64 h) (col_root (c4 h))), ?_⟩
  refine List.forall_mem_cons.2 ⟨band k _ 26 (at_neg (y54 h) (col_root (s4 h))), ?_⟩
  refine List.forall_mem_cons.2 ⟨band k _ 34 (at_pos (y54 h) (col_root (c4 h))), ?_⟩
  refine List.forall_mem_cons.2 ⟨band k _ 16 (at_neg (y44 h) (col_root (s4 h))), ?_⟩
  refine List.forall_mem_cons.2 ⟨band k _ 24 (at_pos (y44 h) (col_root (c4 h))), ?_⟩
  refine List.forall_mem_cons.2 ⟨band k _ 69 (at_neg (y83 h) (col_root (s3 h))), ?_⟩
  refine List.forall_mem_cons.2 ⟨band k _ 75 (at_pos (y83 h) (col_root (c3 h))), ?_⟩
  refine List.forall_mem_cons.2 ⟨band k _ 53 (at_neg (y73 h) (col_root (s3 h))), ?_⟩
  refine List.forall_mem_cons.2 ⟨band k _ 59 (at_pos (y73 h) (col_root (c3 h))), ?_⟩
  refine List.forall_mem_cons.2 ⟨band k _ 39 (at_neg (y63 h) (col_root (s3 h))), ?_⟩
  refine List.forall_mem_cons.2 ⟨band k _ 45 (at_pos (y63 h) (col_root (c3 h))), ?_⟩
  refine List.forall_mem_cons.2 ⟨band k _ 27 (at_neg (y53 h) (col_root (s3 h))), ?_⟩
  refine List.forall_mem_cons.2 ⟨band k _ 33 (at_pos (y53 h) (col_root (c3 h))), ?_⟩
  refine List.forall_mem_cons.2 ⟨band k _ 17 (at_neg (y43 h) (col_root (s3 h))), ?_⟩
  refine List.forall_mem_cons.2 ⟨band k _ 23 (at_pos (y43 h) (col_root (c3 h))), ?_⟩
  refine List.forall_mem_cons.2 ⟨band k _ 9 (at_neg (y33 h) (col_root (s3 h))), ?_⟩
  refine List.forall_mem_cons.2 ⟨band k _ 15 (at_pos (y33 h) (col_root (c3 h))), ?_⟩
  refine List.forall_mem_cons.2 ⟨band k _ 70 (at_neg (y82 h) (col_root (s2 h))), ?_⟩
  refine List.forall_mem_cons.2 ⟨band k _ 74 (at_pos (y82 h) (col_root (c2 h))), ?_⟩
  refine List.forall_mem_cons.2 ⟨band k _ 54 (at_neg (y72 h) (col_root (s2 h))), ?_⟩
  refine List.forall_mem_cons.2 ⟨band k _ 58 (at_pos (y72 h) (col_root (c2 h))), ?_⟩
  refine List.forall_mem_cons.2 ⟨band k _ 40 (at_neg (y62 h) (col_root (s2 h))), ?_⟩
  refine List.forall_mem_cons.2 ⟨band k _ 44 (at_pos (y62 h) (col_root (c2 h))), ?_⟩
  refine List.forall_mem_cons.2 ⟨band k _ 28 (at_neg (y52 h) (col_root (s2 h))), ?_⟩
  refine List.forall_mem_cons.2 ⟨band k _ 32 (at_pos (y52 h) (col_root (c2 h))), ?_⟩
  refine List.forall_mem_cons.2 ⟨band k _ 18 (at_neg (y42 h) (col_root (s2 h))), ?_⟩
  refine List.forall_mem_cons.2 ⟨band k _ 22 (at_pos (y42 h) (col_root (c2 h))), ?_⟩
  refine List.forall_mem_cons.2 ⟨band k _ 10 (at_neg (y32 h) (col_root (s2 h))), ?_⟩
  refine List.forall_mem_cons.2 ⟨band k _ 14 (at_pos (y32 h) (col_root (c2 h))), ?_⟩
  refine List.forall_mem_cons.2 ⟨band k _ 4 (at_neg (y22 h) (col_root (s2 h))), ?_⟩
  refine List.forall_mem_cons.2 ⟨band k _ 8 (at_pos (y22 h) (col_root (c2 h))), ?_⟩
  refine List.forall_mem_cons.2 ⟨band k _ 71 (at_neg (y81 h) (col_root (s1 h))), ?_⟩
  refine List.forall_mem_cons.2 ⟨band k _ 73 (at_pos (y81 h) (col_root (c1 h))), ?_⟩
  refine List.forall_mem_cons.2 ⟨band k _ 55 (at_neg (y71 h) (col_root (s1 h))), ?_⟩
  refine List.forall_mem_cons.2 ⟨band k _ 57 (at_pos (y71 h) (col_root (c1 h))), ?_⟩
  refine List.forall_mem_cons.2 ⟨band k _ 41 (at_neg (y61 h) (col_root (s1 h))), ?_⟩
  refine List.forall_mem_cons.2 ⟨band k _ 43 (at_pos (y61 h) (col_root (c1 h))), ?_⟩
  refine List.forall_mem_cons.2 ⟨band k _ 29 (at_neg (y51 h) (col_root (s1 h))), ?_⟩
  refine List.forall_mem_cons.2 ⟨band k _ 31 (at_pos (y51 h) (col_root (c1 h))), ?_⟩
  refine List.forall_mem_cons.2 ⟨band k _ 19 (at_neg (y41 h) (col_root (s1 h))), ?_⟩
  refine List.forall_mem_cons.2 ⟨band k _ 21 (at_pos (y41 h) (col_root (c1 h))), ?_⟩
  refine List.forall_mem_cons.2 ⟨band k _ 11 (at_neg (y31 h) (col_root (s1 h))), ?_⟩
  refine List.forall_mem_cons.2 ⟨band k _ 13 (at_pos (y31 h) (col_root (c1 h))), ?_⟩
  refine List.forall_mem_cons.2 ⟨band k _ 5 (at_neg (y21 h) (col_root (s1 h))), ?_⟩
  refine List.forall_mem_cons.2 ⟨band k _ 7 (at_pos (y21 h) (col_root (c1 h))), ?_⟩
  refine List.forall_mem_cons.2 ⟨band k _ 1 (at_neg (y11 h) (col_root (s1 h))), ?_⟩
  refine List.forall_mem_cons.2 ⟨band k _ 3 (at_pos (y11 h) (col_root (c1 h))), ?_⟩
  refine List.forall_mem_cons.2 ⟨band k _ 72 (at_zero (l := 8) (col_rec (col_ups lit_eight (col_ct h) (y70 h)) (col_backs lit_sixteen (y60 h)))), ?_⟩
  refine List.forall_mem_cons.2 ⟨band k _ 56 (at_zero (y70 h)), ?_⟩
  refine List.forall_mem_cons.2 ⟨band k _ 42 (at_zero (y60 h)), ?_⟩
  refine List.forall_mem_cons.2 ⟨band k _ 30 (at_zero (y50 h)), ?_⟩
  refine List.forall_mem_cons.2 ⟨band k _ 20 (at_zero (y40 h)), ?_⟩
  refine List.forall_mem_cons.2 ⟨band k _ 12 (at_zero (y30 h)), ?_⟩
  refine List.forall_mem_cons.2 ⟨band k _ 6 (at_zero (y20 h)), ?_⟩
  refine List.forall_mem_cons.2 ⟨band k _ 2 (at_zero (y10 h)), ?_⟩
  refine List.forall_mem_cons.2 ⟨band k _ 0 (at_zero y00), ?_⟩
  exact List.forall_mem_nil _

/-- The tile holds the products of the two points' values. -/
theorem tile_eq_prod (h : Pts x P) (k : Fin k0_t1_loop.trips) (T : Vec Ideal S40x128 .f32) :
    tile k x T = prodG P (coreRun.sl.v350 x T) := by
  funext y
  exact View.read_writes_apply_of_pieces _ _ _ _ (bands h k T) y (pieces_cover k x T y)

end Cert.Proof.KV

end
-- ==== Proof.VPre.lean ====
/-
  What the precondition says of the argument: every coordinate is a real number and neither point of a row is the origin.
-/
module

public import proofs.«01_k».proof.Proof.VRefB
public import proofs.«01_k».proof.Proof.VIsTab
public import proofs.«01_k».proof.Proof.VBand
public import proofs.«01_k».proof.Pre_proper_points

@[expose] public section

noncomputable section

namespace Cert.Proof.Pre

open Idealize.ShloMosaic
open Cert.Pre_proper_points

/-- Not zero. -/
abbrev nz (a : EReal) : BitVec 1 := Ideal.cmp .une a (Ideal.ofBits .f32 0x00000000#32)
/-- Finite. -/
abbrev fin (a : EReal) : BitVec 1 := Ideal.cmp .olt (max a (-a)) (Ideal.ofBits .f32 0x7F800000#32)

theorem row_at [Facts] (x : FVec Ideal S32768x6 .f32) (r : Fin 32768) : fn (F := Ideal) x (ix1 r)
    = (((nz (x (ix2 r 0)) ||| nz (x (ix2 r 1))) ||| nz (x (ix2 r 2))) &&& ((fin (x (ix2 r 0)) &&& fin (x (ix2 r 1))) &&& fin (x (ix2 r 2))))
      &&& (((nz (x (ix2 r 3)) ||| nz (x (ix2 r 4))) ||| nz (x (ix2 r 5))) &&& ((fin (x (ix2 r 3)) &&& fin (x (ix2 r 4))) &&& fin (x (ix2 r 5)))) := by
  unfold fn fn_part1
  pointwise
  rfl

theorem and_one (a b : BitVec 1) : a &&& b = 1#1 ↔ a = 1#1 ∧ b = 1#1 := by decide +revert
theorem or_one (a b : BitVec 1) : a ||| b = 1#1 ↔ a = 1#1 ∨ b = 1#1 := by decide +revert

theorem nz_iff (a : EReal) : nz a = 1#1 ↔ a ≠ 0 := by
  show BitVec.ofBool (decide (a ≠ Ideal.ofBits .f32 0x00000000#32)) = 1#1 ↔ a ≠ 0
  rw [Ideal.ofBits_zero_f32]
  by_cases h : a = 0 <;> simp [h]

theorem inf : Ideal.ofBits .f32 0x7F800000#32 = ⊤ := by simp [Ideal.ofBits, Ideal.ieee]

theorem fin_real (a : EReal) (h : fin a = 1#1) : a = ((a.toReal : ℝ) : EReal) := by
  have h1 : max a (-a) < ⊤ := by
    by_contra hc
    have e : fin a = BitVec.ofBool (decide (max a (-a) < Ideal.ofBits .f32 0x7F800000#32)) := rfl
    rw [e, inf, decide_eq_false hc] at h
    exact absurd h (by decide)
  induction a with
  | bot => simp at h1
  | top => simp at h1
  | coe v => rfl

theorem real_ne {a : EReal} (h : fin a = 1#1) (hn : nz a = 1#1) : a.toReal ≠ 0 := fun h0 => by
  have e := fin_real a h
  rw [h0] at e
  exact (nz_iff a).mp hn e

/-- The numbers behind the argument. -/
def num (x : Vec Ideal S32768x6 .f32) (r : Fin 32768) (q : Fin 6) : ℝ := (x (ix2 r q)).toReal

theorem pts [Facts] {x : FVec Ideal S32768x6 .f32} (h : fn (F := Ideal) x = fun _ => 1#1) : RV.Pts x (num x) := by
  have hr : ∀ r, _ := fun r => (row_at x r).symm.trans (congrFun h (ix1 r))
  simp only [and_one, or_one] at hr
  refine ⟨fun r q => ?_, fun r => ?_, fun r => ?_⟩
  · obtain ⟨⟨-, ⟨f0, f1⟩, f2⟩, -, ⟨f3, f4⟩, f5⟩ := hr r
    fin_cases q
    exacts [fin_real _ f0, fin_real _ f1, fin_real _ f2, fin_real _ f3, fin_real _ f4, fin_real _ f5]
  · obtain ⟨⟨n, ⟨f0, f1⟩, f2⟩, -⟩ := hr r
    exact n.elim (fun n => n.elim (fun n => .inl (real_ne f0 n)) fun n => .inr (.inl (real_ne f1 n))) fun n => .inr (.inr (real_ne f2 n))
  · obtain ⟨-, n, ⟨f3, f4⟩, f5⟩ := hr r
    exact n.elim (fun n => n.elim (fun n => .inl (real_ne f3 n)) fun n => .inr (.inl (real_ne f4 n))) fun n => .inr (.inr (real_ne f5 n))

end Cert.Proof.Pre

end
-- ==== Proof.VFinal.lean ====
/-
  Both results are the products of the harmonics of the two points of a row.
-/
module

public import proofs.«01_k».proof.Proof.VPre
public import proofs.«01_k».proof.Proof.ILaunch

@[expose] public section

noncomputable section

namespace Cert.Proof.Both

open Idealize.ShloMosaic Idealize.ShloMosaic.TcCoe
open Idealize.SL Idealize.SL.Sem
open Cert.Proof.Scal
open Cert.KernelIdeal (S256x6 S256x6561 S32768x6 S32768x6561 k0_t1_loop)

/-- The harmonics' products: column `81 a + j` is the first point's `a` times the second's `j`. -/
def prods (P : Fin 32768 → Fin 6 → ℝ) : Vec Ideal S32768x6561 .f32 := fun y =>
  ((val (P (y 0) 0) (P (y 0) 1) (P (y 0) 2) ((y 1).val / 81) : ℝ) : EReal) * ((val (P (y 0) 3) (P (y 0) 4) (P (y 0) 5) ((y 1).val % 81) : ℝ) : EReal)

/-- The numbers of one block of 256 rows. -/
def blockP (P : Fin 32768 → Fin 6 → ℝ) (q : ℕ) (hq : q < 128) : Fin 256 → Fin 6 → ℝ := fun r => P ⟨256 * q + r.val, by omega⟩

theorem block_pts {X : Vec Ideal S32768x6 .f32} {P : Fin 32768 → Fin 6 → ℝ} (h : RV.Pts X P) (q : ℕ) (hq : q < 128) :
    KV.Pts (KI.xrows X q hq) (blockP P q hq) where
  val r c := by
    have e : KI.xrows X q hq (ix2 r c) = X (ix2 ⟨256 * q + r.val, by omega⟩ c) := by
      unfold KI.xrows
      congr 1
      funext d
      match d with
      | ⟨0, _⟩ => rfl
      | ⟨1, _⟩ => rfl
    rw [e, h.val]
    rfl
  one r := h.one _
  two r := h.two _

theorem kernel_prods {X : Vec Ideal S32768x6 .f32} {P : Fin 32768 → Fin 6 → ℝ} (h : RV.Pts X P) : KI.outG X KV.tab = prods P := by
  funext y
  have hy0 : (y 0).val < 32768 := (y 0).isLt
  have hy1 : (y 1).val < 6561 := (y 1).isLt
  refine (congrFun (KV.tile_eq_prod (block_pts h ((y 0).val / 256) (by omega)) ⟨(y 0).val / 256 % 64, by rw [KI.trips_eq]; omega⟩ KV.tab)
    (KI.tix ((y 0).val % 256) (y 1).val (by omega) hy1)).trans ?_
  have hrow : ∀ w, (⟨256 * ((y 0).val / 256) + (y 0).val % 256, w⟩ : Fin 32768) = y 0 := fun w => Fin.ext (Nat.div_add_mod _ _)
  have hl := KV.lanes (block_pts h ((y 0).val / 256) (by omega)) KV.isTab ⟨(y 0).val % 256, Nat.mod_lt _ (by decide)⟩ ⟨(y 1).val % 81, Nat.mod_lt _ (by decide)⟩
  refine (congrArg₂ (· * ·) rfl hl).trans ?_
  simp only [KV.val1, blockP, KI.tix]
  unfold prods
  rw [hrow]

theorem reference_prods {V : Valuation Cert.ReferenceIdeal.τ Cert.ReferenceIdeal.sig (Elt Ideal)} {P : Fin 32768 → Fin 6 → ℝ} (h : RV.Pts (RV.X V) P) :
    RV.outer (Cert.ReferenceIdeal.Value.res_main_v334 V) = prods P := by
  funext y
  have hy1 : (y 1).val < 6561 := (y 1).isLt
  have hix : y = ix2 (y 0) (y 1) := by
    funext d
    match d with
    | ⟨0, _⟩ => rfl
    | ⟨1, _⟩ => rfl
  have e := (RV.outer_at (Cert.ReferenceIdeal.Value.res_main_v334 V) (y 0) (y 1)).trans
    (congrArg₂ (· * ·) (RV.v334_at h (y 0) 0 ⟨(y 1).val / 81, by omega⟩) (RV.v334_at h (y 0) 1 ⟨(y 1).val % 81, by omega⟩))
  exact (congrArg (RV.outer (Cert.ReferenceIdeal.Value.res_main_v334 V)) hix).trans e

end Cert.Proof.Both

end
-- ==== Proof.lean ====
/-
  The claim: the kernel's and its idealization's frames from their runs, the reference's from its host operations, the
  named constants, and the equality of the two results.
-/
module

public import proofs.«01_k».proof.Defs
public import proofs.«01_k».proof.Proof.Gen.Pre_proper_points
public import proofs.«01_k».proof.Proof.Gen.ReferenceIdeal.Run
public import proofs.«01_k».proof.Proof.KLaunch
public import proofs.«01_k».proof.Proof.ILaunch
public import proofs.«01_k».proof.Proof.Named
public import proofs.«01_k».proof.Proof.VFinal

@[expose] public section

noncomputable section

namespace Cert.Proof

open Idealize.ShloMosaic Idealize.ShloMosaic.TcCoe
open Idealize.SL Idealize.SL.Sem

theorem frame_k : Cert.quiescent_Kernel := fun m g _ =>
  (θ_run _ _ _).mono (fun _ h => ⟨fun c => (h.1 c).2, h.2⟩) (K.run (F := Bits) m g)

theorem frame_ki : Cert.quiescent_KernelIdeal := fun m g _ =>
  (θ_run _ _ _).mono (fun _ h => ⟨fun c => (h.1 c).2, h.2⟩) (KI.run (F := Ideal) m g)

/-- The reference declares no semaphore, so its counters are zero throughout. -/
theorem frame_ri : Cert.quiescent_ReferenceIdeal := fun m g _ =>
  (θ_run _ _ _).mono (fun r h => ⟨fun c => (h c).2, sem_eq_zero_of_no_sems (by decide) r.2⟩) (Cert.ReferenceIdeal.Value.run (F := Ideal) m g)

/-- On points that have a direction, the kernel's idealization and the reference end with the same products. -/
theorem algebraic : Cert.algebraic_KernelIdeal_ReferenceIdeal_pre_proper_points := by
  intro m g m' g' hpre hargs
  have hx := fun c => Pre.pts (hpre c)
  refine ⟨fun c => Both.prods (Pre.num (m ((c.tc : Thread Cert.KernelIdeal.nD Cert.KernelIdeal.τ).loc Cert.KernelIdeal.main_arg0))), ?_, ?_⟩
  · refine (θ_run _ _ _).mono (fun _ h c => ⟨(h.1 c).1.trans ?_, (h.1 c).2⟩) (KI.run (F := Ideal) m g)
    show KI.outG (KI.V m c Cert.KernelIdeal.main_arg0) (KI.V m c Cert.KernelIdeal.main_call0_v80) = _
    rw [KI.V_main_arg0, KV.tab_eq]
    exact Both.kernel_prods (hx c)
  · refine (θ_run _ _ _).mono (fun _ h c => ⟨(h c).1.trans ?_, (h c).2⟩) (Cert.ReferenceIdeal.Value.run (F := Ideal) m' g')
    refine Both.reference_prods ?_
    show RV.Pts (m' ((c.tc : Thread Cert.ReferenceIdeal.nD Cert.ReferenceIdeal.τ).loc Cert.ReferenceIdeal.main_arg0)) _
    rw [hargs c]
    exact hx c

theorem claim : Cert.Claim :=
  ⟨Cert.Kernel.Gen.facts, Cert.KernelIdeal.Gen.facts, Cert.ReferenceIdeal.Gen.facts, Cert.Pre_proper_points.Gen.facts, frame_k, frame_ki,
    fun m g _ => frame_ki m g trivial, frame_ri, fun m g _ => frame_ri m g trivial, preserves, algebraic⟩

end Cert.Proof

end
